-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_KernelIdeal [hPre_within_KernelIdeal : Cert.Pre_within_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_ReferenceIdeal [hPre_within_ReferenceIdeal : Cert.Pre_within_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_KernelIdeal [hKernelIdeal : Cert.KernelIdeal.Facts] [hPre_within_KernelIdeal : Cert.Pre_within_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_ReferenceIdeal [hReferenceIdeal : Cert.ReferenceIdeal.Facts] [hPre_within_ReferenceIdeal : Cert.Pre_within_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v10) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_pre_within_KernelIdeal [hKernelIdeal : Cert.KernelIdeal.Facts] [hReferenceIdeal : Cert.ReferenceIdeal.Facts] [hPre_within_KernelIdeal : Cert.Pre_within_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_KernelIdeal : Cert.Pre_within_KernelIdeal.Facts) (hPre_within_ReferenceIdeal : Cert.Pre_within_ReferenceIdeal.Facts),
    quiescent_Kernel (hKernel := hKernel)
    ∧ quiescent_KernelIdeal (hKernelIdeal := hKernelIdeal)
    ∧ quiescent_KernelIdeal_pre_within_KernelIdeal (hKernelIdeal := hKernelIdeal) (hPre_within_KernelIdeal := hPre_within_KernelIdeal)
    ∧ quiescent_ReferenceIdeal (hReferenceIdeal := hReferenceIdeal)
    ∧ quiescent_ReferenceIdeal_pre_within_ReferenceIdeal (hReferenceIdeal := hReferenceIdeal) (hPre_within_ReferenceIdeal := hPre_within_ReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_pre_within_KernelIdeal (hKernelIdeal := hKernelIdeal) (hReferenceIdeal := hReferenceIdeal) (hPre_within_KernelIdeal := hPre_within_KernelIdeal)
-- ==== Pre_within_KernelIdeal.lean ====
abbrev S8192x512 : Shape := ⟨2, ![8192, 512]⟩
abbrev S512x4096 : Shape := ⟨2, ![512, 4096]⟩
abbrev S8192x4096 : Shape := ⟨2, ![8192, 4096]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x512_S512x4096_S8192x4096_1_0_0_1_n_n_wf : DotDims.WF S8192x512 S512x4096 S8192x4096 [1] [0] [0] [1] [] []

variable [Facts]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def fn {F : FTy → Type} [FloatOps F] (main_arg0 : FVec F S8192x512 .bf16) (main_arg1 : FVec F S512x4096 .bf16) : IVec S_ 1 :=
  let main_v0 : FVec F S8192x512 .f32 := (extf .f32 · bitsLt_bf16_f32) main_arg0
  let main_v1 : FVec F S512x4096 .f32 := (extf .f32 · bitsLt_bf16_f32) main_arg1
  let main_v2 : FVec F S8192x4096 .f32 := (fun l r => Host.dotGeneral dot_S8192x512_S512x4096_S8192x4096_1_0_0_1_n_n none l r) main_v0 main_v1
  let main_v3 : FVec F S8192x4096 .f32 := Host.absf main_v2
  let main_cst : FVec F S_ .f32 := constant S_ .f32 0x40700000#32
  let main_v4 : FVec F S8192x4096 .f32 := broadcastInDim S8192x4096 ![] bcast_S_S8192x4096 main_cst
  let main_v5 : IVec S8192x4096 1 := cmpf .ole main_v3 main_v4
  let main_c : IVec S_ 1 := constantI S_ 1 1#1
  let main_v6 : IVec S_ 1 := (fun x v => Host.reduce IntOp.andi x v reducesTo_S8192x4096_S_d0_1 h_S_) main_v5 main_c
  main_v6
-- ==== Pre_within_ReferenceIdeal.lean ====
abbrev S8192x8192 : Shape := ⟨2, ![8192, 8192]⟩
abbrev S8192x4096 : Shape := ⟨2, ![8192, 4096]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .bf16) (main_arg1 : FVec F S8192x4096 .bf16) : IVec S_ 1 :=
  let main_v0 : FVec F S8192x8192 .f32 := (extf .f32 · bitsLt_bf16_f32) main_arg0
  let main_v1 : FVec F S8192x4096 .f32 := (extf .f32 · bitsLt_bf16_f32) main_arg1
  let main_v2 : FVec F S8192x4096 .f32 := (fun l r => Host.dotGeneral dot_S8192x8192_S8192x4096_S8192x4096_1_0_0_1_n_n none l r) main_v0 main_v1
  let main_v3 : FVec F S8192x4096 .f32 := Host.absf main_v2
  let main_cst : FVec F S_ .f32 := constant S_ .f32 0x40700000#32
  let main_v4 : FVec F S8192x4096 .f32 := broadcastInDim S8192x4096 ![] bcast_S_S8192x4096 main_cst
  let main_v5 : IVec S8192x4096 1 := cmpf .ole main_v3 main_v4
  let main_c : IVec S_ 1 := constantI S_ 1 1#1
  let main_v6 : IVec S_ 1 := (fun x v => Host.reduce IntOp.andi x v reducesTo_S8192x4096_S_d0_1 h_S_) main_v5 main_c
  main_v6
-- ==== Kernel.lean ====
abbrev S8192x512 : Shape := ⟨2, ![8192, 512]⟩
abbrev S512x4096 : Shape := ⟨2, ![512, 4096]⟩
abbrev S8192x4096 : Shape := ⟨2, ![8192, 4096]⟩
abbrev S2x512x1024 : Shape := ⟨3, ![2, 512, 1024]⟩
abbrev S2 : Shape := ⟨1, ![2]⟩
abbrev S_ : Shape := ⟨0, ![]⟩
abbrev S512x512 : Shape := ⟨2, ![512, 512]⟩
abbrev S512x1024 : Shape := ⟨2, ![512, 1024]⟩
abbrev S1x512x1024 : Shape := ⟨3, ![1, 512, 1024]⟩
abbrev S1 : Shape := ⟨1, ![1]⟩

abbrev nBuf : Space → Nat
  | .hbm => 3
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x4096, .bf16⟩
  | .local _ .vmem, ⟨0, _⟩ => ⟨S8192x512, .bf16⟩
  | .local _ .vmem, ⟨1, _⟩ => ⟨S512x4096, .bf16⟩
  | .local _ .vmem, ⟨2, _⟩ => ⟨S2x512x1024, .bf16⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S2x512x1024, .bf16⟩
  | .local _ .vmem, ⟨7, _⟩ => ⟨S2x512x1024, .bf16⟩
  | .local _ .vmem, ⟨8, _⟩ => ⟨S2x512x1024, .bf16⟩
  | .local _ .vmem, ⟨9, _⟩ => ⟨S2x512x1024, .bf16⟩
  | .local _ .vmem, ⟨10, _⟩ => ⟨S2x512x1024, .bf16⟩
  | .local _ .vmem, ⟨11, _⟩ => ⟨S2x512x1024, .bf16⟩
  | .local _ .vmem, ⟨12, _⟩ => ⟨S2x512x1024, .bf16⟩
  | .local _ .vmem, ⟨13, _⟩ => ⟨S2x512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => true
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 10 30 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch9 : Ref sig .tc := ⟨.vmem, 5, rfl⟩
abbrev cc0_scratch10 : Ref sig .tc := ⟨.vmem, 6, rfl⟩
abbrev cc0_scratch11 : Ref sig .tc := ⟨.vmem, 7, rfl⟩
abbrev cc0_scratch18 : Ref sig .tc := ⟨.vmem, 8, rfl⟩
abbrev cc0_scratch19 : Ref sig .tc := ⟨.vmem, 9, rfl⟩
abbrev cc0_scratch20 : Ref sig .tc := ⟨.vmem, 10, rfl⟩
abbrev cc0_scratch27 : Ref sig .tc := ⟨.vmem, 11, rfl⟩
abbrev cc0_scratch28 : Ref sig .tc := ⟨.vmem, 12, rfl⟩
abbrev cc0_scratch29 : Ref sig .tc := ⟨.vmem, 13, rfl⟩
abbrev cc0_sem0_0 : DmaSem sig := 0
abbrev cc0_sem1_0 : DmaSem sig := 1
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v13 : BitVec 32 := Scalar.muli v2 c512_i32
  let v14 : Index := Scalar.indexCast v13
  let c0 : Index := 0#32
  ![v14.toNat, 0]
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_40 : BitVec 32 := 1#32
  let v57 : BitVec 32 := Scalar.muli v7 c1_i32_40
  let v58 : BitVec 32 := Scalar.addi c0_i32_41 v57
  v58.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_50 : BitVec 32 := 1#32
  let v67 : BitVec 32 := Scalar.muli v5 c1_i32_50
  let v68 : BitVec 32 := Scalar.addi c0_i32_51 v67
  v68.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_60 : BitVec 32 := 1#32
  let v77 : BitVec 32 := Scalar.muli v7 c1_i32_60
  let v78 : BitVec 32 := Scalar.addi c0_i32_61 v77
  v78.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_70 : BitVec 32 := 1#32
  let v87 : BitVec 32 := Scalar.muli v5 c1_i32_70
  let v88 : BitVec 32 := Scalar.addi c0_i32_71 v87
  v88.toNat
def k0_off2 (d0 : Dev nD) (c1_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v97 : BitVec 32 := Scalar.addi v2 c32_i32
  let v98 : BitVec 32 := Scalar.subi v97 c1_i32_76
  let c16_i32_77 : BitVec 32 := 16#32
  let v99 : BitVec 32 := Scalar.remsi v98 c16_i32_77
  let c512_i32_86 : BitVec 32 := 512#32
  let v109 : BitVec 32 := Scalar.muli v99 c512_i32_86
  let v110 : Index := Scalar.indexCast v109
  let c0_87 : Index := 0#32
  ![v110.toNat, 0]
def k0_off2_at (r : Fin 30) : BitVec 32 :=
  if r.val < 15 then
    if r.val < 7 then
      if r.val < 3 then
        if r.val < 1 then
          1#32
        else
          if r.val < 2 then
            4294967295#32
          else
            2#32
      else
        if r.val < 5 then
          if r.val < 4 then
            4294967294#32
          else
            3#32
        else
          if r.val < 6 then
            4294967293#32
          else
            4#32
    else
      if r.val < 11 then
        if r.val < 9 then
          if r.val < 8 then
            4294967292#32
          else
            5#32
        else
          if r.val < 10 then
            4294967291#32
          else
            6#32
      else
        if r.val < 13 then
          if r.val < 12 then
            4294967290#32
          else
            7#32
        else
          if r.val < 14 then
            4294967289#32
          else
            8#32
  else
    if r.val < 22 then
      if r.val < 18 then
        if r.val < 16 then
          4294967288#32
        else
          if r.val < 17 then
            9#32
          else
            4294967287#32
      else
        if r.val < 20 then
          if r.val < 19 then
            10#32
          else
            4294967286#32
        else
          if r.val < 21 then
            11#32
          else
            4294967285#32
    else
      if r.val < 26 then
        if r.val < 24 then
          if r.val < 23 then
            12#32
          else
            4294967284#32
        else
          if r.val < 25 then
            13#32
          else
            4294967283#32
      else
        if r.val < 28 then
          if r.val < 27 then
            14#32
          else
            4294967282#32
        else
          if r.val < 29 then
            15#32
          else
            4294967281#32
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_122 : BitVec 32 := 1#32
  let v153 : BitVec 32 := Scalar.muli v5 c1_i32_122
  let v154 : BitVec 32 := Scalar.addi c0_i32_123 v153
  v154.toNat
def k0_dev8 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_141 : BitVec 32 := 1#32
  let v171 : BitVec 32 := Scalar.muli v7 c1_i32_141
  let v172 : BitVec 32 := Scalar.addi c0_i32_142 v171
  v172.toNat
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_160 : BitVec 32 := 1#32
  let v189 : BitVec 32 := Scalar.muli v5 c1_i32_160
  let v190 : BitVec 32 := Scalar.addi c0_i32_161 v189
  v190.toNat
def k0_dev10 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_179 : BitVec 32 := 1#32
  let v207 : BitVec 32 := Scalar.muli v7 c1_i32_179
  let v208 : BitVec 32 := Scalar.addi c0_i32_180 v207
  v208.toNat
def k0_dev11 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_185 : BitVec 32 := 1#32
  let v209 : BitVec 32 := Scalar.muli v7 c1_i32_185
  let v210 : BitVec 32 := Scalar.addi c0_i32_186 v209
  v210.toNat
def k0_dev12 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_195 : BitVec 32 := 1#32
  let v219 : BitVec 32 := Scalar.muli v5 c1_i32_195
  let v220 : BitVec 32 := Scalar.addi c0_i32_196 v219
  v220.toNat
def k0_dev13 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_205 : BitVec 32 := 1#32
  let v229 : BitVec 32 := Scalar.muli v7 c1_i32_205
  let v230 : BitVec 32 := Scalar.addi c0_i32_206 v229
  v230.toNat
def k0_dev14 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_215 : BitVec 32 := 1#32
  let v239 : BitVec 32 := Scalar.muli v5 c1_i32_215
  let v240 : BitVec 32 := Scalar.addi c0_i32_216 v239
  v240.toNat
def k0_dev15 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_278 : BitVec 32 := 1#32
  let v311 : BitVec 32 := Scalar.muli v5 c1_i32_278
  let v312 : BitVec 32 := Scalar.addi c0_i32_279 v311
  v312.toNat
def k0_dev16 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_306 : BitVec 32 := 1#32
  let v335 : BitVec 32 := Scalar.muli v7 c1_i32_306
  let v336 : BitVec 32 := Scalar.addi c0_i32_307 v335
  v336.toNat
def k0_dev17 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_334 : BitVec 32 := 1#32
  let v359 : BitVec 32 := Scalar.muli v5 c1_i32_334
  let v360 : BitVec 32 := Scalar.addi c0_i32_335 v359
  v360.toNat
def k0_dev18 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_362 : BitVec 32 := 1#32
  let v383 : BitVec 32 := Scalar.muli v7 c1_i32_362
  let v384 : BitVec 32 := Scalar.addi c0_i32_363 v383
  v384.toNat
def k0_dev19 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_376 : BitVec 32 := 1#32
  let v385 : BitVec 32 := Scalar.muli v7 c1_i32_376
  let v386 : BitVec 32 := Scalar.addi c0_i32_377 v385
  v386.toNat
def k0_dev20 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_386 : BitVec 32 := 1#32
  let v395 : BitVec 32 := Scalar.muli v5 c1_i32_386
  let v396 : BitVec 32 := Scalar.addi c0_i32_387 v395
  v396.toNat
def k0_dev21 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_396 : BitVec 32 := 1#32
  let v405 : BitVec 32 := Scalar.muli v7 c1_i32_396
  let v406 : BitVec 32 := Scalar.addi c0_i32_397 v405
  v406.toNat
def k0_dev22 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_406 : BitVec 32 := 1#32
  let v415 : BitVec 32 := Scalar.muli v5 c1_i32_406
  let v416 : BitVec 32 := Scalar.addi c0_i32_407 v415
  v416.toNat
def k0_dev23 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_468 : BitVec 32 := 1#32
  let v487 : BitVec 32 := Scalar.muli v5 c1_i32_468
  let v488 : BitVec 32 := Scalar.addi c0_i32_469 v487
  v488.toNat
def k0_dev24 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_496 : BitVec 32 := 1#32
  let v511 : BitVec 32 := Scalar.muli v7 c1_i32_496
  let v512 : BitVec 32 := Scalar.addi c0_i32_497 v511
  v512.toNat
def k0_dev25 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_524 : BitVec 32 := 1#32
  let v535 : BitVec 32 := Scalar.muli v5 c1_i32_524
  let v536 : BitVec 32 := Scalar.addi c0_i32_525 v535
  v536.toNat
def k0_dev26 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_552 : BitVec 32 := 1#32
  let v559 : BitVec 32 := Scalar.muli v7 c1_i32_552
  let v560 : BitVec 32 := Scalar.addi c0_i32_553 v559
  v560.toNat
def k0_dev27 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_566 : BitVec 32 := 1#32
  let v561 : BitVec 32 := Scalar.muli v7 c1_i32_566
  let v562 : BitVec 32 := Scalar.addi c0_i32_567 v561
  v562.toNat
def k0_dev28 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_576 : BitVec 32 := 1#32
  let v571 : BitVec 32 := Scalar.muli v5 c1_i32_576
  let v572 : BitVec 32 := Scalar.addi c0_i32_577 v571
  v572.toNat
def k0_dev29 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_586 : BitVec 32 := 1#32
  let v581 : BitVec 32 := Scalar.muli v7 c1_i32_586
  let v582 : BitVec 32 := Scalar.addi c0_i32_587 v581
  v582.toNat
def k0_dev30 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_596 : BitVec 32 := 1#32
  let v591 : BitVec 32 := Scalar.muli v5 c1_i32_596
  let v592 : BitVec 32 := Scalar.addi c0_i32_597 v591
  v592.toNat
def k0_dev31 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_658 : BitVec 32 := 1#32
  let v663 : BitVec 32 := Scalar.muli v5 c1_i32_658
  let v664 : BitVec 32 := Scalar.addi c0_i32_659 v663
  v664.toNat
def k0_dev32 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_686 : BitVec 32 := 1#32
  let v687 : BitVec 32 := Scalar.muli v7 c1_i32_686
  let v688 : BitVec 32 := Scalar.addi c0_i32_687 v687
  v688.toNat
def k0_dev33 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_714 : BitVec 32 := 1#32
  let v711 : BitVec 32 := Scalar.muli v5 c1_i32_714
  let v712 : BitVec 32 := Scalar.addi c0_i32_715 v711
  v712.toNat
def k0_dev34 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_742 : BitVec 32 := 1#32
  let v735 : BitVec 32 := Scalar.muli v7 c1_i32_742
  let v736 : BitVec 32 := Scalar.addi c0_i32_743 v735
  v736.toNat
def k0_dev35 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_756 : BitVec 32 := 1#32
  let v737 : BitVec 32 := Scalar.muli v7 c1_i32_756
  let v738 : BitVec 32 := Scalar.addi c0_i32_757 v737
  v738.toNat
def k0_dev36 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_766 : BitVec 32 := 1#32
  let v747 : BitVec 32 := Scalar.muli v5 c1_i32_766
  let v748 : BitVec 32 := Scalar.addi c0_i32_767 v747
  v748.toNat
def k0_dev37 (d0 : Dev nD) : Nat :=
  let c0_i32_777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_776 : BitVec 32 := 1#32
  let v757 : BitVec 32 := Scalar.muli v7 c1_i32_776
  let v758 : BitVec 32 := Scalar.addi c0_i32_777 v757
  v758.toNat
def k0_dev38 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_786 : BitVec 32 := 1#32
  let v767 : BitVec 32 := Scalar.muli v5 c1_i32_786
  let v768 : BitVec 32 := Scalar.addi c0_i32_787 v767
  v768.toNat
def k0_dev39 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_848 : BitVec 32 := 1#32
  let v839 : BitVec 32 := Scalar.muli v5 c1_i32_848
  let v840 : BitVec 32 := Scalar.addi c0_i32_849 v839
  v840.toNat
def k0_dev40 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_876 : BitVec 32 := 1#32
  let v863 : BitVec 32 := Scalar.muli v7 c1_i32_876
  let v864 : BitVec 32 := Scalar.addi c0_i32_877 v863
  v864.toNat
def k0_dev41 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_904 : BitVec 32 := 1#32
  let v887 : BitVec 32 := Scalar.muli v5 c1_i32_904
  let v888 : BitVec 32 := Scalar.addi c0_i32_905 v887
  v888.toNat
def k0_dev42 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_932 : BitVec 32 := 1#32
  let v911 : BitVec 32 := Scalar.muli v7 c1_i32_932
  let v912 : BitVec 32 := Scalar.addi c0_i32_933 v911
  v912.toNat
def k0_dev43 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_946 : BitVec 32 := 1#32
  let v913 : BitVec 32 := Scalar.muli v7 c1_i32_946
  let v914 : BitVec 32 := Scalar.addi c0_i32_947 v913
  v914.toNat
def k0_dev44 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_956 : BitVec 32 := 1#32
  let v923 : BitVec 32 := Scalar.muli v5 c1_i32_956
  let v924 : BitVec 32 := Scalar.addi c0_i32_957 v923
  v924.toNat
def k0_dev45 (d0 : Dev nD) : Nat :=
  let c0_i32_967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_966 : BitVec 32 := 1#32
  let v933 : BitVec 32 := Scalar.muli v7 c1_i32_966
  let v934 : BitVec 32 := Scalar.addi c0_i32_967 v933
  v934.toNat
def k0_dev46 (d0 : Dev nD) : Nat :=
  let c0_i32_977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_976 : BitVec 32 := 1#32
  let v943 : BitVec 32 := Scalar.muli v5 c1_i32_976
  let v944 : BitVec 32 := Scalar.addi c0_i32_977 v943
  v944.toNat
def k0_dev47 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1038 : BitVec 32 := 1#32
  let v1015 : BitVec 32 := Scalar.muli v5 c1_i32_1038
  let v1016 : BitVec 32 := Scalar.addi c0_i32_1039 v1015
  v1016.toNat
def k0_dev48 (d0 : Dev nD) : Nat :=
  let c0_i32_1067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1066 : BitVec 32 := 1#32
  let v1039 : BitVec 32 := Scalar.muli v7 c1_i32_1066
  let v1040 : BitVec 32 := Scalar.addi c0_i32_1067 v1039
  v1040.toNat
def k0_dev49 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1094 : BitVec 32 := 1#32
  let v1063 : BitVec 32 := Scalar.muli v5 c1_i32_1094
  let v1064 : BitVec 32 := Scalar.addi c0_i32_1095 v1063
  v1064.toNat
def k0_dev50 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1122 : BitVec 32 := 1#32
  let v1087 : BitVec 32 := Scalar.muli v7 c1_i32_1122
  let v1088 : BitVec 32 := Scalar.addi c0_i32_1123 v1087
  v1088.toNat
def k0_dev51 (d0 : Dev nD) : Nat :=
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1136 : BitVec 32 := 1#32
  let v1089 : BitVec 32 := Scalar.muli v7 c1_i32_1136
  let v1090 : BitVec 32 := Scalar.addi c0_i32_1137 v1089
  v1090.toNat
def k0_dev52 (d0 : Dev nD) : Nat :=
  let c0_i32_1147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1146 : BitVec 32 := 1#32
  let v1099 : BitVec 32 := Scalar.muli v5 c1_i32_1146
  let v1100 : BitVec 32 := Scalar.addi c0_i32_1147 v1099
  v1100.toNat
def k0_dev53 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1156 : BitVec 32 := 1#32
  let v1109 : BitVec 32 := Scalar.muli v7 c1_i32_1156
  let v1110 : BitVec 32 := Scalar.addi c0_i32_1157 v1109
  v1110.toNat
def k0_dev54 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1166 : BitVec 32 := 1#32
  let v1119 : BitVec 32 := Scalar.muli v5 c1_i32_1166
  let v1120 : BitVec 32 := Scalar.addi c0_i32_1167 v1119
  v1120.toNat
def k0_dev55 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1228 : BitVec 32 := 1#32
  let v1191 : BitVec 32 := Scalar.muli v5 c1_i32_1228
  let v1192 : BitVec 32 := Scalar.addi c0_i32_1229 v1191
  v1192.toNat
def k0_dev56 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1256 : BitVec 32 := 1#32
  let v1215 : BitVec 32 := Scalar.muli v7 c1_i32_1256
  let v1216 : BitVec 32 := Scalar.addi c0_i32_1257 v1215
  v1216.toNat
def k0_dev57 (d0 : Dev nD) : Nat :=
  let c0_i32_1285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1284 : BitVec 32 := 1#32
  let v1239 : BitVec 32 := Scalar.muli v5 c1_i32_1284
  let v1240 : BitVec 32 := Scalar.addi c0_i32_1285 v1239
  v1240.toNat
def k0_dev58 (d0 : Dev nD) : Nat :=
  let c0_i32_1313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1312 : BitVec 32 := 1#32
  let v1263 : BitVec 32 := Scalar.muli v7 c1_i32_1312
  let v1264 : BitVec 32 := Scalar.addi c0_i32_1313 v1263
  v1264.toNat
def k0_dev59 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1326 : BitVec 32 := 1#32
  let v1265 : BitVec 32 := Scalar.muli v7 c1_i32_1326
  let v1266 : BitVec 32 := Scalar.addi c0_i32_1327 v1265
  v1266.toNat
def k0_dev60 (d0 : Dev nD) : Nat :=
  let c0_i32_1337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1336 : BitVec 32 := 1#32
  let v1275 : BitVec 32 := Scalar.muli v5 c1_i32_1336
  let v1276 : BitVec 32 := Scalar.addi c0_i32_1337 v1275
  v1276.toNat
def k0_dev61 (d0 : Dev nD) : Nat :=
  let c0_i32_1347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1346 : BitVec 32 := 1#32
  let v1285 : BitVec 32 := Scalar.muli v7 c1_i32_1346
  let v1286 : BitVec 32 := Scalar.addi c0_i32_1347 v1285
  v1286.toNat
def k0_dev62 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1356 : BitVec 32 := 1#32
  let v1295 : BitVec 32 := Scalar.muli v5 c1_i32_1356
  let v1296 : BitVec 32 := Scalar.addi c0_i32_1357 v1295
  v1296.toNat
def k0_dev63 (d0 : Dev nD) : Nat :=
  let c0_i32_1419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1418 : BitVec 32 := 1#32
  let v1367 : BitVec 32 := Scalar.muli v5 c1_i32_1418
  let v1368 : BitVec 32 := Scalar.addi c0_i32_1419 v1367
  v1368.toNat
def k0_dev64 (d0 : Dev nD) : Nat :=
  let c0_i32_1447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1446 : BitVec 32 := 1#32
  let v1391 : BitVec 32 := Scalar.muli v7 c1_i32_1446
  let v1392 : BitVec 32 := Scalar.addi c0_i32_1447 v1391
  v1392.toNat
def k0_dev65 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1474 : BitVec 32 := 1#32
  let v1415 : BitVec 32 := Scalar.muli v5 c1_i32_1474
  let v1416 : BitVec 32 := Scalar.addi c0_i32_1475 v1415
  v1416.toNat
def k0_dev66 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1502 : BitVec 32 := 1#32
  let v1439 : BitVec 32 := Scalar.muli v7 c1_i32_1502
  let v1440 : BitVec 32 := Scalar.addi c0_i32_1503 v1439
  v1440.toNat
def k0_dev67 (d0 : Dev nD) : Nat :=
  let c0_i32_1517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1516 : BitVec 32 := 1#32
  let v1441 : BitVec 32 := Scalar.muli v7 c1_i32_1516
  let v1442 : BitVec 32 := Scalar.addi c0_i32_1517 v1441
  v1442.toNat
def k0_dev68 (d0 : Dev nD) : Nat :=
  let c0_i32_1527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1526 : BitVec 32 := 1#32
  let v1451 : BitVec 32 := Scalar.muli v5 c1_i32_1526
  let v1452 : BitVec 32 := Scalar.addi c0_i32_1527 v1451
  v1452.toNat
def k0_dev69 (d0 : Dev nD) : Nat :=
  let c0_i32_1537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1536 : BitVec 32 := 1#32
  let v1461 : BitVec 32 := Scalar.muli v7 c1_i32_1536
  let v1462 : BitVec 32 := Scalar.addi c0_i32_1537 v1461
  v1462.toNat
def k0_dev70 (d0 : Dev nD) : Nat :=
  let c0_i32_1547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1546 : BitVec 32 := 1#32
  let v1471 : BitVec 32 := Scalar.muli v5 c1_i32_1546
  let v1472 : BitVec 32 := Scalar.addi c0_i32_1547 v1471
  v1472.toNat
def k0_dev71 (d0 : Dev nD) : Nat :=
  let c0_i32_1609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1608 : BitVec 32 := 1#32
  let v1543 : BitVec 32 := Scalar.muli v5 c1_i32_1608
  let v1544 : BitVec 32 := Scalar.addi c0_i32_1609 v1543
  v1544.toNat
def k0_dev72 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1636 : BitVec 32 := 1#32
  let v1567 : BitVec 32 := Scalar.muli v7 c1_i32_1636
  let v1568 : BitVec 32 := Scalar.addi c0_i32_1637 v1567
  v1568.toNat
def k0_dev73 (d0 : Dev nD) : Nat :=
  let c0_i32_1665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1664 : BitVec 32 := 1#32
  let v1591 : BitVec 32 := Scalar.muli v5 c1_i32_1664
  let v1592 : BitVec 32 := Scalar.addi c0_i32_1665 v1591
  v1592.toNat
def k0_dev74 (d0 : Dev nD) : Nat :=
  let c0_i32_1693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1692 : BitVec 32 := 1#32
  let v1615 : BitVec 32 := Scalar.muli v7 c1_i32_1692
  let v1616 : BitVec 32 := Scalar.addi c0_i32_1693 v1615
  v1616.toNat
def k0_dev75 (d0 : Dev nD) : Nat :=
  let c0_i32_1707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1706 : BitVec 32 := 1#32
  let v1617 : BitVec 32 := Scalar.muli v7 c1_i32_1706
  let v1618 : BitVec 32 := Scalar.addi c0_i32_1707 v1617
  v1618.toNat
def k0_dev76 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1716 : BitVec 32 := 1#32
  let v1627 : BitVec 32 := Scalar.muli v5 c1_i32_1716
  let v1628 : BitVec 32 := Scalar.addi c0_i32_1717 v1627
  v1628.toNat
def k0_dev77 (d0 : Dev nD) : Nat :=
  let c0_i32_1727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1726 : BitVec 32 := 1#32
  let v1637 : BitVec 32 := Scalar.muli v7 c1_i32_1726
  let v1638 : BitVec 32 := Scalar.addi c0_i32_1727 v1637
  v1638.toNat
def k0_dev78 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1736 : BitVec 32 := 1#32
  let v1647 : BitVec 32 := Scalar.muli v5 c1_i32_1736
  let v1648 : BitVec 32 := Scalar.addi c0_i32_1737 v1647
  v1648.toNat
def k0_dev79 (d0 : Dev nD) : Nat :=
  let c0_i32_1799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1798 : BitVec 32 := 1#32
  let v1719 : BitVec 32 := Scalar.muli v5 c1_i32_1798
  let v1720 : BitVec 32 := Scalar.addi c0_i32_1799 v1719
  v1720.toNat
def k0_dev80 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1826 : BitVec 32 := 1#32
  let v1743 : BitVec 32 := Scalar.muli v7 c1_i32_1826
  let v1744 : BitVec 32 := Scalar.addi c0_i32_1827 v1743
  v1744.toNat
def k0_dev81 (d0 : Dev nD) : Nat :=
  let c0_i32_1855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1854 : BitVec 32 := 1#32
  let v1767 : BitVec 32 := Scalar.muli v5 c1_i32_1854
  let v1768 : BitVec 32 := Scalar.addi c0_i32_1855 v1767
  v1768.toNat
def k0_dev82 (d0 : Dev nD) : Nat :=
  let c0_i32_1883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1882 : BitVec 32 := 1#32
  let v1791 : BitVec 32 := Scalar.muli v7 c1_i32_1882
  let v1792 : BitVec 32 := Scalar.addi c0_i32_1883 v1791
  v1792.toNat
def k0_dev83 (d0 : Dev nD) : Nat :=
  let c0_i32_1897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1896 : BitVec 32 := 1#32
  let v1793 : BitVec 32 := Scalar.muli v7 c1_i32_1896
  let v1794 : BitVec 32 := Scalar.addi c0_i32_1897 v1793
  v1794.toNat
def k0_dev84 (d0 : Dev nD) : Nat :=
  let c0_i32_1907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1906 : BitVec 32 := 1#32
  let v1803 : BitVec 32 := Scalar.muli v5 c1_i32_1906
  let v1804 : BitVec 32 := Scalar.addi c0_i32_1907 v1803
  v1804.toNat
def k0_dev85 (d0 : Dev nD) : Nat :=
  let c0_i32_1917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1916 : BitVec 32 := 1#32
  let v1813 : BitVec 32 := Scalar.muli v7 c1_i32_1916
  let v1814 : BitVec 32 := Scalar.addi c0_i32_1917 v1813
  v1814.toNat
def k0_dev86 (d0 : Dev nD) : Nat :=
  let c0_i32_1927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1926 : BitVec 32 := 1#32
  let v1823 : BitVec 32 := Scalar.muli v5 c1_i32_1926
  let v1824 : BitVec 32 := Scalar.addi c0_i32_1927 v1823
  v1824.toNat
def k0_dev87 (d0 : Dev nD) : Nat :=
  let c0_i32_1989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1988 : BitVec 32 := 1#32
  let v1895 : BitVec 32 := Scalar.muli v5 c1_i32_1988
  let v1896 : BitVec 32 := Scalar.addi c0_i32_1989 v1895
  v1896.toNat
def k0_dev88 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2016 : BitVec 32 := 1#32
  let v1919 : BitVec 32 := Scalar.muli v7 c1_i32_2016
  let v1920 : BitVec 32 := Scalar.addi c0_i32_2017 v1919
  v1920.toNat
def k0_dev89 (d0 : Dev nD) : Nat :=
  let c0_i32_2045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2044 : BitVec 32 := 1#32
  let v1943 : BitVec 32 := Scalar.muli v5 c1_i32_2044
  let v1944 : BitVec 32 := Scalar.addi c0_i32_2045 v1943
  v1944.toNat
def k0_dev90 (d0 : Dev nD) : Nat :=
  let c0_i32_2073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2072 : BitVec 32 := 1#32
  let v1967 : BitVec 32 := Scalar.muli v7 c1_i32_2072
  let v1968 : BitVec 32 := Scalar.addi c0_i32_2073 v1967
  v1968.toNat
def k0_dev91 (d0 : Dev nD) : Nat :=
  let c0_i32_2087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2086 : BitVec 32 := 1#32
  let v1969 : BitVec 32 := Scalar.muli v7 c1_i32_2086
  let v1970 : BitVec 32 := Scalar.addi c0_i32_2087 v1969
  v1970.toNat
def k0_dev92 (d0 : Dev nD) : Nat :=
  let c0_i32_2097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2096 : BitVec 32 := 1#32
  let v1979 : BitVec 32 := Scalar.muli v5 c1_i32_2096
  let v1980 : BitVec 32 := Scalar.addi c0_i32_2097 v1979
  v1980.toNat
def k0_dev93 (d0 : Dev nD) : Nat :=
  let c0_i32_2107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2106 : BitVec 32 := 1#32
  let v1989 : BitVec 32 := Scalar.muli v7 c1_i32_2106
  let v1990 : BitVec 32 := Scalar.addi c0_i32_2107 v1989
  v1990.toNat
def k0_dev94 (d0 : Dev nD) : Nat :=
  let c0_i32_2117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2116 : BitVec 32 := 1#32
  let v1999 : BitVec 32 := Scalar.muli v5 c1_i32_2116
  let v2000 : BitVec 32 := Scalar.addi c0_i32_2117 v1999
  v2000.toNat
def k0_dev95 (d0 : Dev nD) : Nat :=
  let c0_i32_2179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2178 : BitVec 32 := 1#32
  let v2071 : BitVec 32 := Scalar.muli v5 c1_i32_2178
  let v2072 : BitVec 32 := Scalar.addi c0_i32_2179 v2071
  v2072.toNat
def k0_dev96 (d0 : Dev nD) : Nat :=
  let c0_i32_2207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2206 : BitVec 32 := 1#32
  let v2095 : BitVec 32 := Scalar.muli v7 c1_i32_2206
  let v2096 : BitVec 32 := Scalar.addi c0_i32_2207 v2095
  v2096.toNat
def k0_dev97 (d0 : Dev nD) : Nat :=
  let c0_i32_2235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2234 : BitVec 32 := 1#32
  let v2119 : BitVec 32 := Scalar.muli v5 c1_i32_2234
  let v2120 : BitVec 32 := Scalar.addi c0_i32_2235 v2119
  v2120.toNat
def k0_dev98 (d0 : Dev nD) : Nat :=
  let c0_i32_2263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2262 : BitVec 32 := 1#32
  let v2143 : BitVec 32 := Scalar.muli v7 c1_i32_2262
  let v2144 : BitVec 32 := Scalar.addi c0_i32_2263 v2143
  v2144.toNat
def k0_dev99 (d0 : Dev nD) : Nat :=
  let c0_i32_2277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2276 : BitVec 32 := 1#32
  let v2145 : BitVec 32 := Scalar.muli v7 c1_i32_2276
  let v2146 : BitVec 32 := Scalar.addi c0_i32_2277 v2145
  v2146.toNat
def k0_dev100 (d0 : Dev nD) : Nat :=
  let c0_i32_2287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2286 : BitVec 32 := 1#32
  let v2155 : BitVec 32 := Scalar.muli v5 c1_i32_2286
  let v2156 : BitVec 32 := Scalar.addi c0_i32_2287 v2155
  v2156.toNat
def k0_dev101 (d0 : Dev nD) : Nat :=
  let c0_i32_2297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2296 : BitVec 32 := 1#32
  let v2165 : BitVec 32 := Scalar.muli v7 c1_i32_2296
  let v2166 : BitVec 32 := Scalar.addi c0_i32_2297 v2165
  v2166.toNat
def k0_dev102 (d0 : Dev nD) : Nat :=
  let c0_i32_2307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2306 : BitVec 32 := 1#32
  let v2175 : BitVec 32 := Scalar.muli v5 c1_i32_2306
  let v2176 : BitVec 32 := Scalar.addi c0_i32_2307 v2175
  v2176.toNat
def k0_dev103 (d0 : Dev nD) : Nat :=
  let c0_i32_2369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2368 : BitVec 32 := 1#32
  let v2247 : BitVec 32 := Scalar.muli v5 c1_i32_2368
  let v2248 : BitVec 32 := Scalar.addi c0_i32_2369 v2247
  v2248.toNat
def k0_dev104 (d0 : Dev nD) : Nat :=
  let c0_i32_2397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2396 : BitVec 32 := 1#32
  let v2271 : BitVec 32 := Scalar.muli v7 c1_i32_2396
  let v2272 : BitVec 32 := Scalar.addi c0_i32_2397 v2271
  v2272.toNat
def k0_dev105 (d0 : Dev nD) : Nat :=
  let c0_i32_2425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2424 : BitVec 32 := 1#32
  let v2295 : BitVec 32 := Scalar.muli v5 c1_i32_2424
  let v2296 : BitVec 32 := Scalar.addi c0_i32_2425 v2295
  v2296.toNat
def k0_dev106 (d0 : Dev nD) : Nat :=
  let c0_i32_2453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2452 : BitVec 32 := 1#32
  let v2319 : BitVec 32 := Scalar.muli v7 c1_i32_2452
  let v2320 : BitVec 32 := Scalar.addi c0_i32_2453 v2319
  v2320.toNat
def k0_dev107 (d0 : Dev nD) : Nat :=
  let c0_i32_2467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2466 : BitVec 32 := 1#32
  let v2321 : BitVec 32 := Scalar.muli v7 c1_i32_2466
  let v2322 : BitVec 32 := Scalar.addi c0_i32_2467 v2321
  v2322.toNat
def k0_dev108 (d0 : Dev nD) : Nat :=
  let c0_i32_2477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2476 : BitVec 32 := 1#32
  let v2331 : BitVec 32 := Scalar.muli v5 c1_i32_2476
  let v2332 : BitVec 32 := Scalar.addi c0_i32_2477 v2331
  v2332.toNat
def k0_dev109 (d0 : Dev nD) : Nat :=
  let c0_i32_2487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2486 : BitVec 32 := 1#32
  let v2341 : BitVec 32 := Scalar.muli v7 c1_i32_2486
  let v2342 : BitVec 32 := Scalar.addi c0_i32_2487 v2341
  v2342.toNat
def k0_dev110 (d0 : Dev nD) : Nat :=
  let c0_i32_2497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2496 : BitVec 32 := 1#32
  let v2351 : BitVec 32 := Scalar.muli v5 c1_i32_2496
  let v2352 : BitVec 32 := Scalar.addi c0_i32_2497 v2351
  v2352.toNat
def k0_dev111 (d0 : Dev nD) : Nat :=
  let c0_i32_2645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2644 : BitVec 32 := 1#32
  let v2489 : BitVec 32 := Scalar.muli v7 c1_i32_2644
  let v2490 : BitVec 32 := Scalar.addi c0_i32_2645 v2489
  v2490.toNat
def k0_dev112 (d0 : Dev nD) : Nat :=
  let c0_i32_2655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2654 : BitVec 32 := 1#32
  let v2499 : BitVec 32 := Scalar.muli v5 c1_i32_2654
  let v2500 : BitVec 32 := Scalar.addi c0_i32_2655 v2499
  v2500.toNat
def k0_dev113 (d0 : Dev nD) : Nat :=
  let c0_i32_2665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2664 : BitVec 32 := 1#32
  let v2509 : BitVec 32 := Scalar.muli v7 c1_i32_2664
  let v2510 : BitVec 32 := Scalar.addi c0_i32_2665 v2509
  v2510.toNat
def k0_dev114 (d0 : Dev nD) : Nat :=
  let c0_i32_2675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2674 : BitVec 32 := 1#32
  let v2519 : BitVec 32 := Scalar.muli v5 c1_i32_2674
  let v2520 : BitVec 32 := Scalar.addi c0_i32_2675 v2519
  v2520.toNat
def k0_off3 (d0 : Dev nD) (c32_i32_2680 : BitVec 32) (c15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2529 : BitVec 32 := Scalar.addi v2 c32_i32_2680
  let v2530 : BitVec 32 := Scalar.subi v2529 c15_i32
  let c16_i32_2681 : BitVec 32 := 16#32
  let v2531 : BitVec 32 := Scalar.remsi v2530 c16_i32_2681
  let c512_i32_2735 : BitVec 32 := 512#32
  let v2593 : BitVec 32 := Scalar.muli v2531 c512_i32_2735
  let c0_i32_2737 : BitVec 32 := 0#32
  ![v2593.toNat, 0]
def k0_off3_at (r : Fin 16) : BitVec 32 × BitVec 32 :=
  if r.val < 8 then
    if r.val < 4 then
      if r.val < 2 then
        if r.val < 1 then
          (32#32, 15#32)
        else
          (16#32, 0#32)
      else
        if r.val < 3 then
          (16#32, 1#32)
        else
          (16#32, 2#32)
    else
      if r.val < 6 then
        if r.val < 5 then
          (16#32, 3#32)
        else
          (16#32, 4#32)
      else
        if r.val < 7 then
          (16#32, 5#32)
        else
          (16#32, 6#32)
  else
    if r.val < 12 then
      if r.val < 10 then
        if r.val < 9 then
          (16#32, 7#32)
        else
          (16#32, 8#32)
      else
        if r.val < 11 then
          (16#32, 9#32)
        else
          (16#32, 10#32)
    else
      if r.val < 14 then
        if r.val < 13 then
          (16#32, 11#32)
        else
          (16#32, 12#32)
      else
        if r.val < 15 then
          (16#32, 13#32)
        else
          (16#32, 14#32)
def k0_off4 (d0 : Dev nD) (c32_i32_2682 : BitVec 32) (c_m15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2532 : BitVec 32 := Scalar.addi v2 c32_i32_2682
  let v2533 : BitVec 32 := Scalar.subi v2532 c_m15_i32
  let c16_i32_2683 : BitVec 32 := 16#32
  let v2534 : BitVec 32 := Scalar.remsi v2533 c16_i32_2683
  let c512_i32_2765 : BitVec 32 := 512#32
  let v2621 : BitVec 32 := Scalar.muli v2534 c512_i32_2765
  let c2048_i32 : BitVec 32 := 2048#32
  ![v2621.toNat, 2048]
def k0_off4_at (r : Fin 16) : BitVec 32 × BitVec 32 :=
  if r.val < 8 then
    if r.val < 4 then
      if r.val < 2 then
        if r.val < 1 then
          (32#32, 4294967281#32)
        else
          (16#32, 0#32)
      else
        if r.val < 3 then
          (16#32, 4294967295#32)
        else
          (16#32, 4294967294#32)
    else
      if r.val < 6 then
        if r.val < 5 then
          (16#32, 4294967293#32)
        else
          (16#32, 4294967292#32)
      else
        if r.val < 7 then
          (16#32, 4294967291#32)
        else
          (16#32, 4294967290#32)
  else
    if r.val < 12 then
      if r.val < 10 then
        if r.val < 9 then
          (16#32, 4294967289#32)
        else
          (16#32, 4294967288#32)
      else
        if r.val < 11 then
          (16#32, 4294967287#32)
        else
          (16#32, 4294967286#32)
    else
      if r.val < 14 then
        if r.val < 13 then
          (16#32, 4294967285#32)
        else
          (16#32, 4294967284#32)
      else
        if r.val < 15 then
          (16#32, 4294967283#32)
        else
          (16#32, 4294967282#32)
def k0_off5 (d0 : Dev nD) (c32_i32_2684 : BitVec 32) (c15_i32_2685 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2535 : BitVec 32 := Scalar.addi v2 c32_i32_2684
  let v2536 : BitVec 32 := Scalar.subi v2535 c15_i32_2685
  let c16_i32_2686 : BitVec 32 := 16#32
  let v2537 : BitVec 32 := Scalar.remsi v2536 c16_i32_2686
  let c512_i32_2794 : BitVec 32 := 512#32
  let v2649 : BitVec 32 := Scalar.muli v2537 c512_i32_2794
  let c1024_i32 : BitVec 32 := 1024#32
  ![v2649.toNat, 1024]
def k0_off5_at (r : Fin 16) : BitVec 32 × BitVec 32 :=
  if r.val < 8 then
    if r.val < 4 then
      if r.val < 2 then
        if r.val < 1 then
          (32#32, 15#32)
        else
          (16#32, 0#32)
      else
        if r.val < 3 then
          (16#32, 1#32)
        else
          (16#32, 2#32)
    else
      if r.val < 6 then
        if r.val < 5 then
          (16#32, 3#32)
        else
          (16#32, 4#32)
      else
        if r.val < 7 then
          (16#32, 5#32)
        else
          (16#32, 6#32)
  else
    if r.val < 12 then
      if r.val < 10 then
        if r.val < 9 then
          (16#32, 7#32)
        else
          (16#32, 8#32)
      else
        if r.val < 11 then
          (16#32, 9#32)
        else
          (16#32, 10#32)
    else
      if r.val < 14 then
        if r.val < 13 then
          (16#32, 11#32)
        else
          (16#32, 12#32)
      else
        if r.val < 15 then
          (16#32, 13#32)
        else
          (16#32, 14#32)
def k0_off6 (d0 : Dev nD) (c32_i32_2687 : BitVec 32) (c_m15_i32_2688 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2538 : BitVec 32 := Scalar.addi v2 c32_i32_2687
  let v2539 : BitVec 32 := Scalar.subi v2538 c_m15_i32_2688
  let c16_i32_2689 : BitVec 32 := 16#32
  let v2540 : BitVec 32 := Scalar.remsi v2539 c16_i32_2689
  let c512_i32_2823 : BitVec 32 := 512#32
  let v2677 : BitVec 32 := Scalar.muli v2540 c512_i32_2823
  let c3072_i32 : BitVec 32 := 3072#32
  ![v2677.toNat, 3072]
def k0_off6_at (r : Fin 16) : BitVec 32 × BitVec 32 :=
  if r.val < 8 then
    if r.val < 4 then
      if r.val < 2 then
        if r.val < 1 then
          (32#32, 4294967281#32)
        else
          (16#32, 0#32)
      else
        if r.val < 3 then
          (16#32, 4294967295#32)
        else
          (16#32, 4294967294#32)
    else
      if r.val < 6 then
        if r.val < 5 then
          (16#32, 4294967293#32)
        else
          (16#32, 4294967292#32)
      else
        if r.val < 7 then
          (16#32, 4294967291#32)
        else
          (16#32, 4294967290#32)
  else
    if r.val < 12 then
      if r.val < 10 then
        if r.val < 9 then
          (16#32, 4294967289#32)
        else
          (16#32, 4294967288#32)
      else
        if r.val < 11 then
          (16#32, 4294967287#32)
        else
          (16#32, 4294967286#32)
    else
      if r.val < 14 then
        if r.val < 13 then
          (16#32, 4294967285#32)
        else
          (16#32, 4294967284#32)
      else
        if r.val < 15 then
          (16#32, 4294967283#32)
        else
          (16#32, 4294967282#32)
def k0_dev115 (d0 : Dev nD) : Nat :=
  let c0_i32_2868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2867 : BitVec 32 := 1#32
  let v2705 : BitVec 32 := Scalar.muli v7 c1_i32_2867
  let v2706 : BitVec 32 := Scalar.addi c0_i32_2868 v2705
  v2706.toNat
def k0_dev116 (d0 : Dev nD) : Nat :=
  let c0_i32_2878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2877 : BitVec 32 := 1#32
  let v2715 : BitVec 32 := Scalar.muli v5 c1_i32_2877
  let v2716 : BitVec 32 := Scalar.addi c0_i32_2878 v2715
  v2716.toNat
def k0_dev117 (d0 : Dev nD) : Nat :=
  let c0_i32_2888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2887 : BitVec 32 := 1#32
  let v2725 : BitVec 32 := Scalar.muli v7 c1_i32_2887
  let v2726 : BitVec 32 := Scalar.addi c0_i32_2888 v2725
  v2726.toNat
def k0_dev118 (d0 : Dev nD) : Nat :=
  let c0_i32_2898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2897 : BitVec 32 := 1#32
  let v2735 : BitVec 32 := Scalar.muli v5 c1_i32_2897
  let v2736 : BitVec 32 := Scalar.addi c0_i32_2898 v2735
  v2736.toNat
def k0_dev119 (d0 : Dev nD) : Nat :=
  let c0_i32_3032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3031 : BitVec 32 := 1#32
  let v2841 : BitVec 32 := Scalar.muli v7 c1_i32_3031
  let v2842 : BitVec 32 := Scalar.addi c0_i32_3032 v2841
  v2842.toNat
def k0_dev120 (d0 : Dev nD) : Nat :=
  let c0_i32_3042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3041 : BitVec 32 := 1#32
  let v2851 : BitVec 32 := Scalar.muli v5 c1_i32_3041
  let v2852 : BitVec 32 := Scalar.addi c0_i32_3042 v2851
  v2852.toNat
def k0_dev121 (d0 : Dev nD) : Nat :=
  let c0_i32_3052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3051 : BitVec 32 := 1#32
  let v2861 : BitVec 32 := Scalar.muli v7 c1_i32_3051
  let v2862 : BitVec 32 := Scalar.addi c0_i32_3052 v2861
  v2862.toNat
def k0_dev122 (d0 : Dev nD) : Nat :=
  let c0_i32_3062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3061 : BitVec 32 := 1#32
  let v2871 : BitVec 32 := Scalar.muli v5 c1_i32_3061
  let v2872 : BitVec 32 := Scalar.addi c0_i32_3062 v2871
  v2872.toNat
def k0_dev123 (d0 : Dev nD) : Nat :=
  let c0_i32_3092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3091 : BitVec 32 := 1#32
  let v2898 : BitVec 32 := Scalar.muli v5 c1_i32_3091
  let v2899 : BitVec 32 := Scalar.addi c0_i32_3092 v2898
  v2899.toNat
def k0_dev124 (d0 : Dev nD) : Nat :=
  let c0_i32_3126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3125 : BitVec 32 := 1#32
  let v2924 : BitVec 32 := Scalar.muli v7 c1_i32_3125
  let v2925 : BitVec 32 := Scalar.addi c0_i32_3126 v2924
  v2925.toNat
def k0_dev125 (d0 : Dev nD) : Nat :=
  let c0_i32_3160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3159 : BitVec 32 := 1#32
  let v2950 : BitVec 32 := Scalar.muli v5 c1_i32_3159
  let v2951 : BitVec 32 := Scalar.addi c0_i32_3160 v2950
  v2951.toNat
def k0_dev126 (d0 : Dev nD) : Nat :=
  let c0_i32_3194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3193 : BitVec 32 := 1#32
  let v2976 : BitVec 32 := Scalar.muli v7 c1_i32_3193
  let v2977 : BitVec 32 := Scalar.addi c0_i32_3194 v2976
  v2977.toNat
def k0_dev127 (d0 : Dev nD) : Nat :=
  let c0_i32_3216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3215 : BitVec 32 := 1#32
  let v2985 : BitVec 32 := Scalar.muli v7 c1_i32_3215
  let v2986 : BitVec 32 := Scalar.addi c0_i32_3216 v2985
  v2986.toNat
def k0_dev128 (d0 : Dev nD) : Nat :=
  let c0_i32_3226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3225 : BitVec 32 := 1#32
  let v2995 : BitVec 32 := Scalar.muli v5 c1_i32_3225
  let v2996 : BitVec 32 := Scalar.addi c0_i32_3226 v2995
  v2996.toNat
def k0_dev129 (d0 : Dev nD) : Nat :=
  let c0_i32_3236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3235 : BitVec 32 := 1#32
  let v3005 : BitVec 32 := Scalar.muli v7 c1_i32_3235
  let v3006 : BitVec 32 := Scalar.addi c0_i32_3236 v3005
  v3006.toNat
def k0_dev130 (d0 : Dev nD) : Nat :=
  let c0_i32_3246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3245 : BitVec 32 := 1#32
  let v3015 : BitVec 32 := Scalar.muli v5 c1_i32_3245
  let v3016 : BitVec 32 := Scalar.addi c0_i32_3246 v3015
  v3016.toNat
def k0_dev131 (d0 : Dev nD) : Nat :=
  let c0_i32_3276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3275 : BitVec 32 := 1#32
  let v3042 : BitVec 32 := Scalar.muli v5 c1_i32_3275
  let v3043 : BitVec 32 := Scalar.addi c0_i32_3276 v3042
  v3043.toNat
def k0_dev132 (d0 : Dev nD) : Nat :=
  let c0_i32_3310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3309 : BitVec 32 := 1#32
  let v3068 : BitVec 32 := Scalar.muli v7 c1_i32_3309
  let v3069 : BitVec 32 := Scalar.addi c0_i32_3310 v3068
  v3069.toNat
def k0_dev133 (d0 : Dev nD) : Nat :=
  let c0_i32_3344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3343 : BitVec 32 := 1#32
  let v3094 : BitVec 32 := Scalar.muli v5 c1_i32_3343
  let v3095 : BitVec 32 := Scalar.addi c0_i32_3344 v3094
  v3095.toNat
def k0_dev134 (d0 : Dev nD) : Nat :=
  let c0_i32_3378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3377 : BitVec 32 := 1#32
  let v3120 : BitVec 32 := Scalar.muli v7 c1_i32_3377
  let v3121 : BitVec 32 := Scalar.addi c0_i32_3378 v3120
  v3121.toNat
def k0_dev135 (d0 : Dev nD) : Nat :=
  let c0_i32_3400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3399 : BitVec 32 := 1#32
  let v3129 : BitVec 32 := Scalar.muli v7 c1_i32_3399
  let v3130 : BitVec 32 := Scalar.addi c0_i32_3400 v3129
  v3130.toNat
def k0_dev136 (d0 : Dev nD) : Nat :=
  let c0_i32_3410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3409 : BitVec 32 := 1#32
  let v3139 : BitVec 32 := Scalar.muli v5 c1_i32_3409
  let v3140 : BitVec 32 := Scalar.addi c0_i32_3410 v3139
  v3140.toNat
def k0_dev137 (d0 : Dev nD) : Nat :=
  let c0_i32_3420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3419 : BitVec 32 := 1#32
  let v3149 : BitVec 32 := Scalar.muli v7 c1_i32_3419
  let v3150 : BitVec 32 := Scalar.addi c0_i32_3420 v3149
  v3150.toNat
def k0_dev138 (d0 : Dev nD) : Nat :=
  let c0_i32_3430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3429 : BitVec 32 := 1#32
  let v3159 : BitVec 32 := Scalar.muli v5 c1_i32_3429
  let v3160 : BitVec 32 := Scalar.addi c0_i32_3430 v3159
  v3160.toNat
def k0_dev139 (d0 : Dev nD) : Nat :=
  let c0_i32_3460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3459 : BitVec 32 := 1#32
  let v3186 : BitVec 32 := Scalar.muli v5 c1_i32_3459
  let v3187 : BitVec 32 := Scalar.addi c0_i32_3460 v3186
  v3187.toNat
def k0_dev140 (d0 : Dev nD) : Nat :=
  let c0_i32_3494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3493 : BitVec 32 := 1#32
  let v3212 : BitVec 32 := Scalar.muli v7 c1_i32_3493
  let v3213 : BitVec 32 := Scalar.addi c0_i32_3494 v3212
  v3213.toNat
def k0_dev141 (d0 : Dev nD) : Nat :=
  let c0_i32_3528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3527 : BitVec 32 := 1#32
  let v3238 : BitVec 32 := Scalar.muli v5 c1_i32_3527
  let v3239 : BitVec 32 := Scalar.addi c0_i32_3528 v3238
  v3239.toNat
def k0_dev142 (d0 : Dev nD) : Nat :=
  let c0_i32_3562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3561 : BitVec 32 := 1#32
  let v3264 : BitVec 32 := Scalar.muli v7 c1_i32_3561
  let v3265 : BitVec 32 := Scalar.addi c0_i32_3562 v3264
  v3265.toNat
def k0_dev143 (d0 : Dev nD) : Nat :=
  let c0_i32_3584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3583 : BitVec 32 := 1#32
  let v3273 : BitVec 32 := Scalar.muli v7 c1_i32_3583
  let v3274 : BitVec 32 := Scalar.addi c0_i32_3584 v3273
  v3274.toNat
def k0_dev144 (d0 : Dev nD) : Nat :=
  let c0_i32_3594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3593 : BitVec 32 := 1#32
  let v3283 : BitVec 32 := Scalar.muli v5 c1_i32_3593
  let v3284 : BitVec 32 := Scalar.addi c0_i32_3594 v3283
  v3284.toNat
def k0_dev145 (d0 : Dev nD) : Nat :=
  let c0_i32_3604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3603 : BitVec 32 := 1#32
  let v3293 : BitVec 32 := Scalar.muli v7 c1_i32_3603
  let v3294 : BitVec 32 := Scalar.addi c0_i32_3604 v3293
  v3294.toNat
def k0_dev146 (d0 : Dev nD) : Nat :=
  let c0_i32_3614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3613 : BitVec 32 := 1#32
  let v3303 : BitVec 32 := Scalar.muli v5 c1_i32_3613
  let v3304 : BitVec 32 := Scalar.addi c0_i32_3614 v3303
  v3304.toNat
def k0_dev147 (d0 : Dev nD) : Nat :=
  let c0_i32_3644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3643 : BitVec 32 := 1#32
  let v3330 : BitVec 32 := Scalar.muli v5 c1_i32_3643
  let v3331 : BitVec 32 := Scalar.addi c0_i32_3644 v3330
  v3331.toNat
def k0_dev148 (d0 : Dev nD) : Nat :=
  let c0_i32_3678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3677 : BitVec 32 := 1#32
  let v3356 : BitVec 32 := Scalar.muli v7 c1_i32_3677
  let v3357 : BitVec 32 := Scalar.addi c0_i32_3678 v3356
  v3357.toNat
def k0_dev149 (d0 : Dev nD) : Nat :=
  let c0_i32_3712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3711 : BitVec 32 := 1#32
  let v3382 : BitVec 32 := Scalar.muli v5 c1_i32_3711
  let v3383 : BitVec 32 := Scalar.addi c0_i32_3712 v3382
  v3383.toNat
def k0_dev150 (d0 : Dev nD) : Nat :=
  let c0_i32_3746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3745 : BitVec 32 := 1#32
  let v3408 : BitVec 32 := Scalar.muli v7 c1_i32_3745
  let v3409 : BitVec 32 := Scalar.addi c0_i32_3746 v3408
  v3409.toNat
def k0_dev151 (d0 : Dev nD) : Nat :=
  let c0_i32_3768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3767 : BitVec 32 := 1#32
  let v3417 : BitVec 32 := Scalar.muli v7 c1_i32_3767
  let v3418 : BitVec 32 := Scalar.addi c0_i32_3768 v3417
  v3418.toNat
def k0_dev152 (d0 : Dev nD) : Nat :=
  let c0_i32_3778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3777 : BitVec 32 := 1#32
  let v3427 : BitVec 32 := Scalar.muli v5 c1_i32_3777
  let v3428 : BitVec 32 := Scalar.addi c0_i32_3778 v3427
  v3428.toNat
def k0_dev153 (d0 : Dev nD) : Nat :=
  let c0_i32_3788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3787 : BitVec 32 := 1#32
  let v3437 : BitVec 32 := Scalar.muli v7 c1_i32_3787
  let v3438 : BitVec 32 := Scalar.addi c0_i32_3788 v3437
  v3438.toNat
def k0_dev154 (d0 : Dev nD) : Nat :=
  let c0_i32_3798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3797 : BitVec 32 := 1#32
  let v3447 : BitVec 32 := Scalar.muli v5 c1_i32_3797
  let v3448 : BitVec 32 := Scalar.addi c0_i32_3798 v3447
  v3448.toNat
def k0_dev155 (d0 : Dev nD) : Nat :=
  let c0_i32_3828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3827 : BitVec 32 := 1#32
  let v3474 : BitVec 32 := Scalar.muli v5 c1_i32_3827
  let v3475 : BitVec 32 := Scalar.addi c0_i32_3828 v3474
  v3475.toNat
def k0_dev156 (d0 : Dev nD) : Nat :=
  let c0_i32_3862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3861 : BitVec 32 := 1#32
  let v3500 : BitVec 32 := Scalar.muli v7 c1_i32_3861
  let v3501 : BitVec 32 := Scalar.addi c0_i32_3862 v3500
  v3501.toNat
def k0_dev157 (d0 : Dev nD) : Nat :=
  let c0_i32_3896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3895 : BitVec 32 := 1#32
  let v3526 : BitVec 32 := Scalar.muli v5 c1_i32_3895
  let v3527 : BitVec 32 := Scalar.addi c0_i32_3896 v3526
  v3527.toNat
def k0_dev158 (d0 : Dev nD) : Nat :=
  let c0_i32_3930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3929 : BitVec 32 := 1#32
  let v3552 : BitVec 32 := Scalar.muli v7 c1_i32_3929
  let v3553 : BitVec 32 := Scalar.addi c0_i32_3930 v3552
  v3553.toNat
def k0_dev159 (d0 : Dev nD) : Nat :=
  let c0_i32_3952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3951 : BitVec 32 := 1#32
  let v3561 : BitVec 32 := Scalar.muli v7 c1_i32_3951
  let v3562 : BitVec 32 := Scalar.addi c0_i32_3952 v3561
  v3562.toNat
def k0_dev160 (d0 : Dev nD) : Nat :=
  let c0_i32_3962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3961 : BitVec 32 := 1#32
  let v3571 : BitVec 32 := Scalar.muli v5 c1_i32_3961
  let v3572 : BitVec 32 := Scalar.addi c0_i32_3962 v3571
  v3572.toNat
def k0_dev161 (d0 : Dev nD) : Nat :=
  let c0_i32_3972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3971 : BitVec 32 := 1#32
  let v3581 : BitVec 32 := Scalar.muli v7 c1_i32_3971
  let v3582 : BitVec 32 := Scalar.addi c0_i32_3972 v3581
  v3582.toNat
def k0_dev162 (d0 : Dev nD) : Nat :=
  let c0_i32_3982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3981 : BitVec 32 := 1#32
  let v3591 : BitVec 32 := Scalar.muli v5 c1_i32_3981
  let v3592 : BitVec 32 := Scalar.addi c0_i32_3982 v3591
  v3592.toNat
def k0_dev163 (d0 : Dev nD) : Nat :=
  let c0_i32_4012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4011 : BitVec 32 := 1#32
  let v3618 : BitVec 32 := Scalar.muli v5 c1_i32_4011
  let v3619 : BitVec 32 := Scalar.addi c0_i32_4012 v3618
  v3619.toNat
def k0_dev164 (d0 : Dev nD) : Nat :=
  let c0_i32_4046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4045 : BitVec 32 := 1#32
  let v3644 : BitVec 32 := Scalar.muli v7 c1_i32_4045
  let v3645 : BitVec 32 := Scalar.addi c0_i32_4046 v3644
  v3645.toNat
def k0_dev165 (d0 : Dev nD) : Nat :=
  let c0_i32_4080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4079 : BitVec 32 := 1#32
  let v3670 : BitVec 32 := Scalar.muli v5 c1_i32_4079
  let v3671 : BitVec 32 := Scalar.addi c0_i32_4080 v3670
  v3671.toNat
def k0_dev166 (d0 : Dev nD) : Nat :=
  let c0_i32_4114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4113 : BitVec 32 := 1#32
  let v3696 : BitVec 32 := Scalar.muli v7 c1_i32_4113
  let v3697 : BitVec 32 := Scalar.addi c0_i32_4114 v3696
  v3697.toNat
def k0_dev167 (d0 : Dev nD) : Nat :=
  let c0_i32_4136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4135 : BitVec 32 := 1#32
  let v3705 : BitVec 32 := Scalar.muli v7 c1_i32_4135
  let v3706 : BitVec 32 := Scalar.addi c0_i32_4136 v3705
  v3706.toNat
def k0_dev168 (d0 : Dev nD) : Nat :=
  let c0_i32_4146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4145 : BitVec 32 := 1#32
  let v3715 : BitVec 32 := Scalar.muli v5 c1_i32_4145
  let v3716 : BitVec 32 := Scalar.addi c0_i32_4146 v3715
  v3716.toNat
def k0_dev169 (d0 : Dev nD) : Nat :=
  let c0_i32_4156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4155 : BitVec 32 := 1#32
  let v3725 : BitVec 32 := Scalar.muli v7 c1_i32_4155
  let v3726 : BitVec 32 := Scalar.addi c0_i32_4156 v3725
  v3726.toNat
def k0_dev170 (d0 : Dev nD) : Nat :=
  let c0_i32_4166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4165 : BitVec 32 := 1#32
  let v3735 : BitVec 32 := Scalar.muli v5 c1_i32_4165
  let v3736 : BitVec 32 := Scalar.addi c0_i32_4166 v3735
  v3736.toNat
def k0_dev171 (d0 : Dev nD) : Nat :=
  let c0_i32_4196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4195 : BitVec 32 := 1#32
  let v3762 : BitVec 32 := Scalar.muli v5 c1_i32_4195
  let v3763 : BitVec 32 := Scalar.addi c0_i32_4196 v3762
  v3763.toNat
def k0_dev172 (d0 : Dev nD) : Nat :=
  let c0_i32_4230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4229 : BitVec 32 := 1#32
  let v3788 : BitVec 32 := Scalar.muli v7 c1_i32_4229
  let v3789 : BitVec 32 := Scalar.addi c0_i32_4230 v3788
  v3789.toNat
def k0_dev173 (d0 : Dev nD) : Nat :=
  let c0_i32_4264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4263 : BitVec 32 := 1#32
  let v3814 : BitVec 32 := Scalar.muli v5 c1_i32_4263
  let v3815 : BitVec 32 := Scalar.addi c0_i32_4264 v3814
  v3815.toNat
def k0_dev174 (d0 : Dev nD) : Nat :=
  let c0_i32_4298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4297 : BitVec 32 := 1#32
  let v3840 : BitVec 32 := Scalar.muli v7 c1_i32_4297
  let v3841 : BitVec 32 := Scalar.addi c0_i32_4298 v3840
  v3841.toNat
def k0_dev175 (d0 : Dev nD) : Nat :=
  let c0_i32_4320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4319 : BitVec 32 := 1#32
  let v3849 : BitVec 32 := Scalar.muli v7 c1_i32_4319
  let v3850 : BitVec 32 := Scalar.addi c0_i32_4320 v3849
  v3850.toNat
def k0_dev176 (d0 : Dev nD) : Nat :=
  let c0_i32_4330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4329 : BitVec 32 := 1#32
  let v3859 : BitVec 32 := Scalar.muli v5 c1_i32_4329
  let v3860 : BitVec 32 := Scalar.addi c0_i32_4330 v3859
  v3860.toNat
def k0_dev177 (d0 : Dev nD) : Nat :=
  let c0_i32_4340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4339 : BitVec 32 := 1#32
  let v3869 : BitVec 32 := Scalar.muli v7 c1_i32_4339
  let v3870 : BitVec 32 := Scalar.addi c0_i32_4340 v3869
  v3870.toNat
def k0_dev178 (d0 : Dev nD) : Nat :=
  let c0_i32_4350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4349 : BitVec 32 := 1#32
  let v3879 : BitVec 32 := Scalar.muli v5 c1_i32_4349
  let v3880 : BitVec 32 := Scalar.addi c0_i32_4350 v3879
  v3880.toNat
def k0_dev179 (d0 : Dev nD) : Nat :=
  let c0_i32_4380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4379 : BitVec 32 := 1#32
  let v3906 : BitVec 32 := Scalar.muli v5 c1_i32_4379
  let v3907 : BitVec 32 := Scalar.addi c0_i32_4380 v3906
  v3907.toNat
def k0_dev180 (d0 : Dev nD) : Nat :=
  let c0_i32_4414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4413 : BitVec 32 := 1#32
  let v3932 : BitVec 32 := Scalar.muli v7 c1_i32_4413
  let v3933 : BitVec 32 := Scalar.addi c0_i32_4414 v3932
  v3933.toNat
def k0_dev181 (d0 : Dev nD) : Nat :=
  let c0_i32_4448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4447 : BitVec 32 := 1#32
  let v3958 : BitVec 32 := Scalar.muli v5 c1_i32_4447
  let v3959 : BitVec 32 := Scalar.addi c0_i32_4448 v3958
  v3959.toNat
def k0_dev182 (d0 : Dev nD) : Nat :=
  let c0_i32_4482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4481 : BitVec 32 := 1#32
  let v3984 : BitVec 32 := Scalar.muli v7 c1_i32_4481
  let v3985 : BitVec 32 := Scalar.addi c0_i32_4482 v3984
  v3985.toNat
def k0_dev183 (d0 : Dev nD) : Nat :=
  let c0_i32_4504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4503 : BitVec 32 := 1#32
  let v3993 : BitVec 32 := Scalar.muli v7 c1_i32_4503
  let v3994 : BitVec 32 := Scalar.addi c0_i32_4504 v3993
  v3994.toNat
def k0_dev184 (d0 : Dev nD) : Nat :=
  let c0_i32_4514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4513 : BitVec 32 := 1#32
  let v4003 : BitVec 32 := Scalar.muli v5 c1_i32_4513
  let v4004 : BitVec 32 := Scalar.addi c0_i32_4514 v4003
  v4004.toNat
def k0_dev185 (d0 : Dev nD) : Nat :=
  let c0_i32_4524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4523 : BitVec 32 := 1#32
  let v4013 : BitVec 32 := Scalar.muli v7 c1_i32_4523
  let v4014 : BitVec 32 := Scalar.addi c0_i32_4524 v4013
  v4014.toNat
def k0_dev186 (d0 : Dev nD) : Nat :=
  let c0_i32_4534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4533 : BitVec 32 := 1#32
  let v4023 : BitVec 32 := Scalar.muli v5 c1_i32_4533
  let v4024 : BitVec 32 := Scalar.addi c0_i32_4534 v4023
  v4024.toNat
def k0_dev187 (d0 : Dev nD) : Nat :=
  let c0_i32_4564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4563 : BitVec 32 := 1#32
  let v4050 : BitVec 32 := Scalar.muli v5 c1_i32_4563
  let v4051 : BitVec 32 := Scalar.addi c0_i32_4564 v4050
  v4051.toNat
def k0_dev188 (d0 : Dev nD) : Nat :=
  let c0_i32_4598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4597 : BitVec 32 := 1#32
  let v4076 : BitVec 32 := Scalar.muli v7 c1_i32_4597
  let v4077 : BitVec 32 := Scalar.addi c0_i32_4598 v4076
  v4077.toNat
def k0_dev189 (d0 : Dev nD) : Nat :=
  let c0_i32_4632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4631 : BitVec 32 := 1#32
  let v4102 : BitVec 32 := Scalar.muli v5 c1_i32_4631
  let v4103 : BitVec 32 := Scalar.addi c0_i32_4632 v4102
  v4103.toNat
def k0_dev190 (d0 : Dev nD) : Nat :=
  let c0_i32_4666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4665 : BitVec 32 := 1#32
  let v4128 : BitVec 32 := Scalar.muli v7 c1_i32_4665
  let v4129 : BitVec 32 := Scalar.addi c0_i32_4666 v4128
  v4129.toNat
def k0_dev191 (d0 : Dev nD) : Nat :=
  let c0_i32_4688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4687 : BitVec 32 := 1#32
  let v4137 : BitVec 32 := Scalar.muli v7 c1_i32_4687
  let v4138 : BitVec 32 := Scalar.addi c0_i32_4688 v4137
  v4138.toNat
def k0_dev192 (d0 : Dev nD) : Nat :=
  let c0_i32_4698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4697 : BitVec 32 := 1#32
  let v4147 : BitVec 32 := Scalar.muli v5 c1_i32_4697
  let v4148 : BitVec 32 := Scalar.addi c0_i32_4698 v4147
  v4148.toNat
def k0_dev193 (d0 : Dev nD) : Nat :=
  let c0_i32_4708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4707 : BitVec 32 := 1#32
  let v4157 : BitVec 32 := Scalar.muli v7 c1_i32_4707
  let v4158 : BitVec 32 := Scalar.addi c0_i32_4708 v4157
  v4158.toNat
def k0_dev194 (d0 : Dev nD) : Nat :=
  let c0_i32_4718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4717 : BitVec 32 := 1#32
  let v4167 : BitVec 32 := Scalar.muli v5 c1_i32_4717
  let v4168 : BitVec 32 := Scalar.addi c0_i32_4718 v4167
  v4168.toNat
def k0_dev195 (d0 : Dev nD) : Nat :=
  let c0_i32_4748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4747 : BitVec 32 := 1#32
  let v4194 : BitVec 32 := Scalar.muli v5 c1_i32_4747
  let v4195 : BitVec 32 := Scalar.addi c0_i32_4748 v4194
  v4195.toNat
def k0_dev196 (d0 : Dev nD) : Nat :=
  let c0_i32_4782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4781 : BitVec 32 := 1#32
  let v4220 : BitVec 32 := Scalar.muli v7 c1_i32_4781
  let v4221 : BitVec 32 := Scalar.addi c0_i32_4782 v4220
  v4221.toNat
def k0_dev197 (d0 : Dev nD) : Nat :=
  let c0_i32_4816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4815 : BitVec 32 := 1#32
  let v4246 : BitVec 32 := Scalar.muli v5 c1_i32_4815
  let v4247 : BitVec 32 := Scalar.addi c0_i32_4816 v4246
  v4247.toNat
def k0_dev198 (d0 : Dev nD) : Nat :=
  let c0_i32_4850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4849 : BitVec 32 := 1#32
  let v4272 : BitVec 32 := Scalar.muli v7 c1_i32_4849
  let v4273 : BitVec 32 := Scalar.addi c0_i32_4850 v4272
  v4273.toNat
def k0_dev199 (d0 : Dev nD) : Nat :=
  let c0_i32_4872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4871 : BitVec 32 := 1#32
  let v4281 : BitVec 32 := Scalar.muli v7 c1_i32_4871
  let v4282 : BitVec 32 := Scalar.addi c0_i32_4872 v4281
  v4282.toNat
def k0_dev200 (d0 : Dev nD) : Nat :=
  let c0_i32_4882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4881 : BitVec 32 := 1#32
  let v4291 : BitVec 32 := Scalar.muli v5 c1_i32_4881
  let v4292 : BitVec 32 := Scalar.addi c0_i32_4882 v4291
  v4292.toNat
def k0_dev201 (d0 : Dev nD) : Nat :=
  let c0_i32_4892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4891 : BitVec 32 := 1#32
  let v4301 : BitVec 32 := Scalar.muli v7 c1_i32_4891
  let v4302 : BitVec 32 := Scalar.addi c0_i32_4892 v4301
  v4302.toNat
def k0_dev202 (d0 : Dev nD) : Nat :=
  let c0_i32_4902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4901 : BitVec 32 := 1#32
  let v4311 : BitVec 32 := Scalar.muli v5 c1_i32_4901
  let v4312 : BitVec 32 := Scalar.addi c0_i32_4902 v4311
  v4312.toNat
def k0_dev203 (d0 : Dev nD) : Nat :=
  let c0_i32_4932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4931 : BitVec 32 := 1#32
  let v4338 : BitVec 32 := Scalar.muli v5 c1_i32_4931
  let v4339 : BitVec 32 := Scalar.addi c0_i32_4932 v4338
  v4339.toNat
def k0_dev204 (d0 : Dev nD) : Nat :=
  let c0_i32_4966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4965 : BitVec 32 := 1#32
  let v4364 : BitVec 32 := Scalar.muli v7 c1_i32_4965
  let v4365 : BitVec 32 := Scalar.addi c0_i32_4966 v4364
  v4365.toNat
def k0_dev205 (d0 : Dev nD) : Nat :=
  let c0_i32_5000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4999 : BitVec 32 := 1#32
  let v4390 : BitVec 32 := Scalar.muli v5 c1_i32_4999
  let v4391 : BitVec 32 := Scalar.addi c0_i32_5000 v4390
  v4391.toNat
def k0_dev206 (d0 : Dev nD) : Nat :=
  let c0_i32_5034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5033 : BitVec 32 := 1#32
  let v4416 : BitVec 32 := Scalar.muli v7 c1_i32_5033
  let v4417 : BitVec 32 := Scalar.addi c0_i32_5034 v4416
  v4417.toNat
def k0_dev207 (d0 : Dev nD) : Nat :=
  let c0_i32_5056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5055 : BitVec 32 := 1#32
  let v4425 : BitVec 32 := Scalar.muli v7 c1_i32_5055
  let v4426 : BitVec 32 := Scalar.addi c0_i32_5056 v4425
  v4426.toNat
def k0_dev208 (d0 : Dev nD) : Nat :=
  let c0_i32_5066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5065 : BitVec 32 := 1#32
  let v4435 : BitVec 32 := Scalar.muli v5 c1_i32_5065
  let v4436 : BitVec 32 := Scalar.addi c0_i32_5066 v4435
  v4436.toNat
def k0_dev209 (d0 : Dev nD) : Nat :=
  let c0_i32_5076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5075 : BitVec 32 := 1#32
  let v4445 : BitVec 32 := Scalar.muli v7 c1_i32_5075
  let v4446 : BitVec 32 := Scalar.addi c0_i32_5076 v4445
  v4446.toNat
def k0_dev210 (d0 : Dev nD) : Nat :=
  let c0_i32_5086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5085 : BitVec 32 := 1#32
  let v4455 : BitVec 32 := Scalar.muli v5 c1_i32_5085
  let v4456 : BitVec 32 := Scalar.addi c0_i32_5086 v4455
  v4456.toNat
def k0_dev211 (d0 : Dev nD) : Nat :=
  let c0_i32_5116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5115 : BitVec 32 := 1#32
  let v4482 : BitVec 32 := Scalar.muli v5 c1_i32_5115
  let v4483 : BitVec 32 := Scalar.addi c0_i32_5116 v4482
  v4483.toNat
def k0_dev212 (d0 : Dev nD) : Nat :=
  let c0_i32_5150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5149 : BitVec 32 := 1#32
  let v4508 : BitVec 32 := Scalar.muli v7 c1_i32_5149
  let v4509 : BitVec 32 := Scalar.addi c0_i32_5150 v4508
  v4509.toNat
def k0_dev213 (d0 : Dev nD) : Nat :=
  let c0_i32_5184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5183 : BitVec 32 := 1#32
  let v4534 : BitVec 32 := Scalar.muli v5 c1_i32_5183
  let v4535 : BitVec 32 := Scalar.addi c0_i32_5184 v4534
  v4535.toNat
def k0_dev214 (d0 : Dev nD) : Nat :=
  let c0_i32_5218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5217 : BitVec 32 := 1#32
  let v4560 : BitVec 32 := Scalar.muli v7 c1_i32_5217
  let v4561 : BitVec 32 := Scalar.addi c0_i32_5218 v4560
  v4561.toNat
def k0_dev215 (d0 : Dev nD) : Nat :=
  let c0_i32_5240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5239 : BitVec 32 := 1#32
  let v4569 : BitVec 32 := Scalar.muli v7 c1_i32_5239
  let v4570 : BitVec 32 := Scalar.addi c0_i32_5240 v4569
  v4570.toNat
def k0_dev216 (d0 : Dev nD) : Nat :=
  let c0_i32_5250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5249 : BitVec 32 := 1#32
  let v4579 : BitVec 32 := Scalar.muli v5 c1_i32_5249
  let v4580 : BitVec 32 := Scalar.addi c0_i32_5250 v4579
  v4580.toNat
def k0_dev217 (d0 : Dev nD) : Nat :=
  let c0_i32_5260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5259 : BitVec 32 := 1#32
  let v4589 : BitVec 32 := Scalar.muli v7 c1_i32_5259
  let v4590 : BitVec 32 := Scalar.addi c0_i32_5260 v4589
  v4590.toNat
def k0_dev218 (d0 : Dev nD) : Nat :=
  let c0_i32_5270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5269 : BitVec 32 := 1#32
  let v4599 : BitVec 32 := Scalar.muli v5 c1_i32_5269
  let v4600 : BitVec 32 := Scalar.addi c0_i32_5270 v4599
  v4600.toNat
def k0_dev219 (d0 : Dev nD) : Nat :=
  let c0_i32_5300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5299 : BitVec 32 := 1#32
  let v4626 : BitVec 32 := Scalar.muli v5 c1_i32_5299
  let v4627 : BitVec 32 := Scalar.addi c0_i32_5300 v4626
  v4627.toNat
def k0_dev220 (d0 : Dev nD) : Nat :=
  let c0_i32_5334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5333 : BitVec 32 := 1#32
  let v4652 : BitVec 32 := Scalar.muli v7 c1_i32_5333
  let v4653 : BitVec 32 := Scalar.addi c0_i32_5334 v4652
  v4653.toNat
def k0_dev221 (d0 : Dev nD) : Nat :=
  let c0_i32_5368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5367 : BitVec 32 := 1#32
  let v4678 : BitVec 32 := Scalar.muli v5 c1_i32_5367
  let v4679 : BitVec 32 := Scalar.addi c0_i32_5368 v4678
  v4679.toNat
def k0_dev222 (d0 : Dev nD) : Nat :=
  let c0_i32_5402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5401 : BitVec 32 := 1#32
  let v4704 : BitVec 32 := Scalar.muli v7 c1_i32_5401
  let v4705 : BitVec 32 := Scalar.addi c0_i32_5402 v4704
  v4705.toNat
def k0_dev223 (d0 : Dev nD) : Nat :=
  let c0_i32_5424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5423 : BitVec 32 := 1#32
  let v4713 : BitVec 32 := Scalar.muli v7 c1_i32_5423
  let v4714 : BitVec 32 := Scalar.addi c0_i32_5424 v4713
  v4714.toNat
def k0_dev224 (d0 : Dev nD) : Nat :=
  let c0_i32_5434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5433 : BitVec 32 := 1#32
  let v4723 : BitVec 32 := Scalar.muli v5 c1_i32_5433
  let v4724 : BitVec 32 := Scalar.addi c0_i32_5434 v4723
  v4724.toNat
def k0_dev225 (d0 : Dev nD) : Nat :=
  let c0_i32_5444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5443 : BitVec 32 := 1#32
  let v4733 : BitVec 32 := Scalar.muli v7 c1_i32_5443
  let v4734 : BitVec 32 := Scalar.addi c0_i32_5444 v4733
  v4734.toNat
def k0_dev226 (d0 : Dev nD) : Nat :=
  let c0_i32_5454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5453 : BitVec 32 := 1#32
  let v4743 : BitVec 32 := Scalar.muli v5 c1_i32_5453
  let v4744 : BitVec 32 := Scalar.addi c0_i32_5454 v4743
  v4744.toNat
def k0_dev227 (d0 : Dev nD) : Nat :=
  let c0_i32_5601_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5600_r0 : BitVec 32 := 1#32
  let v4862_r0 : BitVec 32 := Scalar.muli v5 c1_i32_5600_r0
  let v4863_r0 : BitVec 32 := Scalar.addi c0_i32_5601_r0 v4862_r0
  v4863_r0.toNat
def k0_dev228 (d0 : Dev nD) : Nat :=
  let c0_i32_5604_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5603_r0 : BitVec 32 := 1#32
  let v4864_r0 : BitVec 32 := Scalar.muli v7 c1_i32_5603_r0
  let v4865_r0 : BitVec 32 := Scalar.addi c0_i32_5604_r0 v4864_r0
  v4865_r0.toNat
abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== UnclippedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.K.Prog.lean ====
/- The kernel body written once per ring: the four rings of the printed body are the four values of
   one index, and its unrolled steps are the values of another. -/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Idealize.ShloMosaic Idealize.ShloMosaic.TcCoe Idealize.SL.Sem
open Cert.KernelIdeal Cert.KernelIdeal.Gen

/-! ## The buffers and the semaphores of a ring -/

/-- The whole window of `x`, the whole window of `w`, and the result. -/
abbrev xM : Memref sig .tc .vmem S8192x512 .bf16 := Memref.whole cc0_stg0_0
abbrev wM : Memref sig .tc .vmem S512x4096 .bf16 := Memref.whole cc0_stg1_0
abbrev oM : Memref sig .tc .hbm S8192x4096 .bf16 := Memref.whole main_v1

/-- The scratch buffer number `i` of ring `r`: `0` is what the ring sends from, `1` what it receives
    partial sums in, `2` what it receives finished chunks in. -/
def bufM (i : Fin 3) (r : Fin 4) : Memref sig .tc .vmem S2x512x1024 .bf16 :=
  match i, r with
  | 0, 0 => Memref.whole cc0_scratch0 | 1, 0 => Memref.whole cc0_scratch1 | 2, 0 => Memref.whole cc0_scratch2
  | 0, 1 => Memref.whole cc0_scratch9 | 1, 1 => Memref.whole cc0_scratch10 | 2, 1 => Memref.whole cc0_scratch11
  | 0, 2 => Memref.whole cc0_scratch18 | 1, 2 => Memref.whole cc0_scratch19 | 2, 2 => Memref.whole cc0_scratch20
  | 0, 3 => Memref.whole cc0_scratch27 | 1, 3 => Memref.whole cc0_scratch28 | 2, 3 => Memref.whole cc0_scratch29

/-- A buffer is seen whole. -/
theorem bufM_whole (i : Fin 3) (r : Fin 4) : (bufM i r).IsWhole := by
  fin_cases i <;> fin_cases r <;> exact Memref.isWhole_whole _

/-- The two slots of a scratch buffer. -/
theorem slot_inb (k : Fin 2) : ∀ a, (![k.val, 0, 0] : Fin 3 → Nat) a + S1x512x1024.size a ≤ S2x512x1024.size a := by
  revert k; decide
abbrev slotRect (k : Fin 2) : Rect S2x512x1024 := Rect.unit (s := S2x512x1024) ![k.val, 0, 0] S1x512x1024.size (slot_inb k)
/-- A slot is made of whole words. -/
theorem slot_words (k : Fin 2) : (slotRect k).WholeWords (EltTy.packing .bf16) := by
  fin_cases k
  · exact wordsbf16_S2x512x1024_S1x512x1024_0_0_0
  · exact wordsbf16_S2x512x1024_S1x512x1024_1_0_0
/-- A slot's rows are packed. -/
theorem slot_packed (k : Fin 2) : (slotRect k).PackedRows (EltTy.packing .bf16) := by
  fin_cases k
  · exact packedbf16_S2x512x1024_S1x512x1024_0_0_0
  · exact packedbf16_S2x512x1024_S1x512x1024_1_0_0

/-- A slot as a chunk of one leading row, and as the copies name it: with that row dropped. -/
abbrev slotM (i : Fin 3) (r : Fin 4) (k : Fin 2) : Memref sig .tc .vmem S1x512x1024 .bf16 :=
  (bufM i r).slice (slotRect k) (fun _ => rfl)
abbrev sqM (i : Fin 3) (r : Fin 4) (k : Fin 2) : Memref sig .tc .vmem S512x1024 .bf16 :=
  (slotM i r k).squeeze S512x1024 squeezes_S1x512x1024_S512x1024

/-- A slot as a transfer sees it is made of exact words. -/
theorem sqM_exact (i : Fin 3) (r : Fin 4) (k : Fin 2) : (sqM i r k).view.WordExact :=
  ((bufM_whole i r).wordExact_slice rfl _ (slot_words k)).reshape _ _

/-- The semaphores of ring `r`, by role. -/
def sendS (r : Fin 4) (k : Fin 2) : DmaSem sig := ⟨2 + 7 * r.val + k.val, by revert r k; decide⟩
def rsS (r : Fin 4) (k : Fin 2) : DmaSem sig := ⟨4 + 7 * r.val + k.val, by revert r k; decide⟩
def agS (r : Fin 4) (k : Fin 2) : DmaSem sig := ⟨6 + 7 * r.val + k.val, by revert r k; decide⟩
def copyS (r : Fin 4) : DmaSem sig := ⟨8 + 7 * r.val, by revert r; decide⟩
def rsC (r : Fin 4) : Sem sig := ⟨2 * r.val, by revert r; decide⟩
def agC (r : Fin 4) : Sem sig := ⟨2 * r.val + 1, by revert r; decide⟩
def barS : Sem sig := ⟨8, by decide⟩
def exitS : Sem sig := ⟨9, by decide⟩

/-! ## Who a ring sends to, and which chunks it names -/

/-- The left and the right neighbour, as the body computes them. -/
def leftD (d : Dev nD) : Dev nD := ⟨k0_dev1 d, k0_dev1_lt d⟩
def rightD (d : Dev nD) : Dev nD := ⟨k0_dev2 d, k0_dev2_lt d⟩
/-- Rings 0 and 2 send to the right, rings 1 and 3 to the left. -/
def toD (r : Fin 4) (d : Dev nD) : Dev nD := match r with
  | 0 => rightD d | 1 => leftD d | 2 => rightD d | 3 => leftD d
def fromD (r : Fin 4) (d : Dev nD) : Dev nD := match r with
  | 0 => leftD d | 1 => rightD d | 2 => leftD d | 3 => rightD d

/-- `n` steps in a ring's direction, as the body's words have it. -/
def stepW (r : Fin 4) (n : Nat) : BitVec 32 := match r with
  | 0 => BitVec.ofNat 32 n | 1 => BitVec.ofNat 32 (4294967296 - n)
  | 2 => BitVec.ofNat 32 n | 3 => BitVec.ofNat 32 (4294967296 - n)

/-- Which column of `w` a ring's chunks begin at. -/
def colN (r : Fin 4) : Nat := match r with | 0 => 0 | 1 => 2048 | 2 => 1024 | 3 => 3072

/-- A ring's columns of `w` lie inside `w`. -/
theorem w_inb (r : Fin 4) : ∀ a, (![0, colN r] : Fin 2 → Nat) a + S512x1024.size a ≤ S512x4096.size a := by
  revert r; decide
abbrev wRect (r : Fin 4) : Rect S512x4096 := Rect.unit (s := S512x4096) ![0, colN r] S512x1024.size (w_inb r)

abbrev x0Rect (d : Dev nD) : Rect S8192x512 := Rect.unit (s := S8192x512) (k0_off1 d) S512x512.size (k0_off1_inb d)

/-- The words the printed body computes the rows of `x` from, at step `s`, for either direction. -/
theorem x_at (s : Fin 15) : k0_off2_at ⟨2 * s.val, by omega⟩ = BitVec.ofNat 32 (s.val + 1)
    ∧ k0_off2_at ⟨2 * s.val + 1, by omega⟩ = BitVec.ofNat 32 (4294967296 - (s.val + 1)) := by
  revert s; decide
/-- The rows of `x` a step multiplies lie inside `x`. -/
theorem x_inb (r : Fin 4) (d : Dev nD) (s : Fin 15) :
    ∀ a, (k0_off2 d (stepW r (s.val + 1))) a + S512x512.size a ≤ S8192x512.size a := by
  have h1 := k0_off2_inb d ⟨2 * s.val, by omega⟩
  have h2 := k0_off2_inb d ⟨2 * s.val + 1, by omega⟩
  rw [(x_at s).1] at h1
  rw [(x_at s).2] at h2
  fin_cases r
  · exact h1
  · exact h2
  · exact h1
  · exact h2
/-- The rows of `x` a reduce-scatter step multiplies. -/
abbrev xRect (r : Fin 4) (d : Dev nD) (s : Fin 15) : Rect S8192x512 :=
  Rect.unit (s := S8192x512) (k0_off2 d (stepW r (s.val + 1))) S512x512.size (x_inb r d s)

/-- The words of the out chunk of local copy number `j`. -/
def outA (j : Fin 16) : BitVec 32 := if j.val = 0 then 32#32 else 16#32
def outB (r : Fin 4) (j : Fin 16) : BitVec 32 := if j.val = 0 then stepW r 15 else stepW r (j.val - 1)
def outOff (r : Fin 4) (d : Dev nD) (j : Fin 16) : Fin 2 → Nat := match r with
  | 0 => k0_off3 d (outA j) (outB 0 j) | 1 => k0_off4 d (outA j) (outB 1 j)
  | 2 => k0_off5 d (outA j) (outB 2 j) | 3 => k0_off6 d (outA j) (outB 3 j)
/-- The words the printed body computes the places of the local copies from, for each ring. -/
theorem out_at (j : Fin 16) : k0_off3_at j = (outA j, outB 0 j) ∧ k0_off4_at j = (outA j, outB 1 j)
    ∧ k0_off5_at j = (outA j, outB 2 j) ∧ k0_off6_at j = (outA j, outB 3 j) := by
  revert j; decide
/-- A chunk of the result lies inside the result, and is made of whole words. -/
theorem out_ok (r : Fin 4) (d : Dev nD) (j : Fin 16) :
    ∃ h : ∀ a, (outOff r d j) a + S512x1024.size a ≤ S8192x4096.size a,
      (Rect.unit (s := S8192x4096) (outOff r d j) S512x1024.size h).WholeWords (EltTy.packing .bf16) := by
  obtain ⟨e0, e1, e2, e3⟩ := out_at j
  fin_cases r
  · have h : ∃ h, (Rect.unit (s := S8192x4096) (k0_off3 d (k0_off3_at j).1 (k0_off3_at j).2) S512x1024.size h).WholeWords
        (EltTy.packing .bf16) := ⟨_, k0_off3_wordsbf16 d j⟩
    rw [e0] at h; exact h
  · have h : ∃ h, (Rect.unit (s := S8192x4096) (k0_off4 d (k0_off4_at j).1 (k0_off4_at j).2) S512x1024.size h).WholeWords
        (EltTy.packing .bf16) := ⟨_, k0_off4_wordsbf16 d j⟩
    rw [e1] at h; exact h
  · have h : ∃ h, (Rect.unit (s := S8192x4096) (k0_off5 d (k0_off5_at j).1 (k0_off5_at j).2) S512x1024.size h).WholeWords
        (EltTy.packing .bf16) := ⟨_, k0_off5_wordsbf16 d j⟩
    rw [e2] at h; exact h
  · have h : ∃ h, (Rect.unit (s := S8192x4096) (k0_off6 d (k0_off6_at j).1 (k0_off6_at j).2) S512x1024.size h).WholeWords
        (EltTy.packing .bf16) := ⟨_, k0_off6_wordsbf16 d j⟩
    rw [e3] at h; exact h
abbrev outRect (r : Fin 4) (d : Dev nD) (j : Fin 16) : Rect S8192x4096 :=
  Rect.unit (s := S8192x4096) (outOff r d j) S512x1024.size (out_ok r d j).1
/-- The chunk of the result local copy number `j` of ring `r` writes. -/
abbrev outM (r : Fin 4) (d : Dev nD) (j : Fin 16) : Memref sig .tc .hbm S512x1024 .bf16 :=
  oM.slice (outRect r d j) (fun _ => rfl)
/-- A chunk of the result, as a transfer sees it, is made of exact words. -/
theorem outM_exact (r : Fin 4) (d : Dev nD) (j : Fin 16) : (outM r d j).view.WordExact :=
  (Memref.isWhole_whole _).wordExact_slice rfl _ (out_ok r d j).2

/-- The slot step `s` uses, and the other one. -/
def slA (s : Nat) : Fin 2 := ⟨s % 2, by omega⟩
/-- The buffer and the slot all-gather step `t` sends from. -/
def srcB (t : Nat) : Fin 3 := if t = 0 then 0 else 2

variable {F : FTy → Type} [FloatOps F]

/-! ## The values -/

/-- A product of 512 rows of `x` and 1024 columns of `w`. -/
def prodF (a : Vec F S512x512 .bf16) (b : Vec F S512x1024 .bf16) : FVec F S512x1024 .f32 :=
  matmul dot_S512x512_S512x1024_S512x1024_1_0_0_1_n_n none (shapeCast S512x512 a shapeCasts_S512x512_S512x512)
    (shapeCast S512x1024 b shapeCasts_S512x1024_S512x1024) (constant S512x1024 .f32 0x00000000#32)
/-- What is stored of a sum in single precision: rounded, as a slot. -/
def slotF (a : FVec F S512x1024 .f32) : FVec F S1x512x1024 .bf16 :=
  shapeCast S1x512x1024 (truncf .bf16 a bitsLt_bf16_f32) shapeCasts_S512x1024_S1x512x1024
/-- What is received, widened, with this device's product added. -/
def accF (p : FVec F S512x1024 .f32) (v : Vec F S1x512x1024 .bf16) : FVec F S512x1024 .f32 :=
  addf (extf .f32 (shapeCast S512x1024 v shapeCasts_S1x512x1024_S512x1024) bitsLt_bf16_f32) p
/-- A finished sum times its logistic. -/
def siluF (a : FVec F S512x1024 .f32) : FVec F S512x1024 .f32 := mulf a (logistic a)

/-! ## The operations -/

/-- A program of the body. -/
abbrev PB (F : FTy → Type) [FloatOps F] (α : Type) := Prog (TpuEff nD τ sig (Elt F) Λ₀ .tc) α

/-- Rows of `x` times the ring's columns of `w`. -/
def loadProd (r : Fin 4) (o : Fin 2 → Nat) (h : ∀ a, o a + S512x512.size a ≤ S8192x512.size a) : PB F (FVec F S512x1024 .f32) := do
  let a : Vec F S512x512 .bf16 ← Prog.lift (.load xM (Rect.unit (s := S8192x512) o S512x512.size h).toLoadRect (View.loadsAt_vmem h_S512x512))
  let b : Vec F S512x1024 .bf16 ← Prog.lift (.load wM (wRect r).toLoadRect (View.loadsAt_vmem h_S512x1024))
  pure (prodF a b)

/-- Fill a slot of a ring's send buffer. -/
def fillSlot (r : Fin 4) (k : Fin 2) (v : FVec F S1x512x1024 .bf16) : PB F PUnit := do
  let _ : Vec F S1x512x1024 .bf16 ← Prog.lift (.load (bufM 0 r) (slotRect k).toLoadRect (View.loadsAt_vmem h_S1x512x1024))
  Prog.lift (.store (bufM 0 r) (slotRect k) v Finset.univ (View.stores_vmem h_S1x512x1024
    ((bufM_whole 0 r).storeExact_slice rfl _ (slot_packed k)) (fun _ => rfl)) (.inl rfl))

/-- Send a slot to the same ring's slot `k'` of buffer `i'` on the next device. -/
def sendP (d : Dev nD) (r : Fin 4) (i : Fin 3) (k : Fin 2) (i' : Fin 3) (k' : Fin 2) (sS sR : DmaSem sig) : PB F PUnit :=
  Prog.lift (.enqueueDma (sqM i r k) (.remote (Dev.tc (toD r d)) (sqM i' r k') (.dma sS)) (.dma sR)
    (sqM_exact i r k) (sqM_exact i' r k') ⟨⟨rfl, Or.inl rfl⟩, trivial⟩)

/-- Wait for a transfer between two slots. -/
def waitP (s : DmaSem sig) (r : Fin 4) (i : Fin 3) (k : Fin 2) (i' : Fin 3) (k' : Fin 2) : PB F PUnit :=
  Prog.lift (.waitDma2 s (sqM i r k) (sqM i' r k') (sqM_exact i r k) (sqM_exact i' r k'))

/-- Start local copy number `j` from a slot to its chunk of the result, and wait for it. -/
def copyP (d : Dev nD) (r : Fin 4) (i : Fin 3) (k : Fin 2) (j : Fin 16) : PB F PUnit :=
  Prog.lift (.enqueueDma (sqM i r k) (.here (outM r d j)) (.dma (copyS r)) (sqM_exact i r k) (outM_exact r d j) ⟨Or.inl rfl, trivial⟩)
def waitCopyP (d : Dev nD) (r : Fin 4) (i : Fin 3) (k : Fin 2) (j : Fin 16) : PB F PUnit :=
  Prog.lift (.waitDma2 (copyS r) (sqM i r k) (outM r d j) (sqM_exact i r k) (outM_exact r d j))

/-- The same for each ring, in order. -/
def each (f : Fin 4 → PB F PUnit) : PB F PUnit := do
  f 0
  f 1
  f 2
  f 3

/-- Do it if the condition holds. -/
def whenP (b : Bool) (f : PB F PUnit) : PB F PUnit := match b with | true => f | false => pure ⟨⟩

/-! ## The steps -/

/-- The handshake at the start: tell both neighbours, hear from both. -/
def hello (d : Dev nD) : PB F PUnit := do
  semSignalWord (leftD d) barS 1#32
  semSignalWord (rightD d) barS 1#32
  semWaitWord barS 2#32
/-- The handshake at the end. -/
def goodbye (d : Dev nD) : PB F PUnit := do
  semSignalWord (leftD d) exitS 1#32
  semSignalWord (rightD d) exitS 1#32
  semWaitWord exitS 2#32

/-- Ring `r`'s first partial sum. -/
def prologue (d : Dev nD) (r : Fin 4) : PB F PUnit := do
  let p ← loadProd r (k0_off1 d) (k0_off1_inb d)
  fillSlot r 0 (slotF p)

/-- What ring `r` does with what it received in reduce-scatter step `s`. -/
def rsTake (d : Dev nD) (s : Fin 15) (r : Fin 4) (p : FVec F S512x1024 .f32) : PB F PUnit := do
  waitP (rsS r (slA s.val)) r 0 (slA s.val) 1 (slA s.val)
  let v : Vec F S1x512x1024 .bf16 ← Prog.lift (.load (bufM 1 r) (slotRect (slA s.val)).toLoadRect (View.loadsAt_vmem h_S1x512x1024))
  whenP (decide (1 ≤ s.val)) (waitP (sendS r (slA (s.val + 1))) r 1 (slA (s.val + 1)) 0 (slA (s.val + 1)))
  fillSlot r (slA (s.val + 1)) (slotF (if s.val = 14 then siluF (accF p v) else accF p v))
  whenP (decide (s.val < 13)) (semSignalWord (fromD r d) (rsC r) 1#32)
  whenP (decide (s.val = 14)) (copyP d r 0 1 0)

/-- Reduce-scatter step `s`. -/
def rsStep (d : Dev nD) (s : Fin 15) : PB F PUnit := do
  whenP (decide (2 ≤ s.val)) (each fun r => semWaitWord (rsC r) 1#32)
  each fun r => sendP d r 0 (slA s.val) 1 (slA s.val) (sendS r (slA s.val)) (rsS r (slA s.val))
  let p0 ← loadProd 0 (k0_off2 d (stepW 0 (s.val + 1))) (x_inb 0 d s)
  let p1 ← loadProd 1 (k0_off2 d (stepW 1 (s.val + 1))) (x_inb 1 d s)
  let p2 ← loadProd 2 (k0_off2 d (stepW 2 (s.val + 1))) (x_inb 2 d s)
  let p3 ← loadProd 3 (k0_off2 d (stepW 3 (s.val + 1))) (x_inb 3 d s)
  each fun r => rsTake d s r (match r with | 0 => p0 | 1 => p1 | 2 => p2 | 3 => p3)

/-- The buffer and the slot local copy number `j` reads. -/
def cpB (j : Nat) : Fin 3 := srcB j

/-- What ring `r` does with what it received in all-gather step `t`. -/
def agTake (d : Dev nD) (t : Fin 15) (r : Fin 4) : PB F PUnit := do
  waitP (agS r (slA t.val)) r (srcB t.val) (slA (t.val + 1)) 2 (slA t.val)
  waitP (sendS r 0) r 2 (slA t.val) (srcB t.val) (slA (t.val + 1))
  waitCopyP d r (srcB t.val) (slA (t.val + 1)) t.castSucc
  whenP (decide (1 ≤ t.val ∧ t.val ≤ 13)) (semSignalWord (fromD r d) (agC r) 1#32)
  copyP d r 2 (slA t.val) t.succ

/-- All-gather step `t`. -/
def agStep (d : Dev nD) (t : Fin 15) : PB F PUnit := do
  whenP (decide (2 ≤ t.val)) (each fun r => semWaitWord (agC r) 1#32)
  each fun r => sendP d r (srcB t.val) (slA (t.val + 1)) 2 (slA t.val) (sendS r 0) (agS r (slA t.val))
  each (agTake d t)

/-- The first `n` steps. -/
def upTo (f : Fin 15 → PB F PUnit) : (n : Nat) → n ≤ 15 → PB F PUnit
  | 0, _ => pure ⟨⟩
  | n + 1, h => do
    upTo f n (Nat.le_of_succ_le h)
    f ⟨n, h⟩

/-- The body. -/
def prog : PB F PUnit := do
  let d ← Prog.lift .deviceId
  hello d
  each (prologue d)
  upTo (rsStep d) 15 (Nat.le_refl _)
  each fun r => waitP (sendS r 0) r 1 0 0 0
  upTo (agStep d) 15 (Nat.le_refl _)
  each fun r => waitCopyP d r 2 0 15
  goodbye d

/-- The printed body, on the buffers the launch gives it. -/
def bodyK (t : Fin grid0.N) : PB F PUnit := cc0_body (win0_0.stage (cfg0.slots t 0)) (hstage0_0 0) (win0_1.stage (cfg0.slots t 1)) (hstage0_1 0) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24 cc0_scratch25 cc0_scratch26 (Memref.whole cc0_scratch27) (Memref.isWhole_whole _) (Memref.whole cc0_scratch28) (Memref.isWhole_whole _) (Memref.whole cc0_scratch29) (Memref.isWhole_whole _) cc0_scratch30 cc0_scratch31 cc0_scratch32 cc0_scratch33 cc0_scratch34 cc0_scratch35 cc0_scoped0

set_option maxRecDepth 100000 in
/-- The printed body is the loop over rings and steps. -/
theorem body_eq (t : Fin grid0.N) : bodyK (F := F) t = prog := by
  chain_rfl

end Cert.KernelIdeal.Ring
-- ==== Proof.K.Proto.lean ====
/- The protocol of the ring kernel: its cells, the values that travel, what each signal and each
   transfer hands over, and what a device owes and may wait for. -/
module

public import proofs.«01_k».proof.Proof.K.Prog

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The ring -/

/-- The device behind and the device ahead on a ring undo each other. -/
theorem toD_fromD (r : Fin 4) (d : Dev nD) : toD r (fromD r d) = d := by revert r d; decide +kernel
/-- The same, the other way round. -/
theorem fromD_toD (r : Fin 4) (d : Dev nD) : fromD r (toD r d) = d := by revert r d; decide +kernel
/-- Left of right is where one was. -/
theorem leftD_rightD (d : Dev nD) : leftD (rightD d) = d := by revert d; decide +kernel
/-- Right of left is where one was. -/
theorem rightD_leftD (d : Dev nD) : rightD (leftD d) = d := by revert d; decide +kernel

/-- The device `n` places up the ring. -/
def back (r : Fin 4) : ℕ → Dev nD → Dev nD
  | 0, d => d
  | n + 1, d => back r n (fromD r d)

/-! ## Cells -/

/-- The nine semaphores of one ring. -/
inductive RK where
  | send (k : Fin 2) | rs (k : Fin 2) | ag (k : Fin 2) | copy | rsc | agc
deriving DecidableEq

instance : Fintype RK where
  elems := {.send 0, .send 1, .rs 0, .rs 1, .ag 0, .ag 1, .copy, .rsc, .agc}
  complete x := by
    cases x with
    | send k => revert k; decide
    | rs k => revert k; decide
    | ag k => revert k; decide
    | copy => decide
    | rsc => decide
    | agc => decide

/-- The semaphores the body scopes: the rings' and the one of the closing handshake. -/
abbrev OK := (Fin 4 × RK) ⊕ Unit
/-- All of them: the barrier too. -/
abbrev CK := OK ⊕ Unit

abbrev CK.ring (r : Fin 4) (x : RK) : CK := .inl (.inl (r, x))
abbrev CK.exit : CK := .inl (.inr ())
abbrev CK.bar : CK := .inr ()

def locOf : CK → SemLoc sig
  | .inl (.inl (r, .send k)) => .dma (sendS r k)
  | .inl (.inl (r, .rs k)) => .dma (rsS r k)
  | .inl (.inl (r, .ag k)) => .dma (agS r k)
  | .inl (.inl (r, .copy)) => .dma (copyS r)
  | .inl (.inl (r, .rsc)) => .reg (rsC r)
  | .inl (.inl (r, .agc)) => .reg (agC r)
  | .inl (.inr ()) => .reg exitS
  | .inr () => .reg barS

/-- The ring a number belongs to, `q` numbers to each. -/
def ringNo (n : ℕ) : Fin 4 := ⟨n % 4, by omega⟩

/-- Which of them a semaphore is. -/
def ckOf : SemLoc sig → Option CK
  | .dma s => if s.val < 2 then none else
      some (.ring (ringNo ((s.val - 2) / 7)) (match (s.val - 2) % 7 with
        | 0 => .send 0 | 1 => .send 1 | 2 => .rs 0 | 3 => .rs 1 | 4 => .ag 0 | 5 => .ag 1 | _ => .copy))
  | .reg s => if s.val = 9 then some .exit else if s.val = 8 then some .bar else
      some (.ring (ringNo (s.val / 2)) (if s.val % 2 = 0 then .rsc else .agc))

/-- The semaphore at a ring's place is the ring's. -/
theorem ckOf_ring : ∀ (r : Fin 4) (x : RK), ckOf (locOf (.ring r x)) = some (.ring r x) := by decide +kernel
/-- The semaphore at a place is the one placed there. -/
theorem ckOf_locOf (x : CK) : ckOf (locOf x) = some x := by
  rcases x with (⟨r, x⟩ | ⟨⟩) | ⟨⟩
  · exact ckOf_ring r x
  · rfl
  · rfl
/-- Different semaphores lie at different places. -/
theorem locOf_inj : Function.Injective locOf := fun x y h => by
  have := congrArg ckOf h
  rw [ckOf_locOf, ckOf_locOf] at this
  exact Option.some.inj this

abbrev cell (d : Dev nD) (x : CK) : GSem nD τ sig := ((d : Thread nD τ), locOf x)

/-- Which one a cell of a device's core is. -/
def kOf (g : GSem nD τ sig) : Option CK := if g.1.2 = .tc then ckOf g.2 else none
/-- A cell of a device says which semaphore it is. -/
theorem kOf_cell (d : Dev nD) (x : CK) : kOf (cell d x) = some x := by
  unfold kOf; rw [if_pos rfl]; exact ckOf_locOf x

/-! ## The algebra -/

variable {F : FTy → Type} [FloatOps F]

abbrev UC : Type := URounds (GSem nD τ sig) ℕ
abbrev UX : Type := URounds (Dev nD × Fin 4) ℕ
abbrev UU : Type := UR sig nD τ × (UC × UX)

local notation "𝕄" => MT nD τ sig ℕ (Elt F) ℕ UU ℕ

abbrev EP : Emb (UR sig nD τ) (MT nD τ sig ℕ (Elt F) ℕ UU ℕ) := embL
abbrev ER : Emb UC (MT nD τ sig ℕ (Elt F) ℕ UU ℕ) := (Emb.inl : Emb UC (UC × UX)).trans embR
abbrev EB : Emb UX (MT nD τ sig ℕ (Elt F) ℕ UU ℕ) := (Emb.inr : Emb UX (UC × UX)).trans embR

abbrev 𝒱₀ : Variants := Variants.none

variable (m : (ℓ : Loc nD τ sig) → Buf (Elt F) ℓ) (ρ : Dev nD → PrngReg)

def s₀ : MemSt nD τ sig (Elt F) := ⟨m, fun _ => 0, ρ⟩

/-! ## The values that travel -/

/-- The two windows of a device: its columns of `x`, its rows of `w`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- What a device multiplies: `512` rows of its `x`, the ring's columns of its `w`. -/
def prodAt (r : Fin 4) (c : Dev nD) (R : Rect S8192x512) (h : R.shape = S512x512) : FVec F S512x1024 .f32 :=
  prodF (fun i => xM.view.read (Elt F) (xstg m ρ c) (R.emb (h ▸ i))) (fun i => wM.view.read (Elt F) (wstg m ρ c) ((wRect r).emb i))
/-- A ring's first product, and the one of reduce-scatter step `n`. -/
def prod0 (r : Fin 4) (c : Dev nD) : FVec F S512x1024 .f32 := prodAt m ρ r c (x0Rect c) rfl
def prodN (r : Fin 4) (c : Dev nD) (n : ℕ) : FVec F S512x1024 .f32 :=
  if h : n < 15 then prodAt m ρ r c (xRect r c ⟨n, h⟩) rfl else prod0 m ρ r c

/-- What a device holds to send at reduce-scatter step `n`; after the last step, its finished chunk. -/
def sendV (r : Fin 4) : ℕ → Dev nD → FVec F S1x512x1024 .bf16
  | 0, d => slotF (prod0 m ρ r d)
  | n + 1, d => slotF (if n = 14 then siluF (accF (prodN m ρ r d n) (sendV r n (fromD r d)))
      else accF (prodN m ρ r d n) (sendV r n (fromD r d)))
/-- The finished chunk of a device. -/
def finV (r : Fin 4) (d : Dev nD) : FVec F S1x512x1024 .bf16 := sendV m ρ r 15 d
/-- A chunk as it lies in the result. -/
def outV (v : FVec F S1x512x1024 .bf16) : FVec F S512x1024 .bf16 := shapeCast S512x1024 v shapeCasts_S1x512x1024_S512x1024

/-! ## What is owned -/

/-- A slot of device `d` at a share, holding `v`; and outright, holding anything. -/
def slotP (i : Fin 3) (r : Fin 4) (k : Fin 2) (q : PosShare TreeShare) (d : Dev nD) (v : FVec F S1x512x1024 .bf16) : sProp 𝕄 :=
  owns (d : Thread nD τ) (slotM i r k) q v
def slotX (i : Fin 3) (r : Fin 4) (k : Fin 2) (d : Dev nD) : sProp 𝕄 := iprop(∃ v, slotP i r k fullShare d v)
/-- The chunk of the result local copy `j` of ring `r` writes, holding `v`, or anything. -/
def outP (r : Fin 4) (d : Dev nD) (j : Fin 16) (v : FVec F S512x1024 .bf16) : sProp 𝕄 :=
  owns (d : Thread nD τ) (outM r d j) fullShare v
def outX (r : Fin 4) (d : Dev nD) (j : Fin 16) : sProp 𝕄 := iprop(∃ v, outP r d j v)

abbrev pos (d : Dev nD) (x : CK) (n : ℕ) : sProp 𝕄 := atPos ER (cell d x) n ∅ 0
abbrev rch (d : Dev nD) (x : CK) (n : ℕ) : sProp 𝕄 := reached ER (cell d x) n
abbrev tok (d : Dev nD) (x : CK) (n : ℕ) (i : ℕ) : sProp 𝕄 := dutyTok ER (cell d x) n i
abbrev crd (d : Dev nD) (x : CK) (ι : ℕ) (n : ℕ) : sProp 𝕄 := cred (tallyAt (cell d x) ι n)

instance slotP_storable (i : Fin 3) (r : Fin 4) (k : Fin 2) (q) (d : Dev nD) (v) :
    BI.Storable (upEmb : UEmb _ 𝕄) (slotP (F := F) i r k q d v) := by unfold slotP; infer_instance
instance slotX_storable (i : Fin 3) (r : Fin 4) (k : Fin 2) (d : Dev nD) :
    BI.Storable (upEmb : UEmb _ 𝕄) (slotX (F := F) i r k d) := by unfold slotX; infer_instance
instance outP_storable (r : Fin 4) (d : Dev nD) (j : Fin 16) (v) :
    BI.Storable (upEmb : UEmb _ 𝕄) (outP (F := F) r d j v) := by unfold outP; infer_instance

/-- The credits of a transfer into a slot, and into a chunk of the result. -/
def NS : ℕ := (sqM 0 0 0).view.dmaCredit
def NC : ℕ := (outM 0 0 0).view.dmaCredit
/-- A transfer into a slot gives some credit. -/
theorem NS_pos : 0 < NS := View.dmaCredit_pos _ (by decide)
/-- A local copy gives some credit. -/
theorem NC_pos : 0 < NC := View.dmaCredit_pos _ (by decide)
/-- A transfer into any slot gives the same credit. -/
theorem sq_credit (i : Fin 3) (r : Fin 4) (k : Fin 2) : (sqM i r k).view.dmaCredit = NS := by
  unfold NS
  fin_cases i <;> fin_cases r <;> rfl
/-- Every local copy gives the same credit. -/
theorem out_credit (r : Fin 4) (d : Dev nD) (j : Fin 16) : (outM r d j).view.dmaCredit = NC := rfl

/-! ## The schedule -/

/-- The receive buffers of ring `r`, of both phases, on the next device, for a device to fill, and that nothing has landed there. -/
def peerX (r : Fin 4) (d : Dev nD) : sProp 𝕄 :=
  iprop((slotX 1 r 0 (toD r d) ∗ rch (toD r d) (.ring r (.rs 0)) 0) ∗ (slotX 1 r 1 (toD r d) ∗ rch (toD r d) (.ring r (.rs 1)) 0)
    ∗ (slotX 2 r 0 (toD r d) ∗ rch (toD r d) (.ring r (.ag 0)) 0) ∗ (slotX 2 r 1 (toD r d) ∗ rch (toD r d) (.ring r (.ag 1)) 0))
instance peerX_storable (r : Fin 4) (d : Dev nD) : BI.Storable (upEmb : UEmb _ 𝕄) (peerX (F := F) r d) := by
  unfold peerX; infer_instance

def kDuties : CK → ℕ → Finset ℕ
  | .inl (.inl (r, .send k)), n => if n < 23 - 16 * k.val then {0} else ∅
  | .inl (.inl (r, .rs k)), n => if n < 8 - k.val then {0} else ∅
  | .inl (.inl (r, .ag k)), n => if n < 8 - k.val then {0} else ∅
  | .inl (.inl (r, .copy)), n => if n < 16 then {0} else ∅
  | .inl (.inl (r, .rsc)), n => if n < 1 then Finset.range 13 else ∅
  | .inl (.inl (r, .agc)), n => if n < 13 then {0} else ∅
  | .inl (.inr ()), n => if n < 1 then Finset.range 2 else ∅
  | .inr (), n => if n < 1 then Finset.range 2 else ∅

def kAmount : CK → ℕ
  | .inl (.inl (r, .send k)) => NS
  | .inl (.inl (r, .rs k)) => NS
  | .inl (.inl (r, .ag k)) => NS
  | .inl (.inl (r, .copy)) => NC
  | .inl (.inl (r, .rsc)) => 1
  | .inl (.inl (r, .agc)) => 1
  | .inl (.inr ()) => 1
  | .inr () => 1
/-- Every duty is worth something. -/
theorem kAmount_pos (x : CK) : 0 < kAmount x := by
  rcases x with (⟨r, x⟩ | ⟨⟩) | ⟨⟩
  · cases x <;> first | exact NS_pos | exact NC_pos | exact Nat.one_pos
  · exact Nat.one_pos
  · exact Nat.one_pos

/-- The source all-gather step `t` and local copy `t` share. -/
abbrev srcP (r : Fin 4) (t : ℕ) (q : PosShare TreeShare) (d : Dev nD) : sProp 𝕄 :=
  slotP (srcB t) r (slA (t + 1)) q d (finV m ρ r (back r t d))

def kPay (d : Dev nD) : CK → ℕ → ℕ → sProp 𝕄
  | .inl (.inl (r, .send k)), n, _ =>
      if n < 8 - k.val then slotP 0 r k fullShare d (sendV m ρ r (2 * n + k.val) d) else srcP m ρ r (n - 8) fullShare.left d
  | .inl (.inl (r, .rs k)), n, _ => slotP 1 r k fullShare d (sendV m ρ r (2 * n + k.val) (fromD r d))
  | .inl (.inl (r, .ag k)), n, _ =>
      iprop(slotP 2 r k fullShare d (finV m ρ r (back r (2 * n + k.val + 1) d)) ∗ rch (fromD r d) (.ring r .agc) (2 * n + k.val - 1))
  | .inl (.inl (r, .copy)), n, _ =>
      if h : n < 16 then iprop(outP r d ⟨n, h⟩ (outV (finV m ρ r (back r n d))) ∗ srcP m ρ r n fullShare.right d) else iprop(emp)
  | .inl (.inl (r, .rsc)), _, i => reached EB (toD r d, r) (i + 1)
  | .inl (.inl (r, .agc)), n, _ => iprop(slotX 2 r (slA n) (toD r d) ∗ rch (toD r d) (.ring r (.ag (slA n))) (n / 2 + 1))
  | .inl (.inr ()), _, _ => iprop(emp)
  | .inr (), _, i => if i = 1 then iprop(peerX 0 d ∗ peerX 2 d) else iprop(peerX 1 d ∗ peerX 3 d)

instance kPay_storable (d : Dev nD) (x : CK) (n i : ℕ) : BI.Storable (upEmb : UEmb _ 𝕄) (kPay m ρ d x n i) := by
  rcases x with (⟨r, x⟩ | ⟨⟩) | ⟨⟩
  · cases x <;> unfold kPay <;> dsimp only <;> (repeat' split) <;> infer_instance
  · unfold kPay; infer_instance
  · unfold kPay; dsimp only; split <;> infer_instance

def Rd : Rounds.Schedule (GSem nD τ sig) ℕ 𝕄 where
  duties g n := match kOf g with | some x => kDuties x n | none => ∅
  unitless _ := False
  amount g _ _ := match kOf g with | some x => kAmount x | none => 1
  payload g n i := match kOf g with | some x => kPay m ρ g.1.1 x n i | none => iprop(emp)
  amount_pos g _ _ _ := by
    cases h : kOf g with
    | none => exact Nat.one_pos
    | some x => exact kAmount_pos x

instance Rd_payload_storable (g : GSem nD τ sig) (n i : ℕ) :
    BI.Storable (upEmb : UEmb _ 𝕄) ((Rd m ρ).payload g n i) := by
  show BI.Storable upEmb (match kOf g with | some x => kPay m ρ g.1.1 x n i | none => iprop(emp))
  cases kOf g <;> infer_instance

/-- The duties of a cell's round, as the protocol lists them. -/
theorem Rd_duties (d : Dev nD) (x : CK) (n : ℕ) : (Rd m ρ).duties (cell d x) n = kDuties x n := by
  show (match kOf (cell d x) with | some x => kDuties x n | none => ∅) = _
  rw [kOf_cell]
/-- What a duty of a cell is worth, as the protocol lists it. -/
theorem Rd_amount (d : Dev nD) (x : CK) (n i : ℕ) : (Rd m ρ).amount (cell d x) n i = kAmount x := by
  show (match kOf (cell d x) with | some x => kAmount x | none => 1) = _
  rw [kOf_cell]
/-- What a duty of a cell hands over, as the protocol lists it. -/
theorem Rd_payload (d : Dev nD) (x : CK) (n i : ℕ) : (Rd m ρ).payload (cell d x) n i = kPay m ρ d x n i := by
  show (match kOf (cell d x) with | some x => kPay m ρ d x n i | none => iprop(emp)) = _
  rw [kOf_cell]
/-- What a round of a cell is worth: its duties times the worth of one. -/
theorem Rd_expect (d : Dev nD) (x : CK) (n : ℕ) : (Rd m ρ).expect (cell d x) n = (kDuties x n).card * kAmount x := by
  unfold Schedule.expect Schedule.amountOf
  rw [Rd_duties, Finset.sum_congr rfl fun i _ => Rd_amount m ρ d x n i, Finset.sum_const, smul_eq_mul]

/-! ## The returned slots of the reduce-scatter -/

/-- Where device `d` leaves the slots it has read, for the device above it on ring `r`: each is there, or has been
    taken against the token of the step that takes it. -/
def boxP (d : Dev nD) (r : Fin 4) : sProp 𝕄 :=
  iprop(∃ R : ℕ, roundAuth EB (d, r) R ∅ 0
    ∗ bigSep (Finset.range R) fun n =>
        iprop((slotX 1 r (slA n) d ∗ rch d (.ring r (.rs (slA n))) (n / 2 + 1)) ∨ dutyTok EB (d, r) (n + 2) 0))
instance boxP_storable (d : Dev nD) (r : Fin 4) : BI.Storable (upEmb : UEmb _ 𝕄) (boxP (F := F) d r) := by
  unfold boxP; infer_instance

/-- The names of the invariants: one per cell, one per box. -/
structure Nms where
  K : Dev nD × CK → ℕ
  B : Dev nD × Fin 4 → ℕ

def Ctx (n : Nms) : sProp 𝕄 :=
  iprop(bigSep Finset.univ (fun p : Dev nD × CK => cellInv ER (Rd m ρ) (n.K p) (cell p.1 p.2))
    ∗ bigSep Finset.univ (fun p : Dev nD × Fin 4 => inv (n.B p) (boxP (F := F) p.1 p.2)))
instance Ctx_persistent (n : Nms) : BI.Persistent (Ctx m ρ n) := by unfold Ctx; infer_instance
/-- What everyone knows gives the invariant of any cell. -/
theorem Ctx_cell (n : Nms) (d : Dev nD) (x : CK) : Ctx m ρ n ⊢ cellInv ER (Rd m ρ) (n.K (d, x)) (cell d x) := by
  refine BIBase.Entails.trans ?_ (bigSep_elim (Φ := fun p : Dev nD × CK => cellInv ER (Rd m ρ) (n.K p) (cell p.1 p.2)) (Finset.mem_univ (d, x)))
  unfold Ctx
  iintro ⟨H, -⟩
  iexact H
/-- What everyone knows gives the invariant of any box. -/
theorem Ctx_box (n : Nms) (d : Dev nD) (r : Fin 4) : Ctx m ρ n ⊢ inv (n.B (d, r)) (boxP (F := F) d r) := by
  refine BIBase.Entails.trans ?_ (bigSep_elim (Φ := fun p : Dev nD × Fin 4 => inv (n.B p) (boxP (F := F) p.1 p.2)) (Finset.mem_univ (d, r)))
  unfold Ctx
  iintro ⟨-, H⟩
  iexact H

/-! ## What is owed -/

/-- A payment to come: the cell, the index it is counted under, how much. -/
abbrev Item := (Dev nD × CK) × ℕ × ℕ
def oweL : List Item → CellTallies nD τ sig ℕ
  | [] => 0
  | x :: l => oweL l + tallyAt (cell x.1.1 x.1.2) x.2.1 x.2.2

/-- One item per ring. -/
def four (f : Fin 4 → Item) : List Item := [f 0, f 1, f 2, f 3]
def rsSends (d : Dev nD) (s : ℕ) : Fin 4 → Item := fun r => ((toD r d, .ring r (.rs (slA s))), 11 + 2 * s, NS)
def rsCreds (d : Dev nD) (s : ℕ) : Fin 4 → Item := fun r => ((fromD r d, .ring r .rsc), 14 + 2 * s, 1)
def agSends (d : Dev nD) (t : ℕ) : Fin 4 → Item := fun r => ((toD r d, .ring r (.ag (slA t))), 41 + 2 * t, NS)
def agCreds (d : Dev nD) (t : ℕ) : Fin 4 → Item := fun r => ((fromD r d, .ring r .agc), 42 + 2 * t, 1)
def rsCredL (d : Dev nD) (s : ℕ) : List Item := if s < 13 then four (rsCreds d s) else []
def agCredL (d : Dev nD) (t : ℕ) : List Item := if 1 ≤ t ∧ t ≤ 13 then four (agCreds d t) else []
def endL (d : Dev nD) : List Item := [((leftD d, .exit), 100, 1), ((rightD d, .exit), 100, 1)]
/-- What is owed from all-gather step `15 - k` on, from reduce-scatter step `15 - k` on, and from the start. -/
def agL (d : Dev nD) : ℕ → List Item
  | 0 => endL d
  | k + 1 => four (agSends d (14 - k)) ++ (agCredL d (14 - k) ++ agL d k)
def rsL (d : Dev nD) : ℕ → List Item
  | 0 => agL d 15
  | k + 1 => four (rsSends d (14 - k)) ++ (rsCredL d (14 - k) ++ rsL d k)
def allL (d : Dev nD) : List Item := ((leftD d, .bar), 1, 1) :: ((rightD d, .bar), 1, 1) :: rsL d 15

def O₀ (d : Dev nD) : CellTallies nD τ sig ℕ := oweL (allL d)

def Lv (g : GSem nD τ sig) : Finset ℕ := if g.1.2 = .tc then Finset.range 101 else ∅
def lv (g : GSem nD τ sig) (ι : ℕ) : ℕ := ι

/-- Only the main cores have levels. -/
theorem L_of_ne (g : GSem nD τ sig) (h : g.1.2 ≠ .tc) : Lv g = ∅ := if_neg h
/-- A cell of a main core has the levels below 101. -/
theorem L_tc (c : Dev nD) (sm : SemLoc sig) : Lv ((c : Thread nD τ), sm) = Finset.range 101 := if_pos rfl

/-- Everything in the list is counted under an index from `a` to `100`. -/
def Above (a : ℕ) (l : List Item) : Prop := ∀ x ∈ l, a ≤ x.2.1 ∧ x.2.1 ≤ 100
/-- A lower bound may be lowered. -/
theorem Above.mono {a b : ℕ} {l : List Item} (h : Above b l) (hab : a ≤ b) : Above a l :=
  fun x hx => ⟨hab.trans (h x hx).1, (h x hx).2⟩
/-- A bound of two lists bounds them joined. -/
theorem Above.append {a : ℕ} {l l' : List Item} (h : Above a l) (h' : Above a l') : Above a (l ++ l') := fun x hx =>
  (List.mem_append.mp hx).elim (h x) (h' x)
/-- A bound of a list and of one thing more bounds both. -/
theorem Above.cons {a : ℕ} {x : Item} {l : List Item} (hx : a ≤ x.2.1 ∧ x.2.1 ≤ 100) (h : Above a l) : Above a (x :: l) :=
  fun y hy => (List.mem_cons.mp hy).elim (fun e => e ▸ hx) (h y)
/-- The empty list has any bound. -/
theorem Above.nil (a : ℕ) : Above a [] := fun x hx => (List.not_mem_nil hx).elim
/-- A bound of a list bounds its tails. -/
theorem Above.drop {a : ℕ} {l : List Item} (h : Above a l) (k : ℕ) : Above a (l.drop k) := fun x hx => h x (List.mem_of_mem_drop hx)
/-- A bound of four things bounds the list of them. -/
theorem above_four {a : ℕ} {f : Fin 4 → Item} (h : ∀ r, a ≤ (f r).2.1 ∧ (f r).2.1 ≤ 100) : Above a (four f) := by
  unfold four
  exact .cons (h 0) (.cons (h 1) (.cons (h 2) (.cons (h 3) (.nil a))))
/-- The closing signals are counted under 100. -/
theorem above_end (d : Dev nD) : Above 100 (endL d) := .cons ⟨le_refl _, le_refl _⟩ (.cons ⟨le_refl _, le_refl _⟩ (.nil _))
/-- The sends of reduce-scatter step `s` are counted from `11 + 2 s` on. -/
theorem above_rsSends (d : Dev nD) (s : ℕ) (h : s < 15) : Above (11 + 2 * s) (four (rsSends d s)) :=
  above_four fun r => ⟨le_refl _, show 11 + 2 * s ≤ 100 by omega⟩
/-- The credits of reduce-scatter step `s` are counted from `14 + 2 s` on. -/
theorem above_rsCredL (d : Dev nD) (s : ℕ) : Above (14 + 2 * s) (rsCredL d s) := by
  unfold rsCredL; split
  · exact above_four fun r => ⟨le_refl _, show 14 + 2 * s ≤ 100 by omega⟩
  · exact .nil _
/-- The sends of all-gather step `t` are counted from `41 + 2 t` on. -/
theorem above_agSends (d : Dev nD) (t : ℕ) (h : t < 15) : Above (41 + 2 * t) (four (agSends d t)) :=
  above_four fun r => ⟨le_refl _, show 41 + 2 * t ≤ 100 by omega⟩
/-- The credits of all-gather step `t` are counted from `42 + 2 t` on. -/
theorem above_agCredL (d : Dev nD) (t : ℕ) : Above (42 + 2 * t) (agCredL d t) := by
  unfold agCredL; split
  · exact above_four fun r => ⟨le_refl _, show 42 + 2 * t ≤ 100 by omega⟩
  · exact .nil _
/-- What is owed with `k` all-gather steps to go is counted from `71 - 2 k` on. -/
theorem above_agL (d : Dev nD) : ∀ k, k ≤ 15 → Above (71 - 2 * k) (agL d k)
  | 0, _ => (above_end d).mono (by omega)
  | k + 1, h => ((above_agSends d (14 - k) (by omega)).mono (by omega)).append
      (((above_agCredL d (14 - k)).mono (by omega)).append ((above_agL d k (by omega)).mono (by omega)))
/-- What is owed with `k` reduce-scatter steps to go is counted from `41 - 2 k` on. -/
theorem above_rsL (d : Dev nD) : ∀ k, k ≤ 15 → Above (41 - 2 * k) (rsL d k)
  | 0, _ => (above_agL d 15 (le_refl _)).mono (by omega)
  | k + 1, h => ((above_rsSends d (14 - k) (by omega)).mono (by omega)).append
      (((above_rsCredL d (14 - k)).mono (by omega)).append ((above_rsL d k (by omega)).mono (by omega)))
/-- All that is owed at the start is counted from 1 on. -/
theorem above_all (d : Dev nD) : Above 1 (allL d) :=
  .cons ⟨le_refl _, show 1 ≤ 100 by decide⟩ (.cons ⟨le_refl _, show 1 ≤ 100 by decide⟩ ((above_rsL d 15 (le_refl _)).mono (by decide)))

/-- What is owed to a cell is owed by something in the list. -/
theorem oweL_pos : ∀ {l : List Item} {g : GSem nD τ sig} {ι : ℕ}, 0 < oweL l g ι → ∃ x ∈ l, g = cell x.1.1 x.1.2 ∧ ι = x.2.1
  | [], g, ι, h => absurd h (by show ¬ 0 < ((0 : CellTallies nD τ sig ℕ) g) ι; simp)
  | x :: l, g, ι, h => by
    unfold oweL at h
    rw [Pi.add_apply, Finsupp.add_apply, tallyAt_apply] at h
    by_cases hx : g = cell x.1.1 x.1.2 ∧ ι = x.2.1
    · exact ⟨x, List.mem_cons_self, hx⟩
    · rw [if_neg hx, Nat.add_zero] at h
      obtain ⟨y, hy, hy'⟩ := oweL_pos h
      exact ⟨y, List.mem_cons_of_mem _ hy, hy'⟩

/-- A wait counted under an index below all that is owed is allowed. -/
theorem mayWait (c : Dev nD) (sm : SemLoc sig) (ι : ℕ) {l : List Item} {a : ℕ} (h : Above a l) (hι : ι < a) (hι' : ι ≤ 100) :
    (levAts Lv lv : sProp 𝕄) ⊢ MayWait (c : Thread nD τ) sm ι (oweL l) :=
  MayOwe.of_cut (L := Lv) (lev := lv) ι
    (fun p hp => by rw [Finset.mem_singleton.mp hp, L_tc]; exact Finset.mem_range.mpr (by show ι < 101; omega))
    (fun g u hg => by
      obtain ⟨x, hx, rfl, rfl⟩ := oweL_pos hg
      rw [L_tc]; have := h x hx; exact Finset.mem_range.mpr (by omega))
    (fun p hp => by rw [Finset.mem_singleton.mp hp]; exact le_refl ι)
    (fun g u hg => by
      obtain ⟨x, hx, rfl, rfl⟩ := oweL_pos hg
      have := h x hx; show ι < _; unfold lv; omega)

/-- Owing the list, whatever has been waited for. -/
def Ow (d : Dev nD) (l : List Item) : sProp 𝕄 := iprop(∃ W, owes (d : Thread nD τ) (oweL l) W)

end Cert.KernelIdeal.Ring
-- ==== Proof.K.Leaf.lean ====
/- One rule per operation of the ring kernel's body, each as what it takes and what it gives back. -/
module

public import proofs.«01_k».proof.Proof.K.Proto

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

abbrev WP (d : Dev nD) {α : Type} (p : PB F α) (Q : α → sProp 𝕄) : sProp 𝕄 :=
  wp frame (wpE (defs₀ (F := F)) 𝒱₀ (d : Thread nD τ) none) Set.univ p Q

/-- What every rule may use: the invariants, that round 0 of every cell is reached, and the levels. -/
@[irreducible] def Levs : sProp 𝕄 := levAts Lv lv
instance Levs_persistent : BI.Persistent (Levs (F := F)) := by unfold Levs; infer_instance
/-- The levels allow a wait counted under an index below all that is owed. -/
theorem Levs_may (c : Dev nD) (sm : SemLoc sig) (ι : ℕ) {l : List Item} {a : ℕ} (h : Above a l) (hι : ι < a) (hι' : ι ≤ 100) :
    (Levs : sProp 𝕄) ⊢ MayWait (c : Thread nD τ) sm ι (oweL l) := by unfold Levs; exact mayWait c sm ι h hι hι'
def Zero : sProp 𝕄 := bigSep Finset.univ fun p : Dev nD × CK => rch (F := F) p.1 p.2 0
instance Zero_persistent : BI.Persistent (Zero (F := F)) := by unfold Zero; infer_instance
def Env : sProp 𝕄 := iprop(Ctx m ρ n ∗ Zero ∗ Levs)
instance Env_persistent : BI.Persistent (Env m ρ n) := by unfold Env; infer_instance
/-- The surroundings give the invariant of any cell. -/
theorem Env_cell (d : Dev nD) (x : CK) : Env m ρ n ⊢ cellInv ER (Rd m ρ) (n.K (d, x)) (cell d x) := by
  refine BIBase.Entails.trans ?_ (Ctx_cell m ρ n d x)
  unfold Env; iintro ⟨H, -⟩; iexact H
/-- The surroundings give the invariant of any box. -/
theorem Env_box (d : Dev nD) (r : Fin 4) : Env m ρ n ⊢ inv (n.B (d, r)) (boxP (F := F) d r) := by
  refine BIBase.Entails.trans ?_ (Ctx_box m ρ n d r)
  unfold Env; iintro ⟨H, -⟩; iexact H
/-- The surroundings give the levels. -/
theorem Env_lev : Env m ρ n ⊢ Levs := by
  unfold Env; iintro ⟨-, -, H⟩; iexact H
/-- The surroundings say that round 0 of any cell is reached. -/
theorem Env_zero (d : Dev nD) (x : CK) : Env m ρ n ⊢ rch d x 0 := by
  refine BIBase.Entails.trans ?_ (bigSep_elim (Φ := fun p : Dev nD × CK => rch (F := F) p.1 p.2 0) (Finset.mem_univ (d, x)))
  unfold Env Zero; iintro ⟨-, H, -⟩; iexact H

/-! ## Sequencing -/

/-- Running one part and then another. -/
theorem WP_bind {d : Dev nD} {α β : Type} (f : PB F β) (k : β → PB F α) (R : α → sProp 𝕄) :
    WP d (f >>= k) R = WP d f fun a => WP d (k a) R := wp_bind _ _ _ f k R
/-- Run a first part by its rule, and go on with what it gives. -/
theorem wp_then {d : Dev nD} {α : Type} {f : PB F PUnit} {P Q : sProp 𝕄} {k : PUnit → PB F α} {R : α → sProp 𝕄}
    (h : P ⊢ WP d f fun _ => Q) : P ⊢ iprop((Q -∗ WP d (k ⟨⟩) R) -∗ WP d (f >>= k) R) := by
  refine BI.wand_intro ?_
  rw [WP_bind]
  refine (BI.sep_mono_l h).trans ((wp_frame_r _ _ _).trans (wp_mono _ _ _ fun a => ?_))
  iintro ⟨HQ, H⟩
  iapply H; iexact HQ
/-- The same with a value. -/
theorem wp_thenV {d : Dev nD} {α β : Type} {f : PB F β} {P : sProp 𝕄} {Q : β → sProp 𝕄} {k : β → PB F α} {R : α → sProp 𝕄}
    (h : P ⊢ WP d f Q) : P ⊢ iprop((∀ a, Q a -∗ WP d (k a) R) -∗ WP d (f >>= k) R) := by
  refine BI.wand_intro ?_
  rw [WP_bind]
  refine (BI.sep_mono_l h).trans ((wp_frame_r _ _ _).trans (wp_mono _ _ _ fun a => ?_))
  iintro ⟨HQ, H⟩
  iapply H; iexact HQ
/-- The last part. -/
theorem wp_last {d : Dev nD} {α : Type} {f : PB F α} {P : sProp 𝕄} {Q R : α → sProp 𝕄}
    (h : P ⊢ WP d f Q) : P ⊢ iprop((∀ a, Q a -∗ R a) -∗ WP d f R) := by
  refine BI.wand_intro ?_
  refine (BI.sep_mono_l h).trans ((wp_frame_r _ _ _).trans (wp_mono _ _ _ fun a => ?_))
  iintro ⟨HQ, H⟩
  iapply H; iexact HQ

/-! ## Views of a slot -/

/-- Chunks that look the same in the result are the same. -/
theorem outV_inj {v w : FVec F S1x512x1024 .bf16} (h : outV v = outV w) : v = w := by
  funext j
  have := congrFun h ((Shape.reshapeEquiv shapeCasts_S1x512x1024_S512x1024).symm j)
  unfold outV shapeCast at this
  simpa only [Equiv.apply_symm_apply] using this
/-- A slot read as a transfer sees it is its contents, as they lie in the result. -/
theorem sq_read (i : Fin 3) (r : Fin 4) (k : Fin 2) (d : Dev nD) (f : Buf (Elt F) ((slotM i r k).view.loc (d : Thread nD τ))) :
    (sqM i r k).view.read (Elt F) f = outV ((slotM i r k).view.read (Elt F) f) := rfl
/-- A slot as a transfer sees it is the same elements. -/
theorem sq_set (i : Fin 3) (r : Fin 4) (k : Fin 2) : (sqM i r k).view.set = (slotM i r k).view.set := View.set_reshape _ _

/-- A slot with known contents, opened into its elements. -/
theorem slotP_open (i : Fin 3) (r : Fin 4) (k : Fin 2) (q) (d : Dev nD) (v : FVec F S1x512x1024 .bf16) :
    slotP i r k q d v ⊢ iprop(∃ f : Buf (Elt F) ((sqM i r k).view.loc (d : Thread nD τ)),
      ⌜(slotM i r k).view.read (Elt F) f = v⌝ ∗ ((sqM i r k).view.loc (d : Thread nD τ) ↦[(sqM i r k).view.set]{q} f)) := by
  unfold slotP owns; rw [sq_set]
/-- And closed again. -/
theorem slotP_close (i : Fin 3) (r : Fin 4) (k : Fin 2) (q) (d : Dev nD) (v : FVec F S1x512x1024 .bf16)
    (f : Buf (Elt F) ((sqM i r k).view.loc (d : Thread nD τ))) (h : (slotM i r k).view.read (Elt F) f = v) :
    ((sqM i r k).view.loc (d : Thread nD τ) ↦[(sqM i r k).view.set]{q} f) ⊢ slotP i r k q d v := by
  unfold slotP owns; rw [sq_set]
  iintro H; iexists f; isplitr
  · ipureintro; exact h
  · iexact H
/-- A slot that a transfer wrote over holds what the source held. -/
theorem slot_landed (i i' : Fin 3) (r : Fin 4) (k k' : Fin 2) (d d' : Dev nD) (v : FVec F S1x512x1024 .bf16)
    (f : Buf (Elt F) ((sqM i r k).view.loc (d : Thread nD τ))) (h : (slotM i r k).view.read (Elt F) f = v)
    (fd : Buf (Elt F) ((sqM i' r k').view.loc (d' : Thread nD τ))) :
    ((sqM i' r k').view.loc (d' : Thread nD τ) ↦[(sqM i' r k').view.set]{fullShare}
      ((sqM i' r k').view.write (Elt F) fd ((sqM i r k).view.read (Elt F) f) Finset.univ)) ⊢ slotP i' r k' fullShare d' v := by
  refine slotP_close i' r k' fullShare d' v _ (outV_inj ?_)
  rw [← sq_read i' r k' d', View.read_write_univ, sq_read i r k d, h]
/-- A slot with known contents is a slot with any. -/
theorem slotP_X (i : Fin 3) (r : Fin 4) (k : Fin 2) (d : Dev nD) (v : FVec F S1x512x1024 .bf16) :
    slotP i r k fullShare d v ⊢ slotX i r k d := by
  unfold slotX; iintro H; iexists v; iexact H
/-- A slot held outright is two halves with the same contents. -/
theorem slotP_halves (i : Fin 3) (r : Fin 4) (k : Fin 2) (d : Dev nD) (v : FVec F S1x512x1024 .bf16) :
    slotP i r k fullShare d v ⊢ iprop(slotP i r k fullShare.left d v ∗ slotP i r k fullShare.right d v) := by
  unfold slotP owns
  iintro ⟨%f, %h, H⟩
  ihave H2 := (pointsTo_share (PosShare.mem_left_op_right fullShare)).1 $$ H
  icases H2 with ⟨HL, HR⟩
  isplitl [HL]
  · iexists f; isplitr; · ipureintro; exact h
    iexact HL
  · iexists f; isplitr; · ipureintro; exact h
    iexact HR
/-- The two halves of a slot are the slot. -/
theorem slotP_join (i : Fin 3) (r : Fin 4) (k : Fin 2) (d : Dev nD) (v : FVec F S1x512x1024 .bf16) :
    iprop(slotP i r k fullShare.left d v ∗ slotP i r k fullShare.right d v) ⊢ slotX i r k d := by
  unfold slotX slotP owns
  iintro ⟨⟨%f, %h, HL⟩, ⟨%g, %hg, HR⟩⟩
  ihave Hag := (persistent_entails_right (pointsTo_agree)) $$ [HL HR]
  · isplitl [HL] <;> iassumption
  icases Hag with ⟨%he, HL, HR⟩
  iexists v; iexists f
  isplitr; · ipureintro; exact h
  iapply (pointsTo_share (PosShare.mem_left_op_right fullShare)).2
  isplitl [HL]; · iexact HL
  ihave HR' := (Entails.of_eq (pointsTo_congr fun i hi => ((he i (Finset.mem_inter.mpr ⟨hi, hi⟩)).1).symm)) $$ HR
  iexact HR'

/-! ## Loads and stores -/

/-- The two windows, held. -/
def XW (d : Dev nD) : sProp 𝕄 :=
  iprop((((d : Thread nD τ).loc cc0_stg0_0) ↦{fullShare} xstg m ρ d) ∗ (((d : Thread nD τ).loc cc0_stg1_0) ↦{fullShare} wstg m ρ d))

/-- Loading from the two windows and multiplying gives the product, and leaves the windows. -/
theorem loadProd_spec (d : Dev nD) (r : Fin 4) (o : Fin 2 → Nat) (h : ∀ a, o a + S512x512.size a ≤ S8192x512.size a) :
    XW m ρ d ⊢ WP d (loadProd (F := F) r o h) fun p =>
      iprop(⌜p = prodAt m ρ r d (Rect.unit (s := S8192x512) o S512x512.size h) rfl⌝ ∗ XW m ρ d) := by
  unfold XW loadProd
  simp only [Prog.lift, Prog.bind_op, Prog.bind_ret, Prog.pure_eq_ret]
  iintro ⟨Hx, Hw⟩
  iapply (wp_load_rect 𝒱₀ (d : Thread nD τ) none Set.univ (m := xM) (r := Rect.unit (s := S8192x512) o S512x512.size h) (q := fullShare) (f := xstg m ρ d) (Finset.subset_univ _)) $$ Hx
  iintro Hx
  iapply (wp_load_rect 𝒱₀ (d : Thread nD τ) none Set.univ (m := wM) (r := wRect r) (q := fullShare) (f := wstg m ρ d) (Finset.subset_univ _)) $$ Hw
  iintro Hw
  rw [wp_ret]; imodintro
  isplitr
  · ipureintro; rfl
  · isplitl [Hx] <;> iassumption

/-- Loading a slot gives its contents, and leaves it. -/
theorem loadSlot_spec (d : Dev nD) (i : Fin 3) (r : Fin 4) (k : Fin 2) (q) (v : FVec F S1x512x1024 .bf16) :
    slotP i r k q d v ⊢ WP d (Prog.lift (.load (bufM i r) (slotRect k).toLoadRect (View.loadsAt_vmem h_S1x512x1024)) : PB F (Vec F S1x512x1024 .bf16))
      fun a => iprop(⌜a = v⌝ ∗ slotP i r k q d v) := by
  unfold slotP owns
  simp only [Prog.lift]
  iintro ⟨%f, %h, H⟩
  iapply (wp_load_rect 𝒱₀ (d : Thread nD τ) none Set.univ (m := bufM i r) (r := slotRect k) (Finset.Subset.refl _)) $$ H
  iintro H
  rw [wp_ret]; imodintro
  isplitr
  · ipureintro; exact h
  · iexists f; isplitr; · ipureintro; exact h
    iexact H

/-- Storing into a slot makes it hold what was stored. -/
theorem fillSlot_spec (d : Dev nD) (r : Fin 4) (k : Fin 2) (v : FVec F S1x512x1024 .bf16) :
    slotX 0 r k d ⊢ WP d (fillSlot r k v) fun _ => slotP 0 r k fullShare d v := by
  unfold slotX slotP owns fillSlot
  simp only [Prog.lift, Prog.bind_op, Prog.bind_ret, Prog.pure_eq_ret]
  iintro ⟨%v0, %f, %h, H⟩
  iapply (wp_load_rect 𝒱₀ (d : Thread nD τ) none Set.univ (m := bufM 0 r) (r := slotRect k) (Finset.Subset.refl _)) $$ H
  iintro H
  iapply (wp_store 𝒱₀ (d : Thread nD τ) none Set.univ (m := bufM 0 r) (r := slotRect k) (Mk := Finset.univ) (S := (slotM 0 r k).view.set) (Finset.Subset.refl _)) $$ H
  iintro H
  rw [wp_ret]; imodintro
  iexists ((slotM 0 r k).view.write (Elt F) f v Finset.univ)
  isplitr
  · ipureintro; exact View.read_write_univ (v := (slotM 0 r k).view) f v
  · iexact H

/-! ## Waits -/

/-- All that a round's duties hand over, written with the protocol's own names. -/
theorem Rd_rest (d : Dev nD) (x : CK) (R : ℕ) :
    bigSep ((Rd m ρ).duties (cell d x) R \ ∅) (fun i => (Rd m ρ).payload (cell d x) R i) = bigSep (kDuties x R) (kPay m ρ d x R) := by
  rw [Finset.sdiff_empty, Rd_duties, bigSep_congr fun i _ => Rd_payload m ρ d x R i]
/-- A wait for a whole round of a cell of the device. -/
theorem wait_round (d : Dev nD) (x : CK) {w : TpuEff nD τ sig (Elt F) Λ₀ .tc PUnit} {k' : ℕ}
    (hw : ∀ K : PUnit → sProp 𝕄, wpE (defs₀ (F := F)) 𝒱₀ (d : Thread nD τ) none Set.univ w K = waitSpec (d : Thread nD τ) Set.univ (locOf x) k' K)
    (R : ℕ) (hk : (kDuties x R).card * kAmount x = k') (ι : ℕ) {l : List Item} {a : ℕ} (hl : Above a l) (hι : ι < a) (hι' : ι ≤ 100) :
    iprop(Env m ρ n ∗ crd d x ι k' ∗ pos d x R ∗ Ow d l)
      ⊢ WP d (.op w .ret) fun _ => iprop(pos d x (R + 1) ∗ rch d x (R + 1) ∗ Ow d l ∗ bigSep (kDuties x R) (kPay m ρ d x R)) := by
  unfold Ow
  iintro ⟨#HE, Hc, Hp, ⟨%W, HO⟩⟩
  ihave #HL := (Env_lev m ρ n) $$ HE
  ihave #HI := (Env_cell m ρ n d x) $$ HE
  iapply (Rounds.wp_wait_rest_token 𝒱₀ ER (Rd m ρ) (d : Thread nD τ) none (κ := n.K (d, x))
      hw (Set.mem_univ _) ι (O := oweL l) (W := W) (R := R) (m := 0) (T := ∅) (by rw [Nat.zero_add, Rd_expect, hk])) $$ [Hc HO Hp]
  · isplitr; · iexact HI
    isplitl [Hc]; · iexact Hc
    isplitl [HO]; · iexact HO
    isplitr
    · iapply (Levs_may d (locOf x) ι hl hι hι'); iexact HL
    iexact Hp
  iintro ⟨HO, Hp, Hr, Hpay⟩
  rw [wp_ret]; imodintro
  isplitl [Hp]; · iexact Hp
  isplitl [Hr]; · iexact Hr
  isplitl [HO]; · iexists _; iexact HO
  iapply (Entails.of_eq (Rd_rest m ρ d x R)); iexact Hpay

/-- A wait for a transfer whose round has the one duty. -/
theorem waitP_spec (d : Dev nD) (x : CK) (s : DmaSem sig) (hs : locOf x = .dma s) (r : Fin 4) (i : Fin 3) (k : Fin 2) (i' : Fin 3) (k' : Fin 2)
    (R : ℕ) (hD : kDuties x R = {0}) (hA : kAmount x = NS) (ι : ℕ) {l : List Item} {a : ℕ} (hl : Above a l) (hι : ι < a) (hι' : ι ≤ 100) :
    iprop(Env m ρ n ∗ crd d x ι NS ∗ pos d x R ∗ Ow d l)
      ⊢ WP d (waitP s r i k i' k') fun _ => iprop(pos d x (R + 1) ∗ rch d x (R + 1) ∗ Ow d l ∗ kPay m ρ d x R 0) := by
  have h := wait_round m ρ n d x (w := .waitDma2 s (sqM i r k) (sqM i' r k') (sqM_exact i r k) (sqM_exact i' r k')) (k' := NS)
    (fun K => by rw [hs, ← sq_credit i' r k']; exact wpE_waitDma2_eq 𝒱₀ (d : Thread nD τ) none Set.univ K)
    R (by rw [hD, hA, Finset.card_singleton, Nat.one_mul]) ι hl hι hι'
  rw [hD, bigSep_singleton] at h
  exact h
/-- A wait for a local copy gives what the copy hands over. -/
theorem waitCopyP_spec (d : Dev nD) (r : Fin 4) (i : Fin 3) (k : Fin 2) (j : Fin 16) {l : List Item} {a : ℕ} (hl : Above a l) (hι : 0 < a) :
    iprop(Env m ρ n ∗ crd d (.ring r .copy) 0 NC ∗ pos d (.ring r .copy) j.val ∗ Ow d l)
      ⊢ WP d (waitCopyP d r i k j) fun _ => iprop(pos d (.ring r .copy) (j.val + 1) ∗ rch d (.ring r .copy) (j.val + 1) ∗ Ow d l
        ∗ kPay m ρ d (.ring r .copy) j.val 0) := by
  have hD : kDuties (.ring r .copy) j.val = {0} := if_pos j.isLt
  have h := wait_round m ρ n d (.ring r .copy) (w := .waitDma2 (copyS r) (sqM i r k) (outM r d j) (sqM_exact i r k) (outM_exact r d j)) (k' := NC)
    (fun K => wpE_waitDma2_eq 𝒱₀ (d : Thread nD τ) none Set.univ K)
    j.val (by rw [hD, Finset.card_singleton, Nat.one_mul]; rfl) 0 hl hι (Nat.zero_le _)
  rw [hD, bigSep_singleton] at h
  exact h
/-- A wait for signals. -/
theorem semWait_spec (d : Dev nD) (x : CK) (s : Sem sig) (hs : locOf x = .reg s) (w : BitVec 32) (k' : ℕ) (hw : w.toInt = (k' : ℤ))
    (R : ℕ) (hk : (kDuties x R).card * kAmount x = k') (ι : ℕ) {l : List Item} {a : ℕ} (hl : Above a l) (hι : ι < a) (hι' : ι ≤ 100) :
    iprop(Env m ρ n ∗ crd d x ι k' ∗ pos d x R ∗ Ow d l)
      ⊢ WP d (semWaitWord s w) fun _ => iprop(pos d x (R + 1) ∗ rch d x (R + 1) ∗ Ow d l ∗ bigSep (kDuties x R) (kPay m ρ d x R)) := by
  unfold semWaitWord
  rw [hw]
  exact wait_round m ρ n d x (w := .semWait s (k' : ℤ)) (k' := k') (fun K => by rw [hs]; exact wpE_semWait_eq 𝒱₀ (d : Thread nD τ) none Set.univ K)
    R hk ι hl hι hι'

end Cert.KernelIdeal.Ring
-- ==== Proof.K.Talk.lean ====
/- Signals, transfers and the returned slots, and how the rings and the steps follow one another. -/
module

public import proofs.«01_k».proof.Proof.K.Leaf

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## Signals and transfers -/

/-- A finished part. -/
theorem WP_ret {d : Dev nD} {α : Type} (a : α) (Q : α → sProp 𝕄) : WP d (.ret a : PB F α) Q = iprop(|={Set.univ}=> Q a) := wp_ret _ _ _ _ _
/-- A single operation. -/
theorem lift_op {d : Dev nD} (e : TpuEff nD τ sig (Elt F) Λ₀ .tc PUnit) (Q : PUnit → sProp 𝕄) :
    WP d (Prog.lift e) Q = WP d (.op e .ret) Q := rfl

/-- What a slot, or a chunk of the result, with anything in it is. -/
theorem slotX_open (i : Fin 3) (r : Fin 4) (k : Fin 2) (d : Dev nD) : slotX i r k d ⊢
    (iprop(∃ f : Buf (Elt F) ((sqM i r k).view.loc (d : Thread nD τ)), ((sqM i r k).view.loc (d : Thread nD τ) ↦[(sqM i r k).view.set]{fullShare} f)) : sProp 𝕄) := by
  unfold slotX
  iintro ⟨%v, H⟩
  ihave H := (slotP_open i r k fullShare d v) $$ H
  icases H with ⟨%f, -, H⟩
  iexists f; iexact H
/-- A chunk of the result with anything in it, opened into its elements. -/
theorem outX_open (r : Fin 4) (d : Dev nD) (j : Fin 16) : outX r d j ⊢
    (iprop(∃ f : Buf (Elt F) ((outM r d j).view.loc (d : Thread nD τ)), ((outM r d j).view.loc (d : Thread nD τ) ↦[(outM r d j).view.set]{fullShare} f)) : sProp 𝕄) := by
  unfold outX outP owns
  iintro ⟨%v, %f, -, H⟩
  iexists f; iexact H

/-- A signal of one pays the first thing owed. -/
theorem signal_spec (d d' : Dev nD) (x : CK) (s : Sem sig) (hs : locOf x = .reg s) (R i : ℕ) (hD : i ∈ kDuties x R) (hA : kAmount x = 1)
    (ι : ℕ) (l : List Item) :
    iprop(Env m ρ n ∗ tok d' x R i ∗ rch d' x R ∗ kPay m ρ d' x R i ∗ Ow d (((d', x), ι, 1) :: l))
      ⊢ WP d (semSignalWord d' s 1#32) fun _ => Ow d l := by
  have e1 : cell d' x = ((d' : Thread nD τ), .reg s) := by unfold cell; rw [hs]
  have c1 := Env_cell m ρ n d' x
  have p1 : kPay m ρ d' x R i = (Rd m ρ).payload ((d' : Thread nD τ), .reg s) R i := by rw [← e1, Rd_payload]
  rw [e1] at c1
  unfold Ow semSignalWord
  rw [p1]
  simp only [tok, rch, oweL, e1]
  iintro ⟨#HE, Ht, Hr, Hp, ⟨%W, HO⟩⟩
  ihave #HI := c1 $$ HE
  iapply (Rounds.wp_signal 𝒱₀ ER (Rd m ρ) (d : Thread nD τ) none (dst := (d' : Thread nD τ)) (κ := n.K (d', x)) (r := R) (d := i) (k' := 1)
    (by rw [← e1, Rd_duties]; exact hD) (by rw [← e1, Rd_amount]; exact hA) ι (oweL l) rfl (W := W)) $$ [HO Ht Hp Hr]
  · isplitr; · iexact HI
    isplitl [HO]; · iexact HO
    isplitl [Ht]; · iexact Ht
    isplitl [Hp] <;> iassumption
  iintro HO
  rw [wp_ret]; imodintro
  iexists W; iexact HO

/-- A transfer to the next device: it takes the slot it reads, the slot there, the two duties, and pays the first thing owed. -/
theorem sendP_spec (d : Dev nD) (r : Fin 4) (i : Fin 3) (k : Fin 2) (i' : Fin 3) (k' : Fin 2) (sS sR : DmaSem sig) (xs xr : CK)
    (hs : locOf xs = .dma sS) (hr : locOf xr = .dma sR) (ns nr : ℕ) (hDs : kDuties xs ns = {0}) (hDr : kDuties xr nr = {0})
    (hAs : kAmount xs = NS) (hAr : kAmount xr = NS) (q : PosShare TreeShare) (v : FVec F S1x512x1024 .bf16) (X : sProp 𝕄)
    (hps : slotP i r k q d v ⊢ kPay m ρ d xs ns 0) (hpr : iprop(slotP i' r k' fullShare (toD r d) v ∗ X) ⊢ kPay m ρ (toD r d) xr nr 0)
    (ι : ℕ) (l : List Item) :
    iprop(Env m ρ n ∗ slotP i r k q d v ∗ slotX i' r k' (toD r d) ∗ X ∗ tok d xs ns 0 ∗ rch d xs ns ∗ tok (toD r d) xr nr 0 ∗ rch (toD r d) xr nr
        ∗ Ow d (((toD r d, xr), ι, NS) :: l))
      ⊢ WP d (sendP d r i k i' k' sS sR) fun _ => iprop(crd d xs 0 NS ∗ Ow d l) := by
  have e1 : cell d xs = ((d : Thread nD τ), .dma sS) := by unfold cell; rw [hs]
  have e2 : cell (toD r d) xr = ((toD r d : Thread nD τ), .dma sR) := by unfold cell; rw [hr]
  have c1 := Env_cell m ρ n d xs
  have c2 := Env_cell m ρ n (toD r d) xr
  have p1 : kPay m ρ d xs ns 0 = (Rd m ρ).payload ((d : Thread nD τ), .dma sS) ns 0 := by rw [← e1, Rd_payload]
  have p2 : kPay m ρ (toD r d) xr nr 0 = (Rd m ρ).payload ((toD r d : Thread nD τ), .dma sR) nr 0 := by rw [← e2, Rd_payload]
  rw [e1] at c1; rw [e2] at c2; rw [p1] at hps; rw [p2] at hpr
  unfold Ow sendP
  simp only [tok, rch, crd, oweL, e1, e2]
  rw [lift_op]
  iintro ⟨#HE, Hs, Hd, HX, Hts, Hrs, Htr, Hrr, ⟨%W, HO⟩⟩
  ihave Hs := (slotP_open i r k q d v) $$ Hs
  icases Hs with ⟨%f, %hf, Hs⟩
  ihave Hd := (slotX_open i' r k' (toD r d)) $$ Hd
  icases Hd with ⟨%fd, Hd⟩
  ihave #HI1 := c1 $$ HE
  ihave #HI2 := c2 $$ HE
  iapply (Rounds.wp_send_pointsTo_with 𝒱₀ ER (Rd m ρ) (d : Thread nD τ) none (κ₁ := n.K (d, xs)) (κ₂ := n.K (toD r d, xr))
    (r₁ := ns) (r₂ := nr) (d₁ := 0) (d₂ := 0) (fs := f) (fd := fd) (F := X)
    (by rw [← e1, Rd_duties, hDs]; exact Finset.mem_singleton_self _) (by rw [← e2, Rd_duties, hDr]; exact Finset.mem_singleton_self _)
    ι 0 NS (show (sqM i' r k').view.amount (.dma sR) = NS from sq_credit i' r k') (by rw [← e1, Rd_amount, hAs]) (by rw [← e2, Rd_amount, hAr]) (oweL l) rfl (W := W)
    ((slotP_close i r k q d v f hf).trans hps)
    ((BI.sep_mono_l (slot_landed i i' r k k' d (toD r d) v f hf fd)).trans hpr)) $$ [Hs Hd HX Hts Hrs Htr Hrr HO]
  · isplitr; · iexact HI1
    isplitr; · iexact HI2
    isplitl [Hs]; · iexact Hs
    isplitl [Hd HX]; · isplitl [Hd] <;> iassumption
    isplitl [HO]; · iexact HO
    isplitl [Hts]; · iexact Hts
    isplitl [Hrs]; · iexact Hrs
    isplitl [Htr] <;> iassumption
  iintro ⟨Hc, HO⟩
  rw [wp_ret]; imodintro
  isplitl [Hc]; · iexact Hc
  iexists W; iexact HO

/-- A chunk of the result that a local copy wrote over holds what the slot held. -/
theorem out_landed (i : Fin 3) (r : Fin 4) (k : Fin 2) (d : Dev nD) (j : Fin 16) (v : FVec F S1x512x1024 .bf16)
    (f : Buf (Elt F) ((sqM i r k).view.loc (d : Thread nD τ))) (h : (slotM i r k).view.read (Elt F) f = v)
    (fd : Buf (Elt F) ((outM r d j).view.loc (d : Thread nD τ))) :
    ((outM r d j).view.loc (d : Thread nD τ) ↦[(outM r d j).view.set]{fullShare}
      ((outM r d j).view.write (Elt F) fd ((sqM i r k).view.read (Elt F) f) Finset.univ)) ⊢ outP r d j (outV v) := by
  unfold outP owns
  iintro H
  iexists ((outM r d j).view.write (Elt F) fd ((sqM i r k).view.read (Elt F) f) Finset.univ)
  isplitr
  · ipureintro; rw [View.read_write_univ, sq_read i r k d, h]
  · iexact H

/-- A local copy of a slot into its chunk of the result. -/
theorem copyP_spec (d : Dev nD) (r : Fin 4) (i : Fin 3) (k : Fin 2) (j : Fin 16) (v : FVec F S1x512x1024 .bf16)
    (hp : iprop(outP r d j (outV v) ∗ slotP i r k fullShare.right d v) ⊢ kPay m ρ d (.ring r .copy) j.val 0) :
    iprop(Env m ρ n ∗ slotP i r k fullShare.right d v ∗ outX r d j ∗ tok d (.ring r .copy) j.val 0 ∗ rch d (.ring r .copy) j.val)
      ⊢ WP d (copyP d r i k j) fun _ => crd d (.ring r .copy) 0 NC := by
  have hD : kDuties (.ring r .copy) j.val = {0} := if_pos j.isLt
  unfold copyP
  rw [lift_op]
  iintro ⟨#HE, Hs, Hd, Ht, Hr⟩
  ihave Hs := (slotP_open i r k _ d v) $$ Hs
  icases Hs with ⟨%f, %hf, Hs⟩
  ihave Hd := (outX_open r d j) $$ Hd
  icases Hd with ⟨%fd, Hd⟩
  ihave #HI1 := (Env_cell m ρ n d (.ring r .copy)) $$ HE
  iapply (Rounds.wp_copy_pointsTo 𝒱₀ ER (Rd m ρ) (d : Thread nD τ) none (κ := n.K (d, .ring r .copy)) (r := j.val) (d := 0) (fs := f) (fd := fd)
    (by show _ ∈ (Rd m ρ).duties (cell d (.ring r .copy)) _; rw [Rd_duties, hD]; exact Finset.mem_singleton_self _) 0 NC (show (outM r d j).view.amount (.dma (copyS r)) = NC from out_credit r d j)
    (Rd_amount m ρ d (.ring r .copy) j.val 0)
    (by
      show _ ⊢ (Rd m ρ).payload (cell d (.ring r .copy)) j.val 0
      rw [Rd_payload]
      exact BIBase.Entails.trans (BI.sep_mono (out_landed i r k d j v f hf fd) (slotP_close i r k _ d v f hf)) hp)) $$ [Hs Hd Ht Hr]
  · isplitr; · iexact HI1
    isplitl [Hs]; · iexact Hs
    isplitl [Hd]; · iexact Hd
    isplitl [Ht]; · iexact Ht
    iexact Hr
  iintro Hc
  rw [wp_ret]; imodintro
  iexact Hc

/-! ## Big separating conjunctions, spelled as the proofs have them -/

section
variable {I : Type} [DecidableEq I]
/-- A product over a set with one more. -/
theorem big_insert {i : I} {s : Finset I} (h : i ∉ s) (Φ : I → sProp 𝕄) : bigSep (insert i s) Φ = iprop(Φ i ∗ bigSep s Φ) := bigSep_insert h
/-- A product, one factor taken out. -/
theorem big_erase {i : I} {s : Finset I} (h : i ∈ s) (Φ : I → sProp 𝕄) : bigSep s Φ = iprop(Φ i ∗ bigSep (s.erase i) Φ) := bigSep_erase h
/-- A product over two sets apart. -/
theorem big_union {s t : Finset I} (h : Disjoint s t) (Φ : I → sProp 𝕄) : bigSep (s ∪ t) Φ = iprop(bigSep s Φ ∗ bigSep t Φ) := bigSep_union h
/-- One factor of a product. -/
theorem big_elim {i : I} {s : Finset I} (h : i ∈ s) (Φ : I → sProp 𝕄) : (bigSep s Φ : sProp 𝕄) ⊢ Φ i := bigSep_elim h
/-- A product of pairs is a pair of products. -/
theorem big_sep (s : Finset I) (Φ Ψ : I → sProp 𝕄) : bigSep s (fun i => iprop(Φ i ∗ Ψ i)) = iprop(bigSep s Φ ∗ bigSep s Ψ) := bigSep_sep s Φ Ψ
end

/-! ## The boxes -/

/-- A product over the four rings. -/
theorem bigSep_four (P : Fin 4 → sProp 𝕄) : bigSep Finset.univ P = iprop(P 0 ∗ P 1 ∗ P 2 ∗ P 3) := by
  rw [bigSep_univ_eq_bigSepL [0, 1, 2, 3] (by decide) (by decide)]
  simp only [bigSepL_cons_cons, bigSepL_singleton]
  rfl
/-- A product over the numbers below `k + 1`, the last taken out. -/
theorem range_succ' (k : ℕ) (A : ℕ → sProp 𝕄) : bigSep (Finset.range (k + 1)) A = iprop(A k ∗ bigSep (Finset.range k) A) := by
  rw [Finset.range_add_one, big_insert Finset.notMem_range_self]

/-- Leave a slot that has been read. -/
theorem box_put (d : Dev nD) (r : Fin 4) (s : ℕ) :
    iprop(Env m ρ n ∗ atPos EB (d, r) s ∅ 0 ∗ slotX 1 r (slA s) d ∗ rch d (.ring r (.rs (slA s))) (s / 2 + 1))
      ⊢ (|={Set.univ}=> (atPos EB (d, r) (s + 1) ∅ 0 ∗ reached EB (d, r) (s + 1)) : sProp 𝕄) := by
  iintro ⟨#HE, Hp, Hs, Hr⟩
  ihave #HI := (Env_box m ρ n d r) $$ HE
  imod (inv_acc (Set.mem_univ _)) $$ HI with ⟨Hb, Hclose⟩
  unfold boxP
  icases Hb with ⟨%R, Ha, Hb⟩
  ihave H := (persistent_entails_right (roundAuth_atPos_agree EB)) $$ [Ha Hp]
  · isplitl [Ha] <;> iassumption
  icases H with ⟨%h, Ha, Hp⟩
  obtain ⟨rfl, -, -⟩ := h
  imod (roundAuth_atPos_move EB (s + 1) ∅ 0 (Nat.le_succ s)) $$ [Ha Hp] with ⟨Ha, Hp⟩
  · isplitl [Ha] <;> iassumption
  imod (roundAuth_witness EB) $$ Ha with ⟨Ha, Hw⟩
  ihave H := Hclose $$ [Ha Hb Hs Hr]
  · iexists (s + 1)
    isplitl [Ha]; · iexact Ha
    iapply (Entails.of_eq (range_succ' s _).symm)
    isplitr [Hb]
    · ileft; isplitl [Hs] <;> iassumption
    · iexact Hb
  imod H
  imodintro
  isplitl [Hp] <;> iassumption

/-- Take a slot that has been left, against the token kept for it. -/
theorem box_take (d : Dev nD) (r : Fin 4) (s : ℕ) :
    iprop(Env m ρ n ∗ reached EB (d, r) (s + 1) ∗ dutyTok EB (d, r) (s + 2) 0)
      ⊢ (|={Set.univ}=> (slotX 1 r (slA s) d ∗ rch d (.ring r (.rs (slA s))) (s / 2 + 1)) : sProp 𝕄) := by
  iintro ⟨#HE, Hw, Ht⟩
  ihave #HI := (Env_box m ρ n d r) $$ HE
  imod (inv_acc (Set.mem_univ _)) $$ HI with ⟨Hb, Hclose⟩
  unfold boxP
  icases Hb with ⟨%R, Ha, Hb⟩
  ihave H := (persistent_entails_right (roundAuth_reached_le EB)) $$ [Ha Hw]
  · isplitl [Ha] <;> iassumption
  icases H with ⟨%h, Ha, Hw⟩
  ihave Hb' := (Entails.of_eq (big_erase (Finset.mem_range.mpr (Nat.lt_of_succ_le h)) _)) $$ Hb
  icases Hb' with ⟨(Hs | Ht'), Hb⟩
  rotate_left
  · iexfalso
    iapply (dutyTok_dutyTok_false EB)
    isplitl [Ht] <;> iassumption
  ihave H := Hclose $$ [Ha Hb Ht]
  · iexists R
    isplitl [Ha]; · iexact Ha
    iapply (Entails.of_eq (big_erase (Finset.mem_range.mpr (Nat.lt_of_succ_le h)) _).symm)
    isplitr [Hb]
    · iright; iexact Ht
    · iexact Hb
  imod H
  imodintro
  iexact Hs

/-! ## The credits of the reduce-scatter -/

/-- What is known of the credits after `c` of them have been waited for. -/
def rscI (d : Dev nD) (r : Fin 4) (c : ℕ) : sProp 𝕄 :=
  iprop(∃ T : Finset ℕ, ⌜c ≤ T.card ∧ T ⊆ Finset.range 13⌝ ∗ atPos ER (cell d (.ring r .rsc)) 0 T c
    ∗ bigSep T fun i => reached EB (toD r d, r) (i + 1))
/-- Before any credit is waited for nothing need be known of them. -/
theorem rscI_zero (d : Dev nD) (r : Fin 4) : pos d (.ring r .rsc) 0 ⊢ rscI (F := F) d r 0 := by
  unfold rscI
  iintro H
  iexists (∅ : Finset ℕ)
  isplitr; · ipureintro; exact ⟨le_refl _, Finset.empty_subset _⟩
  isplitl [H]; · iexact H
  rw [bigSep_empty]; iempintro

/-- Among more numbers than `c` there is one at least `c`. -/
theorem exists_ge_of_card {T : Finset ℕ} {c : ℕ} (h : c + 1 ≤ T.card) : ∃ i ∈ T, c ≤ i := by
  by_contra hc
  push Not at hc
  have : T ⊆ Finset.range c := fun i hi => Finset.mem_range.mpr (hc i hi)
  have := Finset.card_le_card this
  rw [Finset.card_range] at this
  omega

/-- One wait for a credit: the slot it is for comes out of the box. -/
theorem rsc_wait (d : Dev nD) (r : Fin 4) (c ι : ℕ) {l : List Item} {a : ℕ} (hl : Above a l) (hι : ι < a) (hι' : ι ≤ 100) :
    iprop(Env m ρ n ∗ rscI d r c ∗ crd d (.ring r .rsc) ι 1 ∗ dutyTok EB (toD r d, r) (c + 2) 0 ∗ Ow d l)
      ⊢ WP d (semWaitWord (rsC r) 1#32) fun _ => iprop(rscI d r (c + 1)
        ∗ (slotX 1 r (slA c) (toD r d) ∗ rch (toD r d) (.ring r (.rs (slA c))) (c / 2 + 1)) ∗ Ow d l) := by
  have hE : (Rd m ρ).expect (cell d (.ring r .rsc)) 0 = 13 := by rw [Rd_expect]; rfl
  have hDu : (Rd m ρ).duties (cell d (.ring r .rsc)) 0 = Finset.range 13 := Rd_duties m ρ d (.ring r .rsc) 0
  unfold semWaitWord Ow
  iintro ⟨#HE, HI, Hc, Ht, ⟨%W, HO⟩⟩
  ihave #HL := (Env_lev m ρ n) $$ HE
  ihave #HC := (Env_cell m ρ n d (.ring r .rsc)) $$ HE
  ihave HI := (Entails.of_eq (rscI.eq_1 d r c)) $$ HI
  icases HI with ⟨%T, %hT, Hp, #HT⟩
  iapply (Rounds.wp_wait 𝒱₀ ER (Rd m ρ) (d : Thread nD τ) none (κ := n.K (d, .ring r .rsc)) (sm := .reg (rsC r)) (k' := 1)
      (wpE_semWait_eq 𝒱₀ (d : Thread nD τ) none Set.univ) (Set.mem_univ _) (cr := Finsupp.single ι 1) (O := oweL l) (W := W)
      {(SemLoc.reg (rsC r), ι)} (R := 0) (m := c) (T := T) (Util.total_single _ _) (image_single_subset _ ι 1)) $$ [Hc HO Hp]
  · isplitr; · iexact HC
    isplitl [Hc]; · iexact Hc
    isplitl [HO]; · iexact HO
    isplitr
    · iapply (Levs_may d (locOf (.ring r .rsc)) ι hl hι hι'); iexact HL
    iexact Hp
  iintro %S ⟨%hS, HO, Hp, Hpay⟩
  obtain ⟨hTS, hSD, hcard⟩ := hS
  have hSR : S ⊆ Finset.range 13 := fun i hi => by have := hSD hi; exact hDu ▸ this
  have hS1 : c + 1 ≤ S.card := by
    have h1 : ((Rd m ρ).duties (cell d (.ring r .rsc)) 0 \ S).card + S.card = 13 := by
      rw [hDu, Finset.card_sdiff_add_card_eq_card hSR, Finset.card_range]
    have h2 : c + 1 + ((Rd m ρ).duties (cell d (.ring r .rsc)) 0 \ S).card ≤ 13 := hE ▸ hcard
    omega
  ihave #HS := (show bigSep (S \ T) (fun i => (Rd m ρ).payload ((d : Thread nD τ), .reg (rsC r)) 0 i) ⊢
      bigSep (S \ T) (fun i => reached EB (toD r d, r) (i + 1)) from
        bigSep_mono fun i _ => Entails.of_eq (Rd_payload m ρ d (.ring r .rsc) 0 i)) $$ Hpay
  ihave #HU := (Entails.of_eq (big_union (Finset.disjoint_sdiff (s := T) (t := S)) fun i => reached EB (toD r d, r) (i + 1)).symm) $$ [HT HS]
  · isplitl [HT] <;> iassumption
  rw [Finset.union_sdiff_of_subset hTS]
  obtain ⟨i, hi, hci⟩ := exists_ge_of_card hS1
  ihave #Hw := (big_elim hi fun i => reached EB (toD r d, r) (i + 1)) $$ HU
  ihave #Hw' := (reached_mono EB (show c + 1 ≤ i + 1 by omega)) $$ Hw
  imod (box_take m ρ n (toD r d) r c) $$ [Ht] with Hs
  · isplitr; · iexact HE
    isplitr; · iexact Hw'
    iexact Ht
  rw [wp_ret]; imodintro
  isplitl [Hp]
  · unfold rscI
    iexists S
    isplitr; · ipureintro; exact ⟨hS1, hSR⟩
    isplitl [Hp]; · iexact Hp
    iexact HU
  isplitl [Hs]; · iexact Hs
  iexists _; iexact HO

/-- After the last credit the cell is past its round. -/
theorem rsc_end (d : Dev nD) (r : Fin 4) :
    iprop(Env m ρ n ∗ rscI d r 13) ⊢ (|={Set.univ}=> pos d (.ring r .rsc) 1 : sProp 𝕄) := by
  have hE : (Rd m ρ).expect (cell d (.ring r .rsc)) 0 = 13 := by rw [Rd_expect]; rfl
  have hDu : (Rd m ρ).duties (cell d (.ring r .rsc)) 0 = Finset.range 13 := Rd_duties m ρ d (.ring r .rsc) 0
  unfold rscI
  iintro ⟨#HE, ⟨%T, %hT, Hp, -⟩⟩
  have hT' : T = Finset.range 13 := Finset.eq_of_subset_of_card_le hT.2 (by rw [Finset.card_range]; exact hT.1)
  ihave #HC := (Env_cell m ρ n d (.ring r .rsc)) $$ HE
  imod (fupd_skip ER (Rd m ρ) (R := 0) (m := 13) (T := T) (by rw [hDu, hT']) hE.symm (Set.mem_univ (n.K (d, .ring r .rsc)))) $$ [Hp] with ⟨Hp, -⟩
  · isplitr; · iexact HC
    iexact Hp
  imodintro; iexact Hp

/-! ## Sequences -/

/-- The four rings in order: each takes its own and hands on what is owed. -/
theorem each_spec (d : Dev nD) (f : Fin 4 → PB F PUnit) (E : sProp 𝕄) [BI.Persistent E] (P Q : Fin 4 → sProp 𝕄) (I : ℕ → sProp 𝕄)
    (h : ∀ r : Fin 4, iprop(E ∗ P r ∗ I r.val) ⊢ WP d (f r) fun _ => iprop(Q r ∗ I (r.val + 1))) :
    iprop(E ∗ bigSep Finset.univ P ∗ I 0) ⊢ WP d (each f) fun _ => iprop(bigSep Finset.univ Q ∗ I 4) := by
  rw [bigSep_four, bigSep_four]
  have h0 : iprop(E ∗ P 0 ∗ I 0) ⊢ WP d (f 0) fun _ => iprop(Q 0 ∗ I 1) := h 0
  have h1 : iprop(E ∗ P 1 ∗ I 1) ⊢ WP d (f 1) fun _ => iprop(Q 1 ∗ I 2) := h 1
  have h2 : iprop(E ∗ P 2 ∗ I 2) ⊢ WP d (f 2) fun _ => iprop(Q 2 ∗ I 3) := h 2
  have h3 : iprop(E ∗ P 3 ∗ I 3) ⊢ WP d (f 3) fun _ => iprop(Q 3 ∗ I 4) := h 3
  unfold each
  iintro ⟨#HE, ⟨H0, H1, H2, H3⟩, HI⟩
  iapply (wp_then h0) $$ [H0 HI]
  · isplitr; · iexact HE
    isplitl [H0] <;> iassumption
  iintro ⟨H0, HI⟩
  iapply (wp_then h1) $$ [H1 HI]
  · isplitr; · iexact HE
    isplitl [H1] <;> iassumption
  iintro ⟨H1, HI⟩
  iapply (wp_then h2) $$ [H2 HI]
  · isplitr; · iexact HE
    isplitl [H2] <;> iassumption
  iintro ⟨H2, HI⟩
  iapply (wp_last h3) $$ [H3 HI]
  · isplitr; · iexact HE
    isplitl [H3] <;> iassumption
  iintro %_ ⟨H3, HI⟩
  isplitr [HI]
  · isplitl [H0]; · iexact H0
    isplitl [H1]; · iexact H1
    isplitl [H2] <;> iassumption
  iexact HI

/-- The same when a ring's part changes nothing it hands on. -/
theorem whenP_spec (d : Dev nD) (b : Bool) (f : PB F PUnit) {P Q : sProp 𝕄} (h1 : b = true → (P ⊢ WP d f fun _ => Q)) (h0 : b = false → (P ⊢ Q)) :
    P ⊢ WP d (whenP b f) fun _ => Q := by
  cases b with
  | true => exact h1 rfl
  | false =>
    show P ⊢ WP d (.ret PUnit.unit) _
    rw [WP_ret]
    exact (h0 rfl).trans BI.fupd_intro

/-- The steps in order: each takes its own resource, and the state it was handed. -/
theorem upTo_spec (d : Dev nD) (f : Fin 15 → PB F PUnit) (E : sProp 𝕄) [BI.Persistent E] (I : ℕ → sProp 𝕄) (A B : ℕ → sProp 𝕄)
    (h : ∀ s : Fin 15, iprop(E ∗ A s.val ∗ I s.val) ⊢ WP d (f s) fun _ => iprop(B s.val ∗ I (s.val + 1))) (k : ℕ) (hk : k ≤ 15) :
    iprop(E ∗ bigSep (Finset.range k) A ∗ I 0) ⊢ WP d (upTo f k hk) fun _ => iprop(bigSep (Finset.range k) B ∗ I k) := by
  induction k with
  | zero =>
    unfold upTo
    show _ ⊢ WP d (.ret PUnit.unit) _
    rw [WP_ret, Finset.range_zero, bigSep_empty, bigSep_empty]
    iintro ⟨-, -, H⟩
    imodintro
    isplitr; · iempintro
    iexact H
  | succ k ih =>
    unfold upTo
    rw [range_succ', range_succ']
    iintro ⟨#HE, ⟨Hk, HA⟩, HI⟩
    iapply (wp_then (ih (Nat.le_of_succ_le hk))) $$ [HA HI]
    · isplitr; · iexact HE
      isplitl [HA] <;> iassumption
    iintro ⟨HB, HI⟩
    iapply (wp_last (h ⟨k, hk⟩)) $$ [Hk HI]
    · isplitr; · iexact HE
      isplitl [Hk] <;> iassumption
    iintro %_ ⟨Hk, HI⟩
    isplitr [HI]
    · isplitl [Hk] <;> iassumption
    iexact HI

end Cert.KernelIdeal.Ring
-- ==== Proof.K.RS.lean ====
/- The reduce-scatter: what a ring holds between steps, and the rule of a step. -/
module

public import proofs.«01_k».proof.Proof.K.Talk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## What a ring holds on the reduce-scatter -/

/-- Steps two apart use the same slot. -/
theorem slA_two (s : ℕ) : slA (s + 2) = slA s := Fin.ext (by show (s + 2) % 2 = s % 2; omega)
/-- A step is twice its round, and its slot. -/
theorem two_half (s : ℕ) : 2 * (s / 2) + (slA s).val = s := Nat.div_add_mod s 2

/-- The slot there that step `s` fills. -/
def peerS (d : Dev nD) (r : Fin 4) (s : ℕ) : sProp 𝕄 :=
  iprop(slotX 1 r (slA s) (toD r d) ∗ rch (toD r d) (.ring r (.rs (slA s))) (s / 2))
/-- The slots there that no step has filled yet, before step `s`. -/
def spare (d : Dev nD) (r : Fin 4) : ℕ → sProp 𝕄
  | 0 => iprop(peerS d r 0 ∗ peerS d r 1)
  | 1 => peerS d r 1
  | _ => iprop(emp)
/-- What the credits' side is before step `s`, and what step `s` gets for it. -/
def rsC₀ (d : Dev nD) (s : ℕ) (r : Fin 4) : sProp 𝕄 := iprop(rscI d r (s - 2) ∗ spare d r s)
def rsResA (d : Dev nD) (s : ℕ) (r : Fin 4) : sProp 𝕄 :=
  if 2 ≤ s then iprop(crd d (.ring r .rsc) (10 + 2 * s) 1 ∗ dutyTok EB (toD r d, r) s 0) else iprop(emp)

/-- The slot to be sent at step `s`; after the last step the finished chunk, on its way into the result. -/
def rsHave (d : Dev nD) (s : ℕ) (r : Fin 4) : sProp 𝕄 :=
  if s = 15 then iprop(slotP 0 r 1 fullShare.left d (finV m ρ r d) ∗ crd d (.ring r .copy) 0 NC)
  else slotP 0 r (slA s) fullShare d (sendV m ρ r s d)
/-- The other slot: free, or on its way. -/
def rsOth (d : Dev nD) (s : ℕ) (r : Fin 4) : sProp 𝕄 :=
  if s = 0 then slotX 0 r 1 d else crd d (.ring r (.send (slA (s + 1)))) 0 NS
/-- The receive slots that are not given back. -/
def rsKeep (d : Dev nD) (r : Fin 4) : ℕ → sProp 𝕄
  | 14 => slotX 1 r 1 d
  | 15 => iprop(slotX 1 r 1 d ∗ slotX 1 r 0 d)
  | _ => iprop(emp)
/-- What is left in the box, and what was not. -/
def rsBack (d : Dev nD) (s : ℕ) (r : Fin 4) : sProp 𝕄 := iprop(atPos EB (d, r) (min s 13) ∅ 0 ∗ rsKeep d r s)
/-- The positions in a ring's send and receive cells before step `s`. -/
def rsPos (d : Dev nD) (s : ℕ) (r : Fin 4) : sProp 𝕄 :=
  iprop(pos d (.ring r (.send (slA s))) (s / 2) ∗ pos d (.ring r (.send (slA (s + 1)))) ((s - 1) / 2)
    ∗ pos d (.ring r (.rs (slA s))) (s / 2) ∗ pos d (.ring r (.rs (slA (s + 1)))) ((s + 1) / 2))
def rsM (d : Dev nD) (s : ℕ) (r : Fin 4) : sProp 𝕄 :=
  iprop(rsHave m ρ d s r ∗ rch d (.ring r (.send (slA s))) (s / 2) ∗ rsOth d s r ∗ rsPos d s r ∗ rsBack d s r)
/-- Between a step's sends and what it receives. -/
def rsMid (d : Dev nD) (s : ℕ) (r : Fin 4) : sProp 𝕄 :=
  iprop(crd d (.ring r (.send (slA s))) 0 NS ∗ rsOth d s r ∗ rsPos d s r ∗ rsBack d s r)
/-- What step `s` gets for its sends, and for what it receives. -/
def rsResB (d : Dev nD) (s : ℕ) (r : Fin 4) : sProp 𝕄 :=
  iprop(tok d (.ring r (.send (slA s))) (s / 2) 0 ∗ tok (toD r d) (.ring r (.rs (slA s))) (s / 2) 0)
/-- What local copy `j` needs. -/
def cpRes (d : Dev nD) (r : Fin 4) (j : Fin 16) : sProp 𝕄 := iprop(tok d (.ring r .copy) j.val 0 ∗ outX r d j)
def rsResC (d : Dev nD) (s : ℕ) (r : Fin 4) : sProp 𝕄 :=
  iprop(crd d (.ring r (.rs (slA s))) (11 + 2 * s) NS ∗ (if s < 13 then tok (fromD r d) (.ring r .rsc) 0 s else iprop(emp))
    ∗ (if s = 14 then cpRes d r 0 else iprop(emp)))

/-! ## The credits -/

/-- The first two reduce-scatter steps wait for no credit: the slot they fill is still spare. -/
theorem rsA_low (d : Dev nD) (r : Fin 4) (s : ℕ) (h : s < 2) : rsC₀ (F := F) d s r ⊢ iprop(rsC₀ d (s + 1) r ∗ peerS d r s) := by
  unfold rsC₀
  rcases Nat.lt_or_ge s 1 with h1 | h1
  · obtain rfl : s = 0 := by omega
    show iprop(rscI d r 0 ∗ peerS d r 0 ∗ peerS d r 1) ⊢ iprop((rscI d r 0 ∗ peerS d r 1) ∗ peerS d r 0)
    iintro ⟨H, H0, H1⟩
    isplitr [H0]
    · isplitl [H] <;> iassumption
    · iexact H0
  · obtain rfl : s = 1 := by omega
    show iprop(rscI d r 0 ∗ peerS d r 1) ⊢ iprop((rscI d r 0 ∗ emp) ∗ peerS d r 1)
    iintro ⟨H, H1⟩
    isplitr [H1]
    · isplitl [H]; · iexact H
      iempintro
    · iexact H1
/-- From step 2 on, one credit waited for gives the slot on the next device that the step fills. -/
theorem rsA_high (d : Dev nD) (r : Fin 4) (s : ℕ) {l : List Item} (hl : Above (11 + 2 * (s + 2)) l) (hs : s + 2 ≤ 15) :
    iprop(Env m ρ n ∗ (rsC₀ d (s + 2) r ∗ rsResA d (s + 2) r) ∗ Ow d l)
      ⊢ WP d (semWaitWord (rsC r) 1#32) fun _ => iprop((rsC₀ d (s + 3) r ∗ peerS d r (s + 2)) ∗ Ow d l) := by
  unfold rsC₀ rsResA
  rw [if_pos (by omega)]
  show iprop(Env m ρ n ∗ ((rscI d r s ∗ emp) ∗ _) ∗ Ow d l) ⊢ WP d _ fun _ => iprop(((rscI d r (s + 1) ∗ emp) ∗ _) ∗ Ow d l)
  have hp : iprop(slotX 1 r (slA s) (toD r d) ∗ rch (toD r d) (.ring r (.rs (slA s))) (s / 2 + 1)) ⊢ peerS (F := F) d r (s + 2) := by
    unfold peerS; rw [slA_two, Nat.add_div_right s (by decide)]
  iintro ⟨#HE, ⟨⟨HI, -⟩, Hc, Ht⟩, HO⟩
  iapply (wp_last (rsc_wait m ρ n d r s (10 + 2 * (s + 2)) hl (by omega) (by omega))) $$ [HI Hc Ht HO]
  · isplitr; · iexact HE
    isplitl [HI]; · iexact HI
    isplitl [Hc]; · iexact Hc
    isplitl [Ht]; · iexact Ht
    iexact HO
  iintro %_ ⟨HI, Hp, HO⟩
  isplitr [HO]
  · isplitl [HI]
    · isplitl [HI]; · iexact HI
      iempintro
    · iapply hp; iexact Hp
  iexact HO
/-- Step `s`'s credits, of the four rings. -/
theorem rsA_spec (d : Dev nD) (s : ℕ) (hs : s < 15) {l : List Item} (hl : Above (11 + 2 * s) l) :
    iprop(Env m ρ n ∗ bigSep Finset.univ (fun r => iprop(rsC₀ d s r ∗ rsResA d s r)) ∗ Ow d l)
      ⊢ WP d (whenP (decide (2 ≤ s)) (each fun r => semWaitWord (rsC r) 1#32)) fun _ =>
        iprop(bigSep Finset.univ (fun r => iprop(rsC₀ d (s + 1) r ∗ peerS d r s)) ∗ Ow d l) := by
  refine whenP_spec d _ _ (fun h => ?_) (fun h => ?_)
  · obtain ⟨s, rfl⟩ : ∃ s', s = s' + 2 := ⟨s - 2, by have := of_decide_eq_true h; omega⟩
    exact each_spec d _ (Env m ρ n) _ _ (fun _ => Ow d l) fun r => rsA_high m ρ n d r s hl (by omega)
  · have h2 : s < 2 := by have := of_decide_eq_false h; omega
    have hh : bigSep Finset.univ (fun r => iprop(rsC₀ d s r ∗ rsResA d s r)) ⊢ bigSep Finset.univ (fun r => iprop(rsC₀ (F := F) d (s + 1) r ∗ peerS d r s)) := by
      refine bigSep_mono fun r _ => ?_
      refine BIBase.Entails.trans ?_ (rsA_low d r s h2)
      unfold rsResA
      rw [if_neg (by omega)]
      iintro ⟨H, -⟩; iexact H
    iintro ⟨-, H, HO⟩
    isplitr [HO]
    · iapply hh; iexact H
    · iexact HO

/-! ## The sends -/

/-- A list of four payments, the ring's first. -/
theorem four_drop (f : Fin 4 → Item) (L : List Item) (r : Fin 4) : (four f).drop r.val ++ L = f r :: ((four f).drop (r.val + 1) ++ L) := by
  fin_cases r <;> rfl

/-- A landing of the reduce-scatter is its round's one duty. -/
theorem dut_rs (r : Fin 4) (s : ℕ) (hs : s < 15) : kDuties (.ring r (.rs (slA s))) (s / 2) = {0} :=
  if_pos (by show s / 2 < 8 - s % 2; omega)
/-- A send of the reduce-scatter is its round's one duty. -/
theorem dut_send (r : Fin 4) (s : ℕ) (hs : s < 15) : kDuties (.ring r (.send (slA s))) (s / 2) = {0} :=
  if_pos (by show s / 2 < 23 - 16 * (s % 2); omega)
/-- A send of the reduce-scatter gives back the slot it read. -/
theorem pay_send (d : Dev nD) (r : Fin 4) (s : ℕ) (hs : s < 15) :
    kPay m ρ d (.ring r (.send (slA s))) (s / 2) 0 = slotP 0 r (slA s) fullShare d (sendV m ρ r s d) := by
  show (if s / 2 < 8 - (slA s).val then slotP 0 r (slA s) fullShare d (sendV m ρ r (2 * (s / 2) + (slA s).val) d) else _) = _
  rw [if_pos (by show s / 2 < 8 - s % 2; omega), two_half]
/-- A landing of the reduce-scatter hands over the slot, filled with what the device behind sent. -/
theorem pay_rs (d : Dev nD) (r : Fin 4) (s : ℕ) :
    kPay m ρ d (.ring r (.rs (slA s))) (s / 2) 0 = slotP 1 r (slA s) fullShare d (sendV m ρ r s (fromD r d)) := by
  show slotP 1 r (slA s) fullShare d (sendV m ρ r (2 * (s / 2) + (slA s).val) (fromD r d)) = _
  rw [two_half]

/-- One ring's send at reduce-scatter step `s`. -/
theorem rsB_one (d : Dev nD) (s : ℕ) (hs : s < 15) (r : Fin 4) (L : List Item) :
    iprop(Env m ρ n ∗ (rsM m ρ d s r ∗ peerS d r s ∗ rsResB d s r) ∗ Ow d ((four (rsSends d s)).drop r.val ++ L))
      ⊢ WP d (sendP d r 0 (slA s) 1 (slA s) (sendS r (slA s)) (rsS r (slA s))) fun _ =>
        iprop(rsMid d s r ∗ Ow d ((four (rsSends d s)).drop (r.val + 1) ++ L)) := by
  unfold rsM peerS rsResB rsHave rsMid
  rw [if_neg (by omega), four_drop]
  iintro ⟨#HE, ⟨⟨Hv, Hr, Ho, Hp, Hb⟩, ⟨Hx, Hrx⟩, Ht, Htx⟩, HO⟩
  iapply (wp_last (sendP_spec m ρ n d r 0 (slA s) 1 (slA s) (sendS r (slA s)) (rsS r (slA s)) (.ring r (.send (slA s))) (.ring r (.rs (slA s)))
    rfl rfl (s / 2) (s / 2) (dut_send r s hs) (dut_rs r s hs) rfl rfl fullShare (sendV m ρ r s d) iprop(emp)
    (by rw [pay_send m ρ d r s hs]) (by rw [pay_rs, fromD_toD]; iintro ⟨H, -⟩; iexact H) (11 + 2 * s) ((four (rsSends d s)).drop (r.val + 1) ++ L)))
    $$ [Hv Hx Ht Hr Htx Hrx HO]
  · isplitr; · iexact HE
    isplitl [Hv]; · iexact Hv
    isplitl [Hx]; · iexact Hx
    isplitr; · iempintro
    isplitl [Ht]; · iexact Ht
    isplitl [Hr]; · iexact Hr
    isplitl [Htx]; · iexact Htx
    isplitl [Hrx]; · iexact Hrx
    iexact HO
  iintro %_ ⟨Hc, HO⟩
  isplitr [HO]
  · isplitl [Hc]; · iexact Hc
    isplitl [Ho]; · iexact Ho
    isplitl [Hp] <;> iassumption
  iexact HO
/-- Step `s`'s sends. -/
theorem rsB_spec (d : Dev nD) (s : ℕ) (hs : s < 15) (L : List Item) :
    iprop(Env m ρ n ∗ bigSep Finset.univ (fun r => iprop(rsM m ρ d s r ∗ peerS d r s ∗ rsResB d s r)) ∗ Ow d (four (rsSends d s) ++ L))
      ⊢ WP d (each fun r => sendP d r 0 (slA s) 1 (slA s) (sendS r (slA s)) (rsS r (slA s))) fun _ =>
        iprop(bigSep Finset.univ (fun r => rsMid d s r) ∗ Ow d L) :=
  each_spec d _ (Env m ρ n) _ _ (fun j => Ow d ((four (rsSends d s)).drop j ++ L)) fun r => rsB_one m ρ n d s hs r L

/-! ## What is received -/

/-- The other slot is free again. -/
theorem rsOth_wait (d : Dev nD) (s : ℕ) (hs : s < 15) (r : Fin 4) {l : List Item} (hl : Above 1 l) :
    iprop(Env m ρ n ∗ rsOth d s r ∗ pos d (.ring r (.send (slA (s + 1)))) ((s - 1) / 2) ∗ Ow d l)
      ⊢ WP d (whenP (decide (1 ≤ s)) (waitP (sendS r (slA (s + 1))) r 1 (slA (s + 1)) 0 (slA (s + 1)))) fun _ =>
        iprop(slotX 0 r (slA (s + 1)) d ∗ pos d (.ring r (.send (slA (s + 1)))) ((s + 1) / 2)
          ∗ rch d (.ring r (.send (slA (s + 1)))) ((s + 1) / 2) ∗ Ow d l) := by
  unfold rsOth
  refine whenP_spec d _ _ (fun h => ?_) (fun h => ?_)
  · obtain ⟨s, rfl⟩ : ∃ s', s = s' + 1 := ⟨s - 1, by have := of_decide_eq_true h; omega⟩
    rw [if_neg (by omega), slA_two, Nat.add_sub_cancel, show (s + 1 + 1) / 2 = s / 2 + 1 by omega]
    iintro ⟨#HE, Hc, Hp, HO⟩
    iapply (wp_last (waitP_spec m ρ n d (.ring r (.send (slA s))) (sendS r (slA s)) rfl r 1 (slA s) 0 (slA s) (s / 2) (dut_send r s (by omega)) rfl 0 hl
      (by decide) (by decide))) $$ [Hc Hp HO]
    · isplitr; · iexact HE
      isplitl [Hc]; · iexact Hc
      isplitl [Hp]; · iexact Hp
      iexact HO
    iintro %_ ⟨Hp, Hr, HO, Hv⟩
    isplitl [Hv]
    · iapply (slotP_X 0 r (slA s) d (sendV m ρ r s d))
      iapply (Entails.of_eq (pay_send m ρ d r s (by omega))); iexact Hv
    isplitl [Hp]; · iexact Hp
    isplitl [Hr]; · iexact Hr
    iexact HO
  · obtain rfl : s = 0 := by have := of_decide_eq_false h; omega
    rw [if_pos rfl]
    show iprop(Env m ρ n ∗ slotX 0 r 1 d ∗ pos d (.ring r (.send 1)) 0 ∗ Ow d l) ⊢
      iprop(slotX 0 r 1 d ∗ pos d (.ring r (.send 1)) 0 ∗ rch d (.ring r (.send 1)) 0 ∗ Ow d l)
    iintro ⟨#HE, Hx, Hp, HO⟩
    ihave Hz := (Env_zero m ρ n d (.ring r (.send 1))) $$ HE
    isplitl [Hx]; · iexact Hx
    isplitl [Hp]; · iexact Hp
    isplitl [Hz]; · iexact Hz
    iexact HO

/-- The slot that was read is given back, or kept. -/
theorem rsBack_spec (d : Dev nD) (s : ℕ) (hs : s < 15) (r : Fin 4) (L : List Item) :
    iprop(Env m ρ n ∗ rsBack d s r ∗ slotX 1 r (slA s) d ∗ rch d (.ring r (.rs (slA s))) (s / 2 + 1)
        ∗ (if s < 13 then tok (fromD r d) (.ring r .rsc) 0 s else iprop(emp)) ∗ Ow d ((rsCredL d s).drop r.val ++ L))
      ⊢ WP d (whenP (decide (s < 13)) (semSignalWord (fromD r d) (rsC r) 1#32)) fun _ =>
        iprop(rsBack d (s + 1) r ∗ Ow d ((rsCredL d s).drop (r.val + 1) ++ L)) := by
  unfold rsBack rsCredL
  refine whenP_spec d _ _ (fun h => ?_) (fun h => ?_)
  · have h := of_decide_eq_true h
    have hk : ∀ s, s < 14 → rsKeep (F := F) d r s = iprop(emp) := by
      intro s hs; unfold rsKeep; split <;> first | omega | rfl
    rw [if_pos h, if_pos h, hk s (by omega), hk (s + 1) (by omega), Nat.min_eq_left (by omega), Nat.min_eq_left (by omega), four_drop]
    iintro ⟨#HE, ⟨Hb, -⟩, Hx, Hr, Ht, HO⟩
    imod (box_put m ρ n d r s) $$ [Hb Hx Hr] with ⟨Hb, Hw⟩
    · isplitr; · iexact HE
      isplitl [Hb]; · iexact Hb
      isplitl [Hx]; · iexact Hx
      iexact Hr
    ihave Hz := (Env_zero m ρ n (fromD r d) (.ring r .rsc)) $$ HE
    have hp : reached EB (d, r) (s + 1) ⊢ kPay m ρ (fromD r d) (.ring r .rsc) 0 s := by
      show reached EB (d, r) (s + 1) ⊢ reached EB (toD r (fromD r d), r) (s + 1)
      rw [toD_fromD]
    iapply (wp_last (signal_spec m ρ n d (fromD r d) (.ring r .rsc) (rsC r) rfl 0 s (Finset.mem_range.mpr h) rfl (14 + 2 * s) _)) $$ [Hw Hz Ht HO]
    · isplitr; · iexact HE
      isplitl [Ht]; · iexact Ht
      isplitl [Hz]; · iexact Hz
      isplitl [Hw]; · iapply hp; iexact Hw
      iexact HO
    iintro %_ HO
    isplitr [HO]
    · isplitl [Hb]; · iexact Hb
      iempintro
    · iexact HO
  · have h := of_decide_eq_false h
    rw [if_neg h, if_neg h, List.drop_nil, List.drop_nil, Nat.min_eq_right (by omega), Nat.min_eq_right (by omega)]
    rcases Nat.lt_or_ge s 14 with h' | h'
    · obtain rfl : s = 13 := by omega
      show iprop(Env m ρ n ∗ (atPos EB (d, r) 13 ∅ 0 ∗ emp) ∗ slotX 1 r 1 d ∗ _ ∗ emp ∗ Ow d L) ⊢ iprop((atPos EB (d, r) 13 ∅ 0 ∗ slotX 1 r 1 d) ∗ Ow d L)
      iintro ⟨-, ⟨Hb, -⟩, Hx, -, -, HO⟩
      isplitr [HO]
      · isplitl [Hb] <;> iassumption
      · iexact HO
    · obtain rfl : s = 14 := by omega
      show iprop(Env m ρ n ∗ (atPos EB (d, r) 13 ∅ 0 ∗ slotX 1 r 1 d) ∗ slotX 1 r 0 d ∗ _ ∗ emp ∗ Ow d L) ⊢
        iprop((atPos EB (d, r) 13 ∅ 0 ∗ slotX 1 r 1 d ∗ slotX 1 r 0 d) ∗ Ow d L)
      iintro ⟨-, ⟨Hb, Hk⟩, Hx, -, -, HO⟩
      isplitr [HO]
      · isplitl [Hb]; · iexact Hb
        isplitl [Hk] <;> iassumption
      · iexact HO

/-- The slot filled is the next to be sent; the last goes into the result. -/
theorem rsHave_spec (d : Dev nD) (s : ℕ) (hs : s < 15) (r : Fin 4) :
    iprop(Env m ρ n ∗ slotP 0 r (slA (s + 1)) fullShare d (sendV m ρ r (s + 1) d) ∗ (if s = 14 then cpRes d r 0 else iprop(emp)))
      ⊢ WP d (whenP (decide (s = 14)) (copyP d r 0 1 0)) fun _ => rsHave m ρ d (s + 1) r := by
  unfold rsHave
  refine whenP_spec d _ _ (fun h => ?_) (fun h => ?_)
  · obtain rfl := of_decide_eq_true h
    rw [if_pos rfl, if_pos rfl]
    unfold cpRes
    show iprop(Env m ρ n ∗ slotP 0 r 1 fullShare d (finV m ρ r d) ∗ _) ⊢ _
    iintro ⟨#HE, Hv, Ht, Hx⟩
    ihave Hv2 := (slotP_halves 0 r 1 d (finV m ρ r d)) $$ Hv
    icases Hv2 with ⟨HL, HR⟩
    ihave Hz := (Env_zero m ρ n d (.ring r .copy)) $$ HE
    iapply (wp_last (copyP_spec m ρ n d r 0 1 0 (finV m ρ r d) (BI.Entails.refl _))) $$ [HR Ht Hx Hz]
    · isplitr; · iexact HE
      isplitl [HR]; · iexact HR
      isplitl [Hx]; · iexact Hx
      isplitl [Ht]; · iexact Ht
      iexact Hz
    iintro %_ Hc
    isplitl [HL] <;> iassumption
  · have h := of_decide_eq_false h
    rw [if_neg h, if_neg (by omega)]
    iintro ⟨-, H, -⟩; iexact H

/-- What is sent next is what arrived plus this device's own product; after the last step, the silu of that. -/
theorem sendV_succ (d : Dev nD) (s : ℕ) (r : Fin 4) : sendV m ρ r (s + 1) d =
    slotF (if s = 14 then siluF (accF (prodN m ρ r d s) (sendV m ρ r s (fromD r d))) else accF (prodN m ρ r d s) (sendV m ρ r s (fromD r d))) := rfl

/-- One ring's receiving half of reduce-scatter step `s`: it waits for the landing, adds its product, gives back the slot, and has the next chunk to send. -/
theorem rsC_one (d : Dev nD) (s : Fin 15) (r : Fin 4) {L : List Item} (hL : Above (13 + 2 * s.val) L) :
    iprop(Env m ρ n ∗ (rsMid d s.val r ∗ rsResC d s.val r) ∗ Ow d ((rsCredL d s.val).drop r.val ++ L))
      ⊢ WP d (rsTake d s r (prodN m ρ r d s.val)) fun _ =>
        iprop(rsM m ρ d (s.val + 1) r ∗ Ow d ((rsCredL d s.val).drop (r.val + 1) ++ L)) := by
  obtain ⟨s, hs⟩ := s
  have ha : Above (13 + 2 * s) ((rsCredL d s).drop r.val ++ L) := (((above_rsCredL d s).mono (by omega)).drop _).append hL
  unfold rsMid rsResC rsPos rsTake
  dsimp only
  iintro ⟨#HE, ⟨⟨Hc, Ho, ⟨Hp1, Hp2, Hp3, Hp4⟩, Hb⟩, Hcr, Ht, Hcp⟩, HO⟩
  iapply (wp_then (waitP_spec m ρ n d (.ring r (.rs (slA s))) (rsS r (slA s)) rfl r 0 (slA s) 1 (slA s) (s / 2) (dut_rs r s hs) rfl (11 + 2 * s) ha
    (by omega) (by omega))) $$ [Hcr Hp3 HO]
  · isplitr; · iexact HE
    isplitl [Hcr]; · iexact Hcr
    isplitl [Hp3]; · iexact Hp3
    iexact HO
  iintro ⟨Hp3, Hr, HO, Hv⟩
  ihave Hv := (Entails.of_eq (pay_rs m ρ d r s)) $$ Hv
  iapply (wp_thenV (loadSlot_spec d 1 r (slA s) fullShare (sendV m ρ r s (fromD r d)))) $$ Hv
  iintro %v ⟨%hv, Hv⟩
  subst hv
  iapply (wp_then (rsOth_wait m ρ n d s hs r (ha.mono (by omega)))) $$ [Ho Hp2 HO]
  · isplitr; · iexact HE
    isplitl [Ho]; · iexact Ho
    isplitl [Hp2]; · iexact Hp2
    iexact HO
  iintro ⟨Hx, Hp2, Hr2, HO⟩
  iapply (wp_then (fillSlot_spec d r (slA (s + 1)) _)) $$ Hx
  rw [← sendV_succ]
  iintro Hx
  iapply (wp_then (rsBack_spec m ρ n d s hs r L)) $$ [Hb Hv Hr Ht HO]
  · isplitr; · iexact HE
    isplitl [Hb]; · iexact Hb
    isplitl [Hv]; · iapply (slotP_X 1 r (slA s) d _); iexact Hv
    isplitl [Hr]; · iexact Hr
    isplitl [Ht]; · iexact Ht
    iexact HO
  iintro ⟨Hb, HO⟩
  iapply (wp_last (rsHave_spec m ρ n d s hs r)) $$ [Hx Hcp]
  · isplitr; · iexact HE
    isplitl [Hx]; · iexact Hx
    iexact Hcp
  iintro %_ Hh
  unfold rsM rsPos rsOth
  rw [if_neg (Nat.succ_ne_zero s), slA_two, Nat.add_sub_cancel, show (s + 1 + 1) / 2 = s / 2 + 1 by omega]
  isplitr [HO]
  · isplitl [Hh]; · iexact Hh
    isplitl [Hr2]; · iexact Hr2
    isplitl [Hc]; · iexact Hc
    isplitr [Hb]
    · isplitl [Hp2]; · iexact Hp2
      isplitl [Hp1]; · iexact Hp1
      isplitl [Hp4]; · iexact Hp4
      iexact Hp3
    · iexact Hb
  iexact HO

/-! ## A step -/

/-- What is owed before reduce-scatter step `s` is its sends, its credits, and what is owed after it. -/
theorem rsL_step (d : Dev nD) (s : ℕ) (hs : s < 15) :
    rsL d (15 - s) = four (rsSends d s) ++ (rsCredL d s ++ rsL d (15 - (s + 1))) := by
  have e : 15 - s = (14 - s) + 1 := by omega
  have e' : 14 - (14 - s) = s := by omega
  rw [e, rsL, e', show 15 - (s + 1) = 14 - s by omega]

/-- What the rings hold before step `s`. -/
def rsState (d : Dev nD) (s : ℕ) : sProp 𝕄 :=
  iprop(XW m ρ d ∗ bigSep Finset.univ (rsC₀ (F := F) d s) ∗ bigSep Finset.univ (rsM m ρ d s) ∗ Ow d (rsL d (15 - s)))
/-- What step `s` gets. -/
def rsRes (d : Dev nD) (s : ℕ) : sProp 𝕄 :=
  iprop(bigSep Finset.univ (rsResA (F := F) d s) ∗ bigSep Finset.univ (rsResB (F := F) d s) ∗ bigSep Finset.univ (rsResC (F := F) d s))

/-- The loads of step `s` give the step's product. -/
theorem loadN_spec (d : Dev nD) (r : Fin 4) (s : Fin 15) :
    XW m ρ d ⊢ WP d (loadProd (F := F) r (k0_off2 d (stepW r (s.val + 1))) (x_inb r d s)) fun p => iprop(⌜p = prodN m ρ r d s.val⌝ ∗ XW m ρ d) := by
  have := loadProd_spec m ρ d r (k0_off2 d (stepW r (s.val + 1))) (x_inb r d s)
  rw [show prodAt m ρ r d (Rect.unit (s := S8192x512) (k0_off2 d (stepW r (s.val + 1))) S512x512.size (x_inb r d s)) rfl = prodN m ρ r d s.val from by
    unfold prodN; rw [dif_pos s.isLt]] at this
  exact this

/-- One step of the reduce-scatter, all four rings: from the state before step `s` to the state before step `s + 1`. -/
theorem rsStep_spec (d : Dev nD) (s : Fin 15) :
    iprop(Env m ρ n ∗ rsRes d s.val ∗ rsState m ρ d s.val) ⊢ WP d (rsStep d s) fun _ => iprop(emp ∗ rsState m ρ d (s.val + 1)) := by
  have hs := s.isLt
  unfold rsRes rsState rsStep
  iintro ⟨#HE, ⟨HA, HB, HC⟩, Hx, Hc, Hm, HO⟩
  iapply (wp_then (rsA_spec m ρ n d s.val hs ((above_rsL d (15 - s.val) (by omega)).mono (by omega)))) $$ [HA Hc HO]
  · isplitr; · iexact HE
    isplitr [HO]
    · iapply (Entails.of_eq (big_sep _ _ _).symm)
      isplitl [Hc] <;> iassumption
    · iexact HO
  rw [rsL_step d s.val hs]
  iintro ⟨H, HO⟩
  ihave H := (Entails.of_eq (big_sep _ _ _)) $$ H
  icases H with ⟨Hc, Hp⟩
  iapply (wp_then (rsB_spec m ρ n d s.val hs _)) $$ [HB Hm Hp HO]
  · isplitr; · iexact HE
    isplitr [HO]
    · iapply (Entails.of_eq (big_sep _ _ _).symm)
      isplitl [Hm]; · iexact Hm
      iapply (Entails.of_eq (big_sep _ _ _).symm)
      isplitl [Hp] <;> iassumption
    · iexact HO
  iintro ⟨Hm, HO⟩
  iapply (wp_thenV (loadN_spec m ρ d 0 s)) $$ Hx
  iintro %p0 ⟨%h0, Hx⟩
  iapply (wp_thenV (loadN_spec m ρ d 1 s)) $$ Hx
  iintro %p1 ⟨%h1, Hx⟩
  iapply (wp_thenV (loadN_spec m ρ d 2 s)) $$ Hx
  iintro %p2 ⟨%h2, Hx⟩
  iapply (wp_thenV (loadN_spec m ρ d 3 s)) $$ Hx
  iintro %p3 ⟨%h3, Hx⟩
  subst h0 h1 h2 h3
  have hL : Above (13 + 2 * s.val) (rsL d (15 - (s.val + 1))) := (above_rsL d (15 - (s.val + 1)) (by omega)).mono (by omega)
  have hstep := each_spec d (fun r => rsTake d s r (match r with
      | 0 => prodN m ρ 0 d s.val | 1 => prodN m ρ 1 d s.val | 2 => prodN m ρ 2 d s.val | 3 => prodN m ρ 3 d s.val)) (Env m ρ n)
    (fun r => iprop(rsMid d s.val r ∗ rsResC d s.val r)) (rsM m ρ d (s.val + 1)) (fun j => Ow d ((rsCredL d s.val).drop j ++ rsL d (15 - (s.val + 1))))
    (fun r => by
      have := rsC_one m ρ n d s r hL
      fin_cases r <;> exact this)
  have h4 : (rsCredL d s.val).drop 4 = [] := by unfold rsCredL; split <;> rfl
  rw [h4, List.nil_append, List.drop_zero] at hstep
  iapply (wp_last hstep) $$ [HC Hm HO]
  · isplitr; · iexact HE
    isplitr [HO]
    · iapply (Entails.of_eq (big_sep _ _ _).symm)
      isplitl [Hm] <;> iassumption
    · iexact HO
  iintro %_ ⟨Hm, HO⟩
  isplitr; · iempintro
  isplitl [Hx]; · iexact Hx
  isplitl [Hc]; · iexact Hc
  isplitl [Hm] <;> iassumption

end Cert.KernelIdeal.Ring
-- ==== Proof.K.AG.lean ====
/- The all-gather: what a ring holds between steps, and the rule of a step. -/
module

public import proofs.«01_k».proof.Proof.K.RS

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## What a ring holds on the all-gather -/

/-- The slot there that step `t` fills. -/
def peerG (d : Dev nD) (r : Fin 4) (t : ℕ) : sProp 𝕄 :=
  iprop(slotX 2 r (slA t) (toD r d) ∗ rch (toD r d) (.ring r (.ag (slA t))) (t / 2))
def spareG (d : Dev nD) (r : Fin 4) : ℕ → sProp 𝕄
  | 0 => iprop(peerG d r 0 ∗ peerG d r 1)
  | 1 => peerG d r 1
  | _ => iprop(emp)
/-- What the credits' side is before step `t`, and what step `t` gets for it. -/
def agC₀ (d : Dev nD) (t : ℕ) (r : Fin 4) : sProp 𝕄 :=
  iprop(pos d (.ring r .agc) (t - 2) ∗ rch d (.ring r .agc) (t - 2) ∗ spareG d r t)
def agResA (d : Dev nD) (t : ℕ) (r : Fin 4) : sProp 𝕄 :=
  if 2 ≤ t then crd d (.ring r .agc) (40 + 2 * t) 1 else iprop(emp)
/-- The slots that no one needs again. -/
def agKeep (d : Dev nD) (r : Fin 4) (t : ℕ) : sProp 𝕄 :=
  iprop((if t = 0 then iprop(emp) else slotX 0 r 1 d) ∗ (if t < 15 then iprop(emp) else slotX 2 r 1 d))
/-- The positions in a ring's send, receive and copy cells before step `t`. -/
def agPos (d : Dev nD) (t : ℕ) (r : Fin 4) : sProp 𝕄 :=
  iprop(pos d (.ring r (.send 0)) (8 + t) ∗ pos d (.ring r (.ag (slA t))) (t / 2) ∗ pos d (.ring r (.ag (slA (t + 1)))) ((t + 1) / 2)
    ∗ rch d (.ring r (.ag (slA (t + 1)))) ((t + 1) / 2) ∗ pos d (.ring r .copy) t)
/-- Before step `t`: the chunk to be sent, its other half on its way into the result. -/
def agM (d : Dev nD) (t : ℕ) (r : Fin 4) : sProp 𝕄 :=
  iprop(srcP m ρ r t fullShare.left d ∗ rch d (.ring r (.send 0)) (8 + t) ∗ crd d (.ring r .copy) 0 NC ∗ agKeep d r t ∗ agPos d t r)
def agMid (d : Dev nD) (t : ℕ) (r : Fin 4) : sProp 𝕄 :=
  iprop(crd d (.ring r (.send 0)) 0 NS ∗ crd d (.ring r .copy) 0 NC ∗ agKeep d r t ∗ agPos d t r)
def agResB (d : Dev nD) (t : ℕ) (r : Fin 4) : sProp 𝕄 :=
  iprop(tok d (.ring r (.send 0)) (8 + t) 0 ∗ tok (toD r d) (.ring r (.ag (slA t))) (t / 2) 0)
def agResC (d : Dev nD) (t : Fin 15) (r : Fin 4) : sProp 𝕄 :=
  iprop(crd d (.ring r (.ag (slA t.val))) (41 + 2 * t.val) NS
    ∗ (if 1 ≤ t.val ∧ t.val ≤ 13 then tok (fromD r d) (.ring r .agc) (t.val - 1) 0 else iprop(emp)) ∗ cpRes d r t.succ)
/-- The chunk of the result local copy `j` has filled. -/
def outDone (d : Dev nD) (r : Fin 4) (j : Fin 16) : sProp 𝕄 := outP r d j (outV (finV m ρ r (back r j.val d)))

/-! ## The credits -/

/-- The first two all-gather steps wait for no credit: the slot they fill is still spare. -/
theorem agA_low (d : Dev nD) (r : Fin 4) (t : ℕ) (h : t < 2) : agC₀ (F := F) d t r ⊢ iprop(agC₀ d (t + 1) r ∗ peerG d r t) := by
  unfold agC₀
  rcases Nat.lt_or_ge t 1 with h1 | h1
  · obtain rfl : t = 0 := by omega
    show iprop(pos d (.ring r .agc) 0 ∗ rch d (.ring r .agc) 0 ∗ peerG d r 0 ∗ peerG d r 1) ⊢
      iprop((pos d (.ring r .agc) 0 ∗ rch d (.ring r .agc) 0 ∗ peerG d r 1) ∗ peerG d r 0)
    iintro ⟨H, Hr, H0, H1⟩
    isplitr [H0]
    · isplitl [H]; · iexact H
      isplitl [Hr] <;> iassumption
    · iexact H0
  · obtain rfl : t = 1 := by omega
    show iprop(pos d (.ring r .agc) 0 ∗ rch d (.ring r .agc) 0 ∗ peerG d r 1) ⊢
      iprop((pos d (.ring r .agc) 0 ∗ rch d (.ring r .agc) 0 ∗ emp) ∗ peerG d r 1)
    iintro ⟨H, Hr, H1⟩
    isplitr [H1]
    · isplitl [H]; · iexact H
      isplitl [Hr]; · iexact Hr
      iempintro
    · iexact H1
/-- From step 2 on, one credit waited for gives the slot on the next device that the step fills. -/
theorem agA_high (d : Dev nD) (r : Fin 4) (t : ℕ) {l : List Item} (hl : Above (41 + 2 * (t + 2)) l) (ht : t + 2 < 15) :
    iprop(Env m ρ n ∗ (agC₀ d (t + 2) r ∗ agResA d (t + 2) r) ∗ Ow d l)
      ⊢ WP d (semWaitWord (agC r) 1#32) fun _ => iprop((agC₀ d (t + 3) r ∗ peerG d r (t + 2)) ∗ Ow d l) := by
  unfold agC₀ agResA
  rw [if_pos (by omega)]
  have hD : kDuties (.ring r .agc) t = {0} := if_pos (by omega)
  show iprop(Env m ρ n ∗ ((pos d (.ring r .agc) t ∗ _ ∗ emp) ∗ _) ∗ Ow d l) ⊢
    WP d _ fun _ => iprop(((pos d (.ring r .agc) (t + 1) ∗ rch d (.ring r .agc) (t + 1) ∗ emp) ∗ _) ∗ Ow d l)
  have hp : bigSep (kDuties (.ring r .agc) t) (kPay m ρ d (.ring r .agc) t) ⊢ peerG (F := F) d r (t + 2) := by
    unfold peerG
    rw [hD, bigSep_singleton, slA_two, Nat.add_div_right t (by decide)]
    exact BI.Entails.refl _
  iintro ⟨#HE, ⟨⟨Hp, -, -⟩, Hc⟩, HO⟩
  iapply (wp_last (semWait_spec m ρ n d (.ring r .agc) (agC r) rfl 1#32 1 (by decide) t (by rw [hD]; rfl) (40 + 2 * (t + 2)) hl (by omega) (by omega)))
    $$ [Hp Hc HO]
  · isplitr; · iexact HE
    isplitl [Hc]; · iexact Hc
    isplitl [Hp]; · iexact Hp
    iexact HO
  iintro %_ ⟨Hp, Hr, HO, Hx⟩
  isplitr [HO]
  · isplitr [Hx]
    · isplitl [Hp]; · iexact Hp
      isplitl [Hr]; · iexact Hr
      iempintro
    · iapply hp; iexact Hx
  iexact HO
/-- All-gather step `t`'s waits for credits, of the four rings. -/
theorem agA_spec (d : Dev nD) (t : ℕ) (ht : t < 15) {l : List Item} (hl : Above (41 + 2 * t) l) :
    iprop(Env m ρ n ∗ bigSep Finset.univ (fun r => iprop(agC₀ d t r ∗ agResA d t r)) ∗ Ow d l)
      ⊢ WP d (whenP (decide (2 ≤ t)) (each fun r => semWaitWord (agC r) 1#32)) fun _ =>
        iprop(bigSep Finset.univ (fun r => iprop(agC₀ d (t + 1) r ∗ peerG d r t)) ∗ Ow d l) := by
  refine whenP_spec d _ _ (fun h => ?_) (fun h => ?_)
  · obtain ⟨t, rfl⟩ : ∃ t', t = t' + 2 := ⟨t - 2, by have := of_decide_eq_true h; omega⟩
    exact each_spec d _ (Env m ρ n) _ _ (fun _ => Ow d l) fun r => agA_high m ρ n d r t hl ht
  · have h2 : t < 2 := by have := of_decide_eq_false h; omega
    have hh : bigSep Finset.univ (fun r => iprop(agC₀ d t r ∗ agResA d t r)) ⊢ bigSep Finset.univ (fun r => iprop(agC₀ (F := F) d (t + 1) r ∗ peerG d r t)) := by
      refine bigSep_mono fun r _ => ?_
      refine BIBase.Entails.trans ?_ (agA_low d r t h2)
      unfold agResA
      rw [if_neg (by omega)]
      iintro ⟨H, -⟩; iexact H
    iintro ⟨-, H, HO⟩
    isplitr [HO]
    · iapply hh; iexact H
    · iexact HO

/-! ## The sends -/

/-- A landing of the all-gather is its round's one duty. -/
theorem dut_ag (r : Fin 4) (t : ℕ) (ht : t < 15) : kDuties (.ring r (.ag (slA t))) (t / 2) = {0} :=
  if_pos (by show t / 2 < 8 - t % 2; omega)
/-- A send of the all-gather is its round's one duty, after the eight rounds of the reduce-scatter. -/
theorem dut_send0 (r : Fin 4) (t : ℕ) (ht : t < 15) : kDuties (.ring r (.send 0)) (8 + t) = {0} :=
  if_pos (by show 8 + t < 23 - 16 * 0; omega)
/-- A send of the all-gather gives back the half of the chunk it read. -/
theorem pay_send0 (d : Dev nD) (r : Fin 4) (t : ℕ) : kPay m ρ d (.ring r (.send 0)) (8 + t) 0 = srcP m ρ r t fullShare.left d := by
  show (if 8 + t < 8 - 0 then _ else srcP m ρ r (8 + t - 8) fullShare.left d) = _
  rw [if_neg (by omega), Nat.add_sub_cancel_left]
/-- A landing of the all-gather hands over the slot, filled with the chunk of the device `t + 1` places behind, and the knowledge of the credits given so far. -/
theorem pay_ag (d : Dev nD) (r : Fin 4) (t : ℕ) : kPay m ρ d (.ring r (.ag (slA t))) (t / 2) 0
    = iprop(slotP 2 r (slA t) fullShare d (finV m ρ r (back r (t + 1) d)) ∗ rch (fromD r d) (.ring r .agc) (t - 1)) := by
  show iprop(slotP 2 r (slA t) fullShare d (finV m ρ r (back r (2 * (t / 2) + (slA t).val + 1) d)) ∗ rch (fromD r d) (.ring r .agc) (2 * (t / 2) + (slA t).val - 1)) = _
  rw [two_half]

/-- One ring's send at all-gather step `t`. -/
theorem agB_one (d : Dev nD) (t : ℕ) (ht : t < 15) (r : Fin 4) (L : List Item) :
    iprop(Env m ρ n ∗ (agM m ρ d t r ∗ (peerG d r t ∗ rch d (.ring r .agc) (t - 1)) ∗ agResB d t r) ∗ Ow d ((four (agSends d t)).drop r.val ++ L))
      ⊢ WP d (sendP d r (srcB t) (slA (t + 1)) 2 (slA t) (sendS r 0) (agS r (slA t))) fun _ =>
        iprop(agMid d t r ∗ Ow d ((four (agSends d t)).drop (r.val + 1) ++ L)) := by
  unfold agM peerG agResB agMid
  rw [four_drop]
  iintro ⟨#HE, ⟨⟨Hv, Hr, Hc, Hk, Hp⟩, ⟨⟨Hx, Hrx⟩, Hra⟩, Ht, Htx⟩, HO⟩
  iapply (wp_last (sendP_spec m ρ n d r (srcB t) (slA (t + 1)) 2 (slA t) (sendS r 0) (agS r (slA t)) (.ring r (.send 0)) (.ring r (.ag (slA t)))
    rfl rfl (8 + t) (t / 2) (dut_send0 r t ht) (dut_ag r t ht) rfl rfl fullShare.left (finV m ρ r (back r t d)) (rch d (.ring r .agc) (t - 1))
    (by rw [pay_send0 m ρ d r t])
    (by rw [pay_ag, fromD_toD]; show _ ⊢ iprop(slotP 2 r (slA t) fullShare (toD r d) (finV m ρ r (back r t (fromD r (toD r d)))) ∗ _); rw [fromD_toD])
    (41 + 2 * t) ((four (agSends d t)).drop (r.val + 1) ++ L)))
    $$ [Hv Hx Ht Hr Htx Hrx Hra HO]
  · isplitr; · iexact HE
    isplitl [Hv]; · iexact Hv
    isplitl [Hx]; · iexact Hx
    isplitl [Hra]; · iexact Hra
    isplitl [Ht]; · iexact Ht
    isplitl [Hr]; · iexact Hr
    isplitl [Htx]; · iexact Htx
    isplitl [Hrx]; · iexact Hrx
    iexact HO
  iintro %_ ⟨Hs, HO⟩
  isplitr [HO]
  · isplitl [Hs]; · iexact Hs
    isplitl [Hc]; · iexact Hc
    isplitl [Hk] <;> iassumption
  iexact HO
/-- All-gather step `t`'s sends, of the four rings. -/
theorem agB_spec (d : Dev nD) (t : ℕ) (ht : t < 15) (L : List Item) :
    iprop(Env m ρ n ∗ bigSep Finset.univ (fun r => iprop(agM m ρ d t r ∗ (peerG d r t ∗ rch d (.ring r .agc) (t - 1)) ∗ agResB d t r))
        ∗ Ow d (four (agSends d t) ++ L))
      ⊢ WP d (each fun r => sendP d r (srcB t) (slA (t + 1)) 2 (slA t) (sendS r 0) (agS r (slA t))) fun _ =>
        iprop(bigSep Finset.univ (fun r => agMid d t r) ∗ Ow d L) :=
  each_spec d _ (Env m ρ n) _ _ (fun j => Ow d ((four (agSends d t)).drop j ++ L)) fun r => agB_one m ρ n d t ht r L

/-! ## What is received -/

/-- Local copy `j` hands over its chunk of the result, filled, and the half of the chunk it read. -/
theorem pay_copy (d : Dev nD) (r : Fin 4) (j : Fin 16) : kPay m ρ d (.ring r .copy) j.val 0
    = iprop(outDone m ρ d r j ∗ srcP m ρ r j.val fullShare.right d) := by
  show (if h : j.val < 16 then iprop(outP r d ⟨j.val, h⟩ (outV (finV m ρ r (back r j.val d))) ∗ srcP m ρ r j.val fullShare.right d) else iprop(emp)) = _
  rw [dif_pos j.isLt]; rfl

/-- The slot that was sent and copied is given back, or kept. -/
theorem agBack_spec (d : Dev nD) (t : ℕ) (ht : t < 15) (r : Fin 4) (L : List Item) :
    iprop(Env m ρ n ∗ agKeep d r t ∗ slotX (srcB t) r (slA (t + 1)) d ∗ rch d (.ring r (.ag (slA (t + 1)))) ((t + 1) / 2)
        ∗ rch (fromD r d) (.ring r .agc) (t - 1)
        ∗ (if 1 ≤ t ∧ t ≤ 13 then tok (fromD r d) (.ring r .agc) (t - 1) 0 else iprop(emp)) ∗ Ow d ((agCredL d t).drop r.val ++ L))
      ⊢ WP d (whenP (decide (1 ≤ t ∧ t ≤ 13)) (semSignalWord (fromD r d) (agC r) 1#32)) fun _ =>
        iprop(agKeep d r (t + 1) ∗ Ow d ((agCredL d t).drop (r.val + 1) ++ L)) := by
  unfold agKeep agCredL
  refine whenP_spec d _ _ (fun h => ?_) (fun h => ?_)
  · have h := of_decide_eq_true h
    rw [if_pos h, if_pos h, if_neg (show ¬t = 0 by omega), if_pos (show t < 15 by omega), if_neg (show ¬t + 1 = 0 by omega),
      if_pos (show t + 1 < 15 by omega), four_drop]
    obtain ⟨t, rfl⟩ : ∃ t', t = t' + 1 := ⟨t - 1, by omega⟩
    have hp : iprop(slotX (srcB (t + 1)) r (slA (t + 1 + 1)) d ∗ rch d (.ring r (.ag (slA (t + 1 + 1)))) ((t + 1 + 1) / 2)) ⊢
        kPay m ρ (fromD r d) (.ring r .agc) t 0 := by
      show _ ⊢ iprop(slotX 2 r (slA t) (toD r (fromD r d)) ∗ rch (toD r (fromD r d)) (.ring r (.ag (slA t))) (t / 2 + 1))
      rw [toD_fromD, slA_two, show (t + 1 + 1) / 2 = t / 2 + 1 by omega, show srcB (t + 1) = 2 from if_neg (Nat.succ_ne_zero t)]
    rw [Nat.add_sub_cancel]
    iintro ⟨#HE, Hk, Hx, Hr, Hra, Ht, HO⟩
    iapply (wp_last (signal_spec m ρ n d (fromD r d) (.ring r .agc) (agC r) rfl t 0
      (by rw [show kDuties (.ring r .agc) t = {0} from if_pos (by omega)]; exact Finset.mem_singleton_self _) rfl (42 + 2 * (t + 1)) _)) $$ [Hx Hr Hra Ht HO]
    · isplitr; · iexact HE
      isplitl [Ht]; · iexact Ht
      isplitl [Hra]; · iexact Hra
      isplitl [Hx Hr]
      · iapply hp
        isplitl [Hx] <;> iassumption
      iexact HO
    iintro %_ HO
    isplitr [HO]
    · iexact Hk
    · iexact HO
  · have h := of_decide_eq_false h
    rw [if_neg h, if_neg h, List.drop_nil, List.drop_nil]
    rcases Nat.lt_or_ge t 1 with h' | h'
    · obtain rfl : t = 0 := by omega
      show iprop(Env m ρ n ∗ (emp ∗ emp) ∗ slotX 0 r 1 d ∗ _ ∗ _ ∗ emp ∗ Ow d L) ⊢ iprop((slotX 0 r 1 d ∗ emp) ∗ Ow d L)
      iintro ⟨-, -, Hx, -, -, -, HO⟩
      isplitr [HO]
      · isplitl [Hx]; · iexact Hx
        iempintro
      · iexact HO
    · obtain rfl : t = 14 := by omega
      show iprop(Env m ρ n ∗ (slotX 0 r 1 d ∗ emp) ∗ slotX 2 r 1 d ∗ _ ∗ _ ∗ emp ∗ Ow d L) ⊢ iprop((slotX 0 r 1 d ∗ slotX 2 r 1 d) ∗ Ow d L)
      iintro ⟨-, ⟨Hk, -⟩, Hx, -, -, -, HO⟩
      isplitr [HO]
      · isplitl [Hk] <;> iassumption
      · iexact HO

/-- One ring's receiving half of all-gather step `t`: it waits for its send, its landing and its local copy, gives back the slot, and starts the next local copy. -/
theorem agC_one (d : Dev nD) (t : Fin 15) (r : Fin 4) {L : List Item} (hL : Above (43 + 2 * t.val) L) :
    iprop(Env m ρ n ∗ (agMid d t.val r ∗ agResC d t r) ∗ Ow d ((agCredL d t.val).drop r.val ++ L))
      ⊢ WP d (agTake d t r) fun _ =>
        iprop((agM m ρ d (t.val + 1) r ∗ outDone m ρ d r t.castSucc) ∗ Ow d ((agCredL d t.val).drop (r.val + 1) ++ L)) := by
  have ht := t.isLt
  have ha : Above (42 + 2 * t.val) ((agCredL d t.val).drop r.val ++ L) := (((above_agCredL d t.val).mono (by omega)).drop _).append (hL.mono (by omega))
  unfold agMid agResC agPos agTake cpRes
  iintro ⟨#HE, ⟨⟨Hs, Hc, Hk, ⟨Hp1, Hp2, Hp3, Hr3, Hp4⟩⟩, Hcr, Ht, Htc, Hox⟩, HO⟩
  iapply (wp_then (waitP_spec m ρ n d (.ring r (.ag (slA t.val))) (agS r (slA t.val)) rfl r (srcB t.val) (slA (t.val + 1)) 2 (slA t.val) (t.val / 2)
    (dut_ag r t.val ht) rfl (41 + 2 * t.val) ha (by omega) (by omega))) $$ [Hcr Hp2 HO]
  · isplitr; · iexact HE
    isplitl [Hcr]; · iexact Hcr
    isplitl [Hp2]; · iexact Hp2
    iexact HO
  iintro ⟨Hp2, Hr2, HO, Hv⟩
  ihave Hv := (Entails.of_eq (pay_ag m ρ d r t.val)) $$ Hv
  icases Hv with ⟨Hv, Hra⟩
  iapply (wp_then (waitP_spec m ρ n d (.ring r (.send 0)) (sendS r 0) rfl r 2 (slA t.val) (srcB t.val) (slA (t.val + 1)) (8 + t.val)
    (dut_send0 r t.val ht) rfl 0 ha (by omega) (by omega))) $$ [Hs Hp1 HO]
  · isplitr; · iexact HE
    isplitl [Hs]; · iexact Hs
    isplitl [Hp1]; · iexact Hp1
    iexact HO
  iintro ⟨Hp1, Hr1, HO, HL⟩
  ihave HL := (Entails.of_eq (pay_send0 m ρ d r t.val)) $$ HL
  iapply (wp_then (waitCopyP_spec m ρ n d r (srcB t.val) (slA (t.val + 1)) t.castSucc ha (by omega))) $$ [Hc Hp4 HO]
  · isplitr; · iexact HE
    isplitl [Hc]; · iexact Hc
    isplitl [Hp4]; · iexact Hp4
    iexact HO
  iintro ⟨Hp4, Hr4, HO, Hd⟩
  ihave Hd := (Entails.of_eq (pay_copy m ρ d r t.castSucc)) $$ Hd
  icases Hd with ⟨Hd, HR⟩
  ihave Hx := (slotP_join (srcB t.val) r (slA (t.val + 1)) d (finV m ρ r (back r t.val d))) $$ [HL HR]
  · isplitl [HL]; · iexact HL
    iexact HR
  iapply (wp_then (agBack_spec m ρ n d t.val ht r L)) $$ [Hk Hx Hr3 Hra Ht HO]
  · isplitr; · iexact HE
    isplitl [Hk]; · iexact Hk
    isplitl [Hx]; · iexact Hx
    isplitl [Hr3]; · iexact Hr3
    isplitl [Hra]; · iexact Hra
    isplitl [Ht]; · iexact Ht
    iexact HO
  iintro ⟨Hk, HO⟩
  ihave Hv2 := (slotP_halves 2 r (slA t.val) d (finV m ρ r (back r (t.val + 1) d))) $$ Hv
  icases Hv2 with ⟨HL, HR⟩
  have e2 : srcB (t.val + 1) = 2 := if_neg (Nat.succ_ne_zero _)
  have e3 : srcP m ρ r (t.val + 1) = fun q d => slotP 2 r (slA t.val) q d (finV m ρ r (back r (t.val + 1) d)) := by
    funext q d; unfold srcP; rw [e2, slA_two]
  iapply (wp_last (copyP_spec m ρ n d r 2 (slA t.val) t.succ (finV m ρ r (back r (t.val + 1) d))
    (by rw [pay_copy]; show _ ⊢ iprop(_ ∗ srcP m ρ r (t.val + 1) fullShare.right d); rw [e3]; exact BI.Entails.refl _))) $$ [HR Htc Hox Hr4]
  · isplitr; · iexact HE
    isplitl [HR]; · iexact HR
    isplitl [Hox]; · iexact Hox
    isplitl [Htc]; · iexact Htc
    iexact Hr4
  iintro %_ Hc
  unfold agM agPos
  rw [e3, slA_two, show (t.val + 1 + 1) / 2 = t.val / 2 + 1 by omega]
  isplitr [HO]
  · isplitr [Hd]
    · isplitl [HL]; · iexact HL
      isplitl [Hr1]; · iexact Hr1
      isplitl [Hc]; · iexact Hc
      isplitl [Hk]; · iexact Hk
      isplitl [Hp1]; · iexact Hp1
      isplitl [Hp3]; · iexact Hp3
      isplitl [Hp2]; · iexact Hp2
      isplitl [Hr2]; · iexact Hr2
      iexact Hp4
    · iexact Hd
  iexact HO

/-! ## A step -/

/-- What is owed before all-gather step `t` is its sends, its credits, and what is owed after it. -/
theorem agL_step (d : Dev nD) (t : ℕ) (ht : t < 15) :
    agL d (15 - t) = four (agSends d t) ++ (agCredL d t ++ agL d (15 - (t + 1))) := by
  have e : 15 - t = (14 - t) + 1 := by omega
  have e' : 14 - (14 - t) = t := by omega
  rw [e, agL, e', show 15 - (t + 1) = 14 - t by omega]

/-- What the rings hold before step `t`. -/
def agState (d : Dev nD) (t : ℕ) : sProp 𝕄 :=
  iprop(bigSep Finset.univ (agC₀ (F := F) d t) ∗ bigSep Finset.univ (agM m ρ d t) ∗ Ow d (agL d (15 - t)))
/-- What step `t` gets. -/
def agRes (d : Dev nD) (t : Fin 15) : sProp 𝕄 :=
  iprop(bigSep Finset.univ (agResA (F := F) d t.val) ∗ bigSep Finset.univ (agResB (F := F) d t.val) ∗ bigSep Finset.univ (agResC (F := F) d t))

/-- What the credits' side holds after step `t` says how many credits have been given. -/
theorem agC₀_rch (d : Dev nD) (t : ℕ) (r : Fin 4) : agC₀ (F := F) d (t + 1) r ⊢ iprop(rch d (.ring r .agc) (t - 1) ∗ agC₀ d (t + 1) r) := by
  unfold agC₀
  rw [show t + 1 - 2 = t - 1 by omega]
  iintro ⟨Hp, #Hr, Hs⟩
  isplitr; · iexact Hr
  isplitl [Hp]; · iexact Hp
  isplitr; · iexact Hr
  iexact Hs

/-- One step of the all-gather, all four rings: from the state before step `t` to the state before step `t + 1`, with four chunks of the result filled. -/
theorem agStep_spec (d : Dev nD) (t : Fin 15) :
    iprop(Env m ρ n ∗ agRes d t ∗ agState m ρ d t.val) ⊢ WP d (agStep d t) fun _ =>
      iprop(bigSep Finset.univ (fun r => outDone m ρ d r t.castSucc) ∗ agState m ρ d (t.val + 1)) := by
  have ht := t.isLt
  unfold agRes agState agStep
  iintro ⟨#HE, ⟨HA, HB, HC⟩, Hc, Hm, HO⟩
  iapply (wp_then (agA_spec m ρ n d t.val ht ((above_agL d (15 - t.val) (by omega)).mono (by omega)))) $$ [HA Hc HO]
  · isplitr; · iexact HE
    isplitr [HO]
    · iapply (Entails.of_eq (big_sep _ _ _).symm)
      isplitl [Hc] <;> iassumption
    · iexact HO
  rw [agL_step d t.val ht]
  iintro ⟨H, HO⟩
  ihave H := (Entails.of_eq (big_sep _ _ _)) $$ H
  icases H with ⟨Hc, Hp⟩
  have hr : bigSep Finset.univ (agC₀ (F := F) d (t.val + 1)) ⊢ bigSep Finset.univ fun r => iprop(rch d (.ring r .agc) (t.val - 1) ∗ agC₀ d (t.val + 1) r) :=
    bigSep_mono fun r _ => agC₀_rch d t.val r
  ihave Hc := hr $$ Hc
  ihave Hc := (Entails.of_eq (big_sep _ _ _)) $$ Hc
  icases Hc with ⟨Hr, Hc⟩
  iapply (wp_then (agB_spec m ρ n d t.val ht _)) $$ [HB Hm Hp Hr HO]
  · isplitr; · iexact HE
    isplitr [HO]
    · iapply (Entails.of_eq (big_sep _ _ _).symm)
      isplitl [Hm]; · iexact Hm
      iapply (Entails.of_eq (big_sep _ _ _).symm)
      isplitr [HB]
      · iapply (Entails.of_eq (big_sep _ _ _).symm)
        isplitl [Hp] <;> iassumption
      · iexact HB
    · iexact HO
  iintro ⟨Hm, HO⟩
  have hL : Above (43 + 2 * t.val) (agL d (15 - (t.val + 1))) := (above_agL d (15 - (t.val + 1)) (by omega)).mono (by omega)
  have hstep := each_spec d (agTake d t) (Env m ρ n)
    (fun r => iprop(agMid d t.val r ∗ agResC d t r)) (fun r => iprop(agM m ρ d (t.val + 1) r ∗ outDone m ρ d r t.castSucc))
    (fun j => Ow d ((agCredL d t.val).drop j ++ agL d (15 - (t.val + 1)))) (fun r => agC_one m ρ n d t r hL)
  have h4 : (agCredL d t.val).drop 4 = [] := by unfold agCredL; split <;> rfl
  rw [h4, List.nil_append, List.drop_zero] at hstep
  iapply (wp_last hstep) $$ [HC Hm HO]
  · isplitr; · iexact HE
    isplitr [HO]
    · iapply (Entails.of_eq (big_sep _ _ _).symm)
      isplitl [Hm] <;> iassumption
    · iexact HO
  iintro %_ ⟨Hm, HO⟩
  ihave Hm := (Entails.of_eq (big_sep _ _ _)) $$ Hm
  icases Hm with ⟨Hm, Hd⟩
  isplitl [Hd]; · iexact Hd
  isplitl [Hc]; · iexact Hc
  isplitl [Hm] <;> iassumption

end Cert.KernelIdeal.Ring
-- ==== Proof.K.Body.lean ====
/- The whole body of the ring kernel. -/
module

public import proofs.«01_k».proof.Proof.K.AG

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## Families over steps and over semaphores -/

/-- A product over the numbers below `k`, written over `Fin k`. -/
theorem range_fin (k : ℕ) (A : Fin k → sProp 𝕄) :
    bigSep (Finset.range k) (fun n => if h : n < k then A ⟨n, h⟩ else iprop(emp)) = bigSep Finset.univ A := by
  have e : Finset.range k = (Finset.univ : Finset (Fin k)).map Fin.valEmbedding := by
    ext n
    simp only [Finset.mem_range, Finset.mem_map, Finset.mem_univ, true_and]
    exact ⟨fun h => ⟨⟨n, h⟩, rfl⟩, fun ⟨a, ha⟩ => ha ▸ a.isLt⟩
  rw [e, bigSep_map]
  refine bigSep_congr fun i _ => ?_
  show (if h : i.val < k then A ⟨i.val, h⟩ else iprop(emp)) = A i
  rw [dif_pos i.isLt]
/-- Fifteen steps in order. -/
theorem steps_spec (d : Dev nD) (k : ℕ) (hk : k ≤ 15) (hk' : 15 ≤ k) (f : Fin 15 → PB F PUnit) (E : sProp 𝕄) [BI.Persistent E] (I : ℕ → sProp 𝕄) (A B : Fin 15 → sProp 𝕄)
    (h : ∀ s : Fin 15, iprop(E ∗ A s ∗ I s.val) ⊢ WP d (f s) fun _ => iprop(B s ∗ I (s.val + 1))) :
    iprop(E ∗ bigSep Finset.univ A ∗ I 0) ⊢ WP d (upTo f k hk) fun _ => iprop(bigSep Finset.univ B ∗ I k) := by
  have e := upTo_spec d f E I (fun n => if h : n < 15 then A ⟨n, h⟩ else iprop(emp)) (fun n => if h : n < 15 then B ⟨n, h⟩ else iprop(emp))
    (fun s => by rw [dif_pos s.isLt, dif_pos s.isLt]; exact h s) k hk
  have eA : (bigSep (Finset.range k) fun n => if h : n < 15 then A ⟨n, h⟩ else iprop(emp)) = _ := (congrArg (fun j => bigSep (Finset.range j) fun n => if h : n < 15 then A ⟨n, h⟩ else iprop(emp)) (Nat.le_antisymm hk hk')).trans (range_fin 15 A)
  have eB : (bigSep (Finset.range k) fun n => if h : n < 15 then B ⟨n, h⟩ else iprop(emp)) = _ := (congrArg (fun j => bigSep (Finset.range j) fun n => if h : n < 15 then B ⟨n, h⟩ else iprop(emp)) (Nat.le_antisymm hk hk')).trans (range_fin 15 B)
  rw [eA, eB] at e
  exact e

/-- A family over the semaphores of a ring, one by one. -/
theorem bigSep_RK (P : RK → sProp 𝕄) : bigSep Finset.univ P = iprop(P (.send 0) ∗ P (.send 1) ∗ P (.rs 0) ∗ P (.rs 1) ∗ P (.ag 0) ∗ P (.ag 1)
    ∗ P .copy ∗ P .rsc ∗ P .agc) := by
  rw [bigSep_univ_eq_bigSepL [.send 0, .send 1, .rs 0, .rs 1, .ag 0, .ag 1, .copy, .rsc, .agc] (by decide) (by decide)]
  simp only [bigSepL_cons_cons, bigSepL_singleton]
  rfl

/-- The round after the last of each cell. -/
def lastR : CK → ℕ
  | .inl (.inl (_, .send k)) => 23 - 16 * k.val
  | .inl (.inl (_, .rs k)) => 8 - k.val
  | .inl (.inl (_, .ag k)) => 8 - k.val
  | .inl (.inl (_, .copy)) => 16
  | .inl (.inl (_, .rsc)) => 1
  | .inl (.inl (_, .agc)) => 13
  | .inl (.inr ()) => 1
  | .inr () => 1
/-- After a cell's last round nothing is due in it any more. -/
theorem lastR_duties (x : CK) (k : ℕ) (h : lastR x ≤ k) : kDuties x k = ∅ := by
  rcases x with (⟨r, x⟩ | ⟨⟩) | ⟨⟩
  · cases x <;> exact if_neg (Nat.not_lt.mpr h)
  · exact if_neg (Nat.not_lt.mpr h)
  · exact if_neg (Nat.not_lt.mpr h)
/-- A cell past its last round has its counter at zero. -/
theorem close_cell (d : Dev nD) (x : CK) : iprop(Env m ρ n ∗ pos d x (lastR x)) ⊢ iprop(|={Set.univ}=> semVal (cell d x) 0) := by
  iintro ⟨#HE, Hp⟩
  ihave #HC := (Env_cell m ρ n d x) $$ HE
  iapply (cell_close ER (Rd m ρ) (Set.mem_univ (n.K (d, x))) (fun h => h) (R := lastR x) (fun k hk => by rw [Rd_duties, lastR_duties x k hk]))
  isplitr; · iexact HC
  iexact Hp

/-! ## The handshakes -/

/-- What a device lends the one above it: the buffers it receives in. -/
def recvX (d : Dev nD) (r : Fin 4) : sProp 𝕄 := iprop(slotX 1 r 0 d ∗ slotX 1 r 1 d ∗ slotX 2 r 0 d ∗ slotX 2 r 1 d)
/-- What the handshake's signal hands over: this device's receive buffers of a ring, for the device behind it on that ring to fill. -/
theorem peerX_of (d : Dev nD) (r : Fin 4) : iprop(Env m ρ n ∗ recvX d r) ⊢ peerX r (fromD r d) := by
  unfold recvX peerX
  rw [toD_fromD]
  iintro ⟨#HE, H1, H2, H3, H4⟩
  ihave Z1 := (Env_zero m ρ n d (.ring r (.rs 0))) $$ HE
  ihave Z2 := (Env_zero m ρ n d (.ring r (.rs 1))) $$ HE
  ihave Z3 := (Env_zero m ρ n d (.ring r (.ag 0))) $$ HE
  ihave Z4 := (Env_zero m ρ n d (.ring r (.ag 1))) $$ HE
  isplitl [H1 Z1]; · isplitl [H1] <;> iassumption
  isplitl [H2 Z2]; · isplitl [H2] <;> iassumption
  isplitl [H3 Z3]; · isplitl [H3] <;> iassumption
  isplitl [H4] <;> iassumption
/-- The next device's receive buffers are the slots not yet filled, of both phases. -/
theorem peerX_split (d : Dev nD) (r : Fin 4) : peerX (F := F) r d ⊢ iprop(spare d r 0 ∗ spareG d r 0) := by
  show _ ⊢ iprop(((slotX 1 r 0 (toD r d) ∗ rch (toD r d) (.ring r (.rs 0)) 0) ∗ (slotX 1 r 1 (toD r d) ∗ rch (toD r d) (.ring r (.rs 1)) 0))
    ∗ ((slotX 2 r 0 (toD r d) ∗ rch (toD r d) (.ring r (.ag 0)) 0) ∗ (slotX 2 r 1 (toD r d) ∗ rch (toD r d) (.ring r (.ag 1)) 0)))
  unfold peerX
  iintro ⟨H1, H2, H3, H4⟩
  isplitl [H1 H2]
  · isplitl [H1]
    · iexact H1
    · iexact H2
  · isplitl [H3]
    · iexact H3
    · iexact H4

/-- What the two handshakes get. -/
def shakeRes (d : Dev nD) (x : CK) (ι : ℕ) : sProp 𝕄 :=
  iprop(pos d x 0 ∗ crd d x ι 2 ∗ tok (leftD d) x 0 1 ∗ tok (rightD d) x 0 0)

/-- A product over the numbers 0 and 1. -/
theorem range_two (A : ℕ → sProp 𝕄) : bigSep (Finset.range 2) A = iprop(A 1 ∗ A 0) := by
  rw [range_succ', range_succ', Finset.range_zero, bigSep_empty]
  exact congrArg (fun X => iprop(A 1 ∗ X)) (equiv_iff.mp sep_emp)

/-- The opening handshake: a device signals both neighbours, waits for both, and gets the next devices' receive buffers. -/
theorem hello_spec (d : Dev nD) :
    iprop(Env m ρ n ∗ bigSep Finset.univ (recvX (F := F) d) ∗ shakeRes d .bar 1 ∗ Ow d (allL d))
      ⊢ WP d (hello d) fun _ => iprop(bigSep Finset.univ (fun r => peerX (F := F) r d) ∗ pos d .bar 1 ∗ Ow d (rsL d 15)) := by
  unfold shakeRes hello
  rw [bigSep_four, bigSep_four]
  have hL : iprop(peerX 0 (fromD 0 d) ∗ peerX 2 (fromD 2 d)) ⊢ kPay m ρ (leftD d) .bar 0 1 := BI.Entails.refl _
  have hR : iprop(peerX 1 (fromD 1 d) ∗ peerX 3 (fromD 3 d)) ⊢ kPay m ρ (rightD d) .bar 0 0 := BI.Entails.refl _
  have hw : bigSep (kDuties .bar 0) (kPay m ρ d .bar 0) ⊢ iprop((peerX 0 d ∗ peerX 2 d) ∗ (peerX 1 d ∗ peerX 3 d)) := by
    show bigSep (Finset.range 2) _ ⊢ _
    rw [range_two]
    exact BI.Entails.refl _
  iintro ⟨#HE, ⟨H0, H1, H2, H3⟩, ⟨Hp, Hc, HtL, HtR⟩, HO⟩
  ihave P0 := (peerX_of m ρ n d 0) $$ [H0]
  · isplitr; · iexact HE
    iexact H0
  ihave P1 := (peerX_of m ρ n d 1) $$ [H1]
  · isplitr; · iexact HE
    iexact H1
  ihave P2 := (peerX_of m ρ n d 2) $$ [H2]
  · isplitr; · iexact HE
    iexact H2
  ihave P3 := (peerX_of m ρ n d 3) $$ [H3]
  · isplitr; · iexact HE
    iexact H3
  ihave ZL := (Env_zero m ρ n (leftD d) .bar) $$ HE
  ihave ZR := (Env_zero m ρ n (rightD d) .bar) $$ HE
  iapply (wp_then (signal_spec m ρ n d (leftD d) .bar barS rfl 0 1 (by decide) rfl 1 (((rightD d, .bar), 1, 1) :: rsL d 15))) $$ [P0 P2 HtL ZL HO]
  · isplitr; · iexact HE
    isplitl [HtL]; · iexact HtL
    isplitl [ZL]; · iexact ZL
    isplitl [P0 P2]
    · iapply hL; isplitl [P0] <;> iassumption
    iexact HO
  iintro HO
  iapply (wp_then (signal_spec m ρ n d (rightD d) .bar barS rfl 0 0 (by decide) rfl 1 (rsL d 15))) $$ [P1 P3 HtR ZR HO]
  · isplitr; · iexact HE
    isplitl [HtR]; · iexact HtR
    isplitl [ZR]; · iexact ZR
    isplitl [P1 P3]
    · iapply hR; isplitl [P1] <;> iassumption
    iexact HO
  iintro HO
  iapply (wp_last (semWait_spec m ρ n d .bar barS rfl 2#32 2 (by decide) 0 (by decide) 1 (above_rsL d 15 (by decide)) (by decide) (by decide))) $$ [Hp Hc HO]
  · isplitr; · iexact HE
    isplitl [Hc]; · iexact Hc
    isplitl [Hp]; · iexact Hp
    iexact HO
  iintro %_ ⟨Hp, -, HO, Hx⟩
  ihave Hx := hw $$ Hx
  icases Hx with ⟨⟨P0, P2⟩, ⟨P1, P3⟩⟩
  isplitr [Hp HO]
  · isplitl [P0]; · iexact P0
    isplitl [P1]; · iexact P1
    isplitl [P2] <;> iassumption
  isplitl [Hp] <;> iassumption

/-- The closing handshake: a device signals both neighbours and waits for both, and then owes nothing. -/
theorem goodbye_spec (d : Dev nD) :
    iprop(Env m ρ n ∗ shakeRes d .exit 100 ∗ Ow d (endL d)) ⊢ WP d (goodbye d) fun _ => iprop(pos d .exit 1 ∗ Ow d []) := by
  unfold shakeRes goodbye
  iintro ⟨#HE, ⟨Hp, Hc, HtL, HtR⟩, HO⟩
  ihave ZL := (Env_zero m ρ n (leftD d) .exit) $$ HE
  ihave ZR := (Env_zero m ρ n (rightD d) .exit) $$ HE
  iapply (wp_then (signal_spec m ρ n d (leftD d) .exit exitS rfl 0 1 (by decide) rfl 100 [((rightD d, .exit), 100, 1)])) $$ [HtL ZL HO]
  · isplitr; · iexact HE
    isplitl [HtL]; · iexact HtL
    isplitl [ZL]; · iexact ZL
    isplitr
    · unfold kPay; iempintro
    iexact HO
  iintro HO
  iapply (wp_then (signal_spec m ρ n d (rightD d) .exit exitS rfl 0 0 (by decide) rfl 100 [])) $$ [HtR ZR HO]
  · isplitr; · iexact HE
    isplitl [HtR]; · iexact HtR
    isplitl [ZR]; · iexact ZR
    isplitr
    · unfold kPay; iempintro
    iexact HO
  iintro HO
  iapply (wp_last (semWait_spec m ρ n d .exit exitS rfl 2#32 2 (by decide) 0 (by decide) 100 (Above.nil 101) (by decide) (by decide))) $$ [Hp Hc HO]
  · isplitr; · iexact HE
    isplitl [Hc]; · iexact Hc
    isplitl [Hp]; · iexact Hp
    iexact HO
  iintro %_ ⟨Hp, -, HO, -⟩
  isplitl [Hp] <;> iassumption

/-! ## From the start to the reduce-scatter -/

/-- A ring's first product goes into the slot the first step sends. -/
theorem prologue_spec (d : Dev nD) (r : Fin 4) :
    iprop(Env m ρ n ∗ slotX 0 r 0 d ∗ XW m ρ d) ⊢ WP d (prologue d r) fun _ => iprop(slotP 0 r 0 fullShare d (sendV m ρ r 0 d) ∗ XW m ρ d) := by
  unfold prologue
  iintro ⟨-, Hx, HW⟩
  iapply (wp_thenV (loadProd_spec m ρ d r (k0_off1 d) (k0_off1_inb d))) $$ HW
  iintro %p ⟨%hp, HW⟩
  subst hp
  iapply (wp_last (fillSlot_spec d r 0 _)) $$ Hx
  iintro %_ Hx
  isplitl [Hx]; · iexact Hx
  iexact HW

/-- What the all-gather takes up of the start. -/
def midR (d : Dev nD) (r : Fin 4) : sProp 𝕄 :=
  iprop(spareG d r 0 ∗ pos d (.ring r (.ag 0)) 0 ∗ pos d (.ring r (.ag 1)) 0 ∗ pos d (.ring r .copy) 0 ∗ pos d (.ring r .agc) 0)

/-- What a ring has after the prologue is the state before reduce-scatter step 0. -/
theorem start_rs (d : Dev nD) (r : Fin 4) :
    iprop(Env m ρ n ∗ (slotP 0 r 0 fullShare d (sendV m ρ r 0 d) ∗ slotX 0 r 1 d ∗ peerX r d
        ∗ bigSep Finset.univ (fun x => pos d (.ring r x) 0) ∗ atPos EB (d, r) 0 ∅ 0))
      ⊢ iprop(rsC₀ d 0 r ∗ rsM m ρ d 0 r ∗ midR d r) := by
  rw [bigSep_RK]
  show _ ⊢ iprop((rscI d r 0 ∗ spare d r 0) ∗ (slotP 0 r 0 fullShare d (sendV m ρ r 0 d) ∗ rch d (.ring r (.send 0)) 0 ∗ slotX 0 r 1 d
    ∗ (pos d (.ring r (.send 0)) 0 ∗ pos d (.ring r (.send 1)) 0 ∗ pos d (.ring r (.rs 0)) 0 ∗ pos d (.ring r (.rs 1)) 0)
    ∗ (atPos EB (d, r) 0 ∅ 0 ∗ emp)) ∗ midR d r)
  unfold midR
  iintro ⟨#HE, Hv, Hx, Hpx, ⟨Hs0, Hs1, Hr0, Hr1, Ha0, Ha1, Hcp, Hrc, Hac⟩, Hb⟩
  ihave Hz := (Env_zero m ρ n d (.ring r (.send 0))) $$ HE
  ihave Hpx := (peerX_split d r) $$ Hpx
  icases Hpx with ⟨HS, HG⟩
  isplitl [Hrc HS]
  · isplitl [Hrc]
    · iapply (rscI_zero d r); iexact Hrc
    · iexact HS
  isplitr [HG Ha0 Ha1 Hcp Hac]
  · isplitl [Hv]; · iexact Hv
    isplitl [Hz]; · iexact Hz
    isplitl [Hx]; · iexact Hx
    isplitr [Hb]
    · isplitl [Hs0]; · iexact Hs0
      isplitl [Hs1]; · iexact Hs1
      isplitl [Hr0] <;> iassumption
    · isplitl [Hb]; · iexact Hb
      iempintro
  · isplitl [HG]; · iexact HG
    isplitl [Ha0]; · iexact Ha0
    isplitl [Ha1]; · iexact Ha1
    isplitl [Hcp] <;> iassumption

/-! ## From the reduce-scatter to the all-gather -/

/-- What the reduce-scatter leaves. -/
def doneR (d : Dev nD) (r : Fin 4) : sProp 𝕄 :=
  iprop((slotX 0 r 0 d ∗ slotX 1 r 0 d ∗ slotX 1 r 1 d) ∗ pos d (.ring r (.send 1)) 7 ∗ pos d (.ring r (.rs 0)) 8 ∗ pos d (.ring r (.rs 1)) 7 ∗ rscI d r 13)

/-- Between the phases: after the wait for its last send, a ring is in the state before all-gather step 0. -/
theorem rs_ag (d : Dev nD) (r : Fin 4) {l : List Item} (hl : Above 1 l) :
    iprop(Env m ρ n ∗ (rsC₀ d 15 r ∗ rsM m ρ d 15 r ∗ midR d r) ∗ Ow d l)
      ⊢ WP d (waitP (sendS r 0) r 1 0 0 0) fun _ => iprop((agC₀ d 0 r ∗ agM m ρ d 0 r ∗ doneR d r) ∗ Ow d l) := by
  show iprop(Env m ρ n ∗ ((rscI d r 13 ∗ emp) ∗ ((slotP 0 r 1 fullShare.left d (finV m ρ r d) ∗ crd d (.ring r .copy) 0 NC)
    ∗ rch d (.ring r (.send 1)) 7 ∗ crd d (.ring r (.send 0)) 0 NS
    ∗ (pos d (.ring r (.send 1)) 7 ∗ pos d (.ring r (.send 0)) 7 ∗ pos d (.ring r (.rs 1)) 7 ∗ pos d (.ring r (.rs 0)) 8)
    ∗ (atPos EB (d, r) 13 ∅ 0 ∗ slotX 1 r 1 d ∗ slotX 1 r 0 d)) ∗ midR d r) ∗ Ow d l) ⊢ WP d _ fun _ => iprop(((pos d (.ring r .agc) 0 ∗ rch d (.ring r .agc) 0 ∗ spareG d r 0)
    ∗ (slotP 0 r 1 fullShare.left d (finV m ρ r d) ∗ rch d (.ring r (.send 0)) 8 ∗ crd d (.ring r .copy) 0 NC ∗ (emp ∗ emp)
      ∗ (pos d (.ring r (.send 0)) 8 ∗ pos d (.ring r (.ag 0)) 0 ∗ pos d (.ring r (.ag 1)) 0 ∗ rch d (.ring r (.ag 1)) 0 ∗ pos d (.ring r .copy) 0)) ∗ doneR d r) ∗ Ow d l)
  unfold midR doneR
  iintro ⟨#HE, ⟨⟨Hrc, -⟩, ⟨⟨Hv, Hcp⟩, -, Hc, ⟨Hs1, Hs0, Hr1, Hr0⟩, ⟨-, Hk1, Hk0⟩⟩, HG, Ha0, Ha1, Hpc, Hac⟩, HO⟩
  ihave Z1 := (Env_zero m ρ n d (.ring r .agc)) $$ HE
  ihave Z2 := (Env_zero m ρ n d (.ring r (.ag 1))) $$ HE
  iapply (wp_last (waitP_spec m ρ n d (.ring r (.send 0)) (sendS r 0) rfl r 1 0 0 0 7 (dut_send r 14 (by decide)) rfl 0 hl (by decide) (by decide))) $$ [Hc Hs0 HO]
  · isplitr; · iexact HE
    isplitl [Hc]; · iexact Hc
    isplitl [Hs0]; · iexact Hs0
    iexact HO
  iintro %_ ⟨Hs0, Hrs, HO, Hx⟩
  have hx : kPay m ρ d (.ring r (.send 0)) 7 0 ⊢ slotX 0 r 0 d :=
    (Entails.of_eq (pay_send m ρ d r 14 (by decide))).trans (slotP_X 0 r 0 d _)
  ihave Hx := hx $$ Hx
  isplitr [HO]
  · isplitl [Hac Z1 HG]
    · isplitl [Hac]; · iexact Hac
      isplitl [Z1] <;> iassumption
    isplitl [Hv Hrs Hcp Hs0 Ha0 Ha1 Z2 Hpc]
    · isplitl [Hv]; · iexact Hv
      isplitl [Hrs]; · iexact Hrs
      isplitl [Hcp]; · iexact Hcp
      isplitr
      · isplitr <;> iempintro
      isplitl [Hs0]; · iexact Hs0
      isplitl [Ha0]; · iexact Ha0
      isplitl [Ha1]; · iexact Ha1
      isplitl [Z2] <;> iassumption
    · isplitl [Hx Hk0 Hk1]
      · isplitl [Hx]; · iexact Hx
        isplitl [Hk0] <;> iassumption
      isplitl [Hs1]; · iexact Hs1
      isplitl [Hr0]; · iexact Hr0
      isplitl [Hr1] <;> iassumption
  iexact HO

/-! ## The end -/

/-- The six slots of a ring. -/
def slotsR (d : Dev nD) (r : Fin 4) : sProp 𝕄 :=
  iprop((slotX 0 r 0 d ∗ slotX 0 r 1 d) ∗ (slotX 1 r 0 d ∗ slotX 1 r 1 d) ∗ (slotX 2 r 0 d ∗ slotX 2 r 1 d))

/-- After the last local copy a ring has all its slots back, its cells at their ends, and the last chunk of the result. -/
theorem ag_end (d : Dev nD) (r : Fin 4) {l : List Item} (hl : Above 1 l) :
    iprop(Env m ρ n ∗ (agC₀ d 15 r ∗ agM m ρ d 15 r ∗ doneR d r) ∗ Ow d l)
      ⊢ WP d (waitCopyP d r 2 0 15) fun _ =>
        iprop((slotsR d r ∗ bigSep Finset.univ (fun x => pos d (.ring r x) (lastR (.ring r x))) ∗ outDone m ρ d r 15) ∗ Ow d l) := by
  rw [bigSep_RK]
  show iprop(Env m ρ n ∗ ((pos d (.ring r .agc) 13 ∗ rch d (.ring r .agc) 13 ∗ emp)
    ∗ (srcP m ρ r 15 fullShare.left d ∗ rch d (.ring r (.send 0)) 23 ∗ crd d (.ring r .copy) 0 NC ∗ (slotX 0 r 1 d ∗ slotX 2 r 1 d)
      ∗ (pos d (.ring r (.send 0)) 23 ∗ pos d (.ring r (.ag 1)) 7 ∗ pos d (.ring r (.ag 0)) 8 ∗ rch d (.ring r (.ag 0)) 8 ∗ pos d (.ring r .copy) 15)) ∗ doneR d r) ∗ Ow d l)
    ⊢ WP d _ fun _ => iprop((slotsR d r ∗ (pos d (.ring r (.send 0)) 23 ∗ pos d (.ring r (.send 1)) 7 ∗ pos d (.ring r (.rs 0)) 8 ∗ pos d (.ring r (.rs 1)) 7
      ∗ pos d (.ring r (.ag 0)) 8 ∗ pos d (.ring r (.ag 1)) 7 ∗ pos d (.ring r .copy) 16 ∗ pos d (.ring r .rsc) 1 ∗ pos d (.ring r .agc) 13) ∗ _) ∗ Ow d l)
  unfold doneR slotsR
  iintro ⟨#HE, ⟨⟨Hac, -, -⟩, ⟨HL, -, Hc, ⟨Hx01, Hx21⟩, ⟨Hs0, Ha1, Ha0, -, Hpc⟩⟩, ⟨Hx00, Hx10, Hx11⟩, Hs1, Hr0, Hr1, Hrc⟩, HO⟩
  imod (rsc_end m ρ n d r) $$ [Hrc] with Hrc
  · isplitr; · iexact HE
    iexact Hrc
  iapply (wp_last (waitCopyP_spec m ρ n d r 2 0 15 hl (by decide))) $$ [Hc Hpc HO]
  · isplitr; · iexact HE
    isplitl [Hc]; · iexact Hc
    isplitl [Hpc]; · iexact Hpc
    iexact HO
  iintro %_ ⟨Hpc, -, HO, Hd⟩
  ihave Hd := (Entails.of_eq (pay_copy m ρ d r 15)) $$ Hd
  icases Hd with ⟨Hd, HR⟩
  ihave Hx20 := (slotP_join 2 r 0 d (finV m ρ r (back r 15 d))) $$ [HL HR]
  · isplitl [HL]; · iexact HL
    iexact HR
  isplitr [HO]
  · isplitl [Hx00 Hx01 Hx10 Hx11 Hx20 Hx21]
    · isplitl [Hx00 Hx01]
      · isplitl [Hx00] <;> iassumption
      isplitl [Hx10 Hx11]
      · isplitl [Hx10] <;> iassumption
      isplitl [Hx20] <;> iassumption
    isplitr [Hd]
    · isplitl [Hs0]; · iexact Hs0
      isplitl [Hs1]; · iexact Hs1
      isplitl [Hr0]; · iexact Hr0
      isplitl [Hr1]; · iexact Hr1
      isplitl [Ha0]; · iexact Ha0
      isplitl [Ha1]; · iexact Ha1
      isplitl [Hpc]; · iexact Hpc
      isplitl [Hrc]; · iexact Hrc
      iexact Hac
    iexact Hd
  iexact HO

/-! ## The whole -/

/-- What a ring starts with. -/
def startR (d : Dev nD) (r : Fin 4) : sProp 𝕄 :=
  iprop(slotsR d r ∗ bigSep Finset.univ (fun x => pos d (.ring r x) 0) ∗ atPos EB (d, r) 0 ∅ 0)
/-- What a device starts with, beside its windows and what it owes. -/
def startD (d : Dev nD) : sProp 𝕄 :=
  iprop(bigSep Finset.univ (startR (F := F) d) ∗ shakeRes d .bar 1 ∗ shakeRes d .exit 100
    ∗ bigSep Finset.univ (fun s : Fin 15 => rsRes (F := F) d s.val) ∗ bigSep Finset.univ (agRes (F := F) d))
/-- What it ends with. -/
def endD (d : Dev nD) : sProp 𝕄 :=
  iprop(bigSep Finset.univ (slotsR (F := F) d) ∗ bigSep Finset.univ (fun x : CK => semVal (cell d x) 0)
    ∗ bigSep Finset.univ (fun r => bigSep Finset.univ (outDone m ρ d r)))

/-- What one ring starts with, split into what the handshake takes and what the ring keeps. -/
theorem startR_open1 (d : Dev nD) (r : Fin 4) : startR (F := F) d r
    ⊢ iprop(recvX d r ∗ slotX 0 r 0 d ∗ slotX 0 r 1 d ∗ bigSep Finset.univ (fun x => pos (F := F) d (.ring r x) 0) ∗ atPos EB (d, r) 0 ∅ 0) := by
  unfold startR slotsR recvX
  iintro ⟨⟨⟨H00, H01⟩, ⟨H10, H11⟩, ⟨H20, H21⟩⟩, Hp, Hb⟩
  isplitl [H10 H11 H20 H21]
  · isplitl [H10]; · iexact H10
    isplitl [H11]; · iexact H11
    isplitl [H20] <;> iassumption
  isplitl [H00]; · iexact H00
  isplitl [H01]; · iexact H01
  isplitl [Hp] <;> iassumption
/-- What the four rings start with, split in the same way. -/
theorem startR_open (d : Dev nD) : bigSep Finset.univ (startR (F := F) d)
    ⊢ iprop(bigSep Finset.univ (recvX (F := F) d) ∗ bigSep Finset.univ (fun r => slotX (F := F) 0 r 0 d)
      ∗ bigSep Finset.univ (fun r => iprop(slotX 0 r 1 d ∗ bigSep Finset.univ (fun x => pos (F := F) d (.ring r x) 0) ∗ atPos EB (d, r) 0 ∅ 0))) :=
  BIBase.Entails.trans (bigSep_mono fun r _ => startR_open1 d r)
    (BIBase.Entails.trans (Entails.of_eq (big_sep _ _ _)) (BI.sep_mono_r (Entails.of_eq (big_sep _ _ _))))

/-- Everything needed for the first step is there once the first slots are filled. -/
theorem start_state (d : Dev nD) :
    iprop(Env m ρ n ∗ XW m ρ d ∗ bigSep Finset.univ (fun r => slotP 0 r 0 fullShare d (sendV m ρ r 0 d)) ∗ bigSep Finset.univ (fun r => peerX (F := F) r d)
        ∗ bigSep Finset.univ (fun r => iprop(slotX 0 r 1 d ∗ bigSep Finset.univ (fun x => pos (F := F) d (.ring r x) 0) ∗ atPos EB (d, r) 0 ∅ 0)) ∗ Ow d (rsL d 15))
      ⊢ iprop(rsState m ρ d 0 ∗ bigSep Finset.univ (midR (F := F) d)) := by
  have h1 : iprop(Env m ρ n ∗ bigSep Finset.univ (fun r => slotP 0 r 0 fullShare d (sendV m ρ r 0 d)) ∗ bigSep Finset.univ (fun r => peerX (F := F) r d)
        ∗ bigSep Finset.univ (fun r => iprop(slotX 0 r 1 d ∗ bigSep Finset.univ (fun x => pos (F := F) d (.ring r x) 0) ∗ atPos EB (d, r) 0 ∅ 0)))
      ⊢ iprop(bigSep Finset.univ (rsC₀ (F := F) d 0) ∗ bigSep Finset.univ (rsM m ρ d 0) ∗ bigSep Finset.univ (midR (F := F) d)) := by
    refine BIBase.Entails.trans ?_ (BIBase.Entails.trans (Entails.of_eq (big_sep _ _ _)) (BI.sep_mono_r (Entails.of_eq (big_sep _ _ _))))
    rw [bigSep_four, bigSep_four, bigSep_four, bigSep_four]
    have hr (r : Fin 4) : iprop(Env m ρ n ∗ slotP 0 r 0 fullShare d (sendV m ρ r 0 d) ∗ peerX (F := F) r d
        ∗ (slotX 0 r 1 d ∗ bigSep Finset.univ (fun x => pos (F := F) d (.ring r x) 0) ∗ atPos EB (d, r) 0 ∅ 0))
        ⊢ iprop(rsC₀ d 0 r ∗ rsM m ρ d 0 r ∗ midR d r) := by
      refine BIBase.Entails.trans ?_ (start_rs m ρ n d r)
      iintro ⟨HE, H1, H2, H3, H4, H5⟩
      isplitl [HE]; · iexact HE
      isplitl [H1]; · iexact H1
      isplitl [H3]; · iexact H3
      isplitl [H2]; · iexact H2
      isplitl [H4] <;> iassumption
    iintro ⟨#HE, ⟨A0, A1, A2, A3⟩, ⟨B0, B1, B2, B3⟩, ⟨C0, C1, C2, C3⟩⟩
    isplitl [A0 B0 C0]
    · iapply (hr 0)
      isplitr; · iexact HE
      isplitl [A0]; · iexact A0
      isplitl [B0] <;> iassumption
    isplitl [A1 B1 C1]
    · iapply (hr 1)
      isplitr; · iexact HE
      isplitl [A1]; · iexact A1
      isplitl [B1] <;> iassumption
    isplitl [A2 B2 C2]
    · iapply (hr 2)
      isplitr; · iexact HE
      isplitl [A2]; · iexact A2
      isplitl [B2] <;> iassumption
    · iapply (hr 3)
      isplitr; · iexact HE
      isplitl [A3]; · iexact A3
      isplitl [B3] <;> iassumption
  unfold rsState
  iintro ⟨#HE, HW, HA, HB, HC, HO⟩
  ihave H := h1 $$ [HA HB HC]
  · isplitr; · iexact HE
    isplitl [HA]; · iexact HA
    isplitl [HB] <;> iassumption
  icases H with ⟨HA, HB, HC⟩
  isplitr [HC]
  · isplitl [HW]; · iexact HW
    isplitl [HA]; · iexact HA
    isplitl [HB] <;> iassumption
  iexact HC

attribute [local irreducible] upTo

/-- The fifteen reduce-scatter steps. -/
theorem rs_loop (d : Dev nD) :
    iprop(Env m ρ n ∗ bigSep Finset.univ (fun s : Fin 15 => rsRes (F := F) d s.val) ∗ rsState m ρ d 0)
      ⊢ WP d (upTo (rsStep d) 15 (Nat.le_refl _)) fun _ => rsState m ρ d 15 := by
  refine BIBase.Entails.trans (steps_spec d 15 (Nat.le_refl _) (Nat.le_refl _) (rsStep d) (Env m ρ n) (rsState m ρ d) (fun s => rsRes (F := F) d s.val) (fun _ => iprop(emp))
    fun s => rsStep_spec m ρ n d s) ?_
  iintro H
  iapply (wp_last (BI.Entails.refl _)) $$ H
  iintro %_ ⟨-, H⟩
  iexact H
/-- The fifteen all-gather steps. -/
theorem ag_loop (d : Dev nD) :
    iprop(Env m ρ n ∗ bigSep Finset.univ (agRes (F := F) d) ∗ agState m ρ d 0)
      ⊢ WP d (upTo (agStep d) 15 (Nat.le_refl _)) fun _ =>
        iprop(bigSep Finset.univ (fun t : Fin 15 => bigSep Finset.univ (fun r => outDone m ρ d r t.castSucc)) ∗ agState m ρ d 15) :=
  steps_spec d 15 (Nat.le_refl _) (Nat.le_refl _) (agStep d) (Env m ρ n) (agState m ρ d) (agRes (F := F) d) _ fun t => agStep_spec m ρ n d t

/-- The chunks the steps wrote and the last ones are all of them. -/
theorem outs_all (d : Dev nD) (P : Fin 4 → Fin 16 → sProp 𝕄) :
    iprop(bigSep Finset.univ (fun t : Fin 15 => bigSep Finset.univ (fun r => P r t.castSucc)) ∗ bigSep Finset.univ (fun r => P r 15))
      ⊢ bigSep Finset.univ (fun r => bigSep Finset.univ (P r)) := by
  rw [bigSep_univ_comm, ← big_sep]
  refine bigSep_mono fun r _ => ?_
  have e : (Finset.univ : Finset (Fin 16)) = insert (Fin.last 15) (Finset.univ.map Fin.castSuccEmb) := Fin.univ_castSuccEmb 15 ▸ Finset.cons_eq_insert _ _ _
  have hn : Fin.last 15 ∉ (Finset.univ.map Fin.castSuccEmb : Finset (Fin 16)) := by
    rintro h
    obtain ⟨i, -, hi⟩ := Finset.mem_map.mp h
    exact absurd (congrArg Fin.val hi) (Nat.ne_of_lt i.isLt)
  rw [e, big_insert hn, bigSep_map]
  exact BI.sep_comm

/-- All cells are past their last round. -/
theorem close_all (d : Dev nD) :
    iprop(Env m ρ n ∗ bigSep Finset.univ (fun r => bigSep Finset.univ (fun x => pos (F := F) d (.ring r x) (lastR (.ring r x)))) ∗ pos d .exit 1 ∗ pos d .bar 1)
      ⊢ iprop(|={Set.univ}=> bigSep Finset.univ (fun x : CK => (semVal (cell d x) 0 : sProp 𝕄))) := by
  have h : iprop(Env m ρ n ∗ bigSep Finset.univ (fun x : CK => pos (F := F) d x (lastR x))) ⊢ iprop(|={Set.univ}=> bigSep Finset.univ (fun x : CK => (semVal (cell d x) 0 : sProp 𝕄))) := by
    refine BIBase.Entails.trans ?_ (bigSep_fupd Finset.univ _)
    refine BIBase.Entails.trans (BI.sep_mono_l (BI.bigSep_of_persistent (Finset.univ : Finset CK) (Env m ρ n))) ?_
    refine BIBase.Entails.trans (Entails.of_eq (big_sep _ _ _).symm) ?_
    exact bigSep_mono fun x _ => close_cell m ρ n d x
  refine BIBase.Entails.trans (BI.sep_mono_r ?_) h
  have hu (P : Unit → sProp 𝕄) : bigSep Finset.univ P = P () := by rw [Finset.univ_unique, bigSep_singleton]
  rw [bigSep_univ_sum, bigSep_univ_sum, bigSep_univ_prod, hu, hu]
  show _ ⊢ iprop((bigSep Finset.univ (fun r => bigSep Finset.univ (fun x => pos (F := F) d (.ring r x) (lastR (.ring r x)))) ∗ pos d .exit 1) ∗ pos d .bar 1)
  iintro ⟨H1, H2, H3⟩
  isplitr [H3]
  · isplitl [H1] <;> iassumption
  iexact H3

/-- The waits between the two halves, ring by ring. -/
theorem turn_spec (d : Dev nD) :
    iprop(Env m ρ n ∗ rsState m ρ d 15 ∗ bigSep Finset.univ (midR (F := F) d))
      ⊢ WP d (each fun r => waitP (sendS r 0) r 1 0 0 0) fun _ =>
        iprop(XW m ρ d ∗ agState m ρ d 0 ∗ bigSep Finset.univ (doneR (F := F) d)) := by
  have h := each_spec d (fun r => waitP (sendS r 0) r 1 0 0 0) (Env m ρ n) (fun r => iprop(rsC₀ d 15 r ∗ rsM m ρ d 15 r ∗ midR d r))
    (fun r => iprop(agC₀ d 0 r ∗ agM m ρ d 0 r ∗ doneR d r)) (fun _ => Ow d (agL d 15))
    (fun r => rs_ag m ρ n d r ((above_agL d 15 (by decide)).mono (by decide)))
  rw [big_sep, big_sep, big_sep, big_sep] at h
  show iprop(Env m ρ n ∗ (XW m ρ d ∗ bigSep Finset.univ (rsC₀ (F := F) d 15) ∗ bigSep Finset.univ (rsM m ρ d 15) ∗ Ow d (agL d 15)) ∗ bigSep Finset.univ (midR (F := F) d))
    ⊢ WP d _ fun _ => iprop(XW m ρ d ∗ (bigSep Finset.univ (agC₀ (F := F) d 0) ∗ bigSep Finset.univ (agM m ρ d 0) ∗ Ow d (agL d 15)) ∗ bigSep Finset.univ (doneR (F := F) d))
  iintro ⟨#HE, ⟨HW, HC, HM, HO⟩, HD⟩
  iapply (wp_last h) $$ [HC HM HO HD]
  · isplitr; · iexact HE
    isplitr [HO]
    · isplitl [HC]; · iexact HC
      isplitl [HM] <;> iassumption
    iexact HO
  iintro %_ ⟨⟨HC, HM, HD⟩, HO⟩
  isplitl [HW]; · iexact HW
  isplitr [HD]
  · isplitl [HC]; · iexact HC
    isplitl [HM] <;> iassumption
  iexact HD

/-- The last waits, ring by ring. -/
theorem tail_spec (d : Dev nD) :
    iprop(Env m ρ n ∗ agState m ρ d 15 ∗ bigSep Finset.univ (doneR (F := F) d))
      ⊢ WP d (each fun r => waitCopyP d r 2 0 15) fun _ =>
        iprop(bigSep Finset.univ (slotsR (F := F) d) ∗ bigSep Finset.univ (fun r => bigSep Finset.univ (fun x => pos (F := F) d (.ring r x) (lastR (.ring r x))))
          ∗ bigSep Finset.univ (fun r => outDone m ρ d r 15) ∗ Ow d (endL d)) := by
  have h := each_spec d (fun r => waitCopyP d r 2 0 15) (Env m ρ n) (fun r => iprop(agC₀ d 15 r ∗ agM m ρ d 15 r ∗ doneR d r))
    (fun r => iprop(slotsR d r ∗ bigSep Finset.univ (fun x => pos d (.ring r x) (lastR (.ring r x))) ∗ outDone m ρ d r 15)) (fun _ => Ow d (endL d))
    (fun r => ag_end m ρ n d r ((above_end d).mono (by decide)))
  rw [big_sep, big_sep, big_sep, big_sep] at h
  show iprop(Env m ρ n ∗ (bigSep Finset.univ (agC₀ (F := F) d 15) ∗ bigSep Finset.univ (agM m ρ d 15) ∗ Ow d (endL d)) ∗ bigSep Finset.univ (doneR (F := F) d))
    ⊢ WP d _ fun _ => _
  iintro ⟨#HE, ⟨HC, HM, HO⟩, HD⟩
  iapply (wp_last h) $$ [HC HM HO HD]
  · isplitr; · iexact HE
    isplitr [HO]
    · isplitl [HC]; · iexact HC
      isplitl [HM] <;> iassumption
    iexact HO
  iintro %_ ⟨⟨HC, HM, HD⟩, HO⟩
  isplitl [HC]; · iexact HC
  isplitl [HM]; · iexact HM
  isplitl [HD] <;> iassumption

/-- The first products, ring by ring. -/
theorem head_spec (d : Dev nD) :
    iprop(Env m ρ n ∗ bigSep Finset.univ (fun r => slotX (F := F) 0 r 0 d) ∗ XW m ρ d)
      ⊢ WP d (each (prologue d)) fun _ => iprop(bigSep Finset.univ (fun r => slotP 0 r 0 fullShare d (sendV m ρ r 0 d)) ∗ XW m ρ d) :=
  each_spec d (prologue d) (Env m ρ n) _ _ (fun _ => XW m ρ d) fun r => prologue_spec m ρ n d r

/-- A device reads its own number. -/
theorem dev_spec (d : Dev nD) : (emp : sProp 𝕄) ⊢ WP (F := F) d (Prog.lift .deviceId) fun a => iprop(⌜a = d⌝ ∗ emp) := by
  unfold WP
  simp only [Prog.lift, wp_deviceId]
  rw [wp_ret]
  iintro -
  imodintro
  isplitr
  · ipureintro; rfl
  iempintro

/-- The whole body: from what a device starts with, every chunk of the result, and all cells at rest. -/
theorem prog_spec (d : Dev nD) :
    iprop(Env m ρ n ∗ XW m ρ d ∗ startD d ∗ Ow d (allL d)) ⊢ WP d prog fun _ => iprop(XW m ρ d ∗ endD m ρ d ∗ Ow d []) := by
  refine BIBase.Entails.trans ?_ (wp_fupd _ _ _ _ _)
  unfold prog startD endD
  iintro ⟨#HE, HW, ⟨HR, Hbar, Hexit, HA, HG⟩, HO⟩
  ihave HR := (startR_open d) $$ HR
  icases HR with ⟨Hrecv, H00, Hrest⟩
  iapply (wp_thenV (dev_spec d)) $$ []
  · iempintro
  iintro %a ⟨%ha, -⟩
  subst ha
  iapply (wp_then (hello_spec m ρ n a)) $$ [Hrecv Hbar HO]
  · isplitr; · iexact HE
    isplitl [Hrecv]; · iexact Hrecv
    isplitl [Hbar] <;> iassumption
  iintro ⟨Hpeer, Hbar, HO⟩
  iapply (wp_then (head_spec m ρ n a)) $$ [H00 HW]
  · isplitr; · iexact HE
    isplitl [H00] <;> iassumption
  iintro ⟨H00, HW⟩
  ihave H := (start_state m ρ n a) $$ [H00 HW Hpeer Hrest HO]
  · isplitr; · iexact HE
    isplitl [HW]; · iexact HW
    isplitl [H00]; · iexact H00
    isplitl [Hpeer]; · iexact Hpeer
    isplitl [Hrest] <;> iassumption
  icases H with ⟨HS, HM⟩
  iapply (wp_then (rs_loop m ρ n a)) $$ [HA HS]
  · isplitr; · iexact HE
    isplitl [HA] <;> iassumption
  iintro HS
  iapply (wp_then (turn_spec m ρ n a)) $$ [HS HM]
  · isplitr; · iexact HE
    isplitl [HS] <;> iassumption
  iintro ⟨HW, HS, HD⟩
  iapply (wp_then (ag_loop m ρ n a)) $$ [HG HS]
  · isplitr; · iexact HE
    isplitl [HG] <;> iassumption
  iintro ⟨Hout, HS⟩
  iapply (wp_then (tail_spec m ρ n a)) $$ [HS HD]
  · isplitr; · iexact HE
    isplitl [HS] <;> iassumption
  iintro ⟨Hslots, Hpos, Hlast, HO⟩
  ihave Hout := (outs_all a (outDone m ρ a)) $$ [Hout Hlast]
  · isplitl [Hout] <;> iassumption
  iapply (wp_last (goodbye_spec m ρ n a)) $$ [Hexit HO]
  · isplitr; · iexact HE
    isplitl [Hexit] <;> iassumption
  iintro %_ ⟨Hexit, HO⟩
  imod (close_all m ρ n a) $$ [Hpos Hexit Hbar] with Hsem
  · isplitr; · iexact HE
    isplitl [Hpos]; · iexact Hpos
    isplitl [Hexit] <;> iassumption
  imodintro
  isplitl [HW]; · iexact HW
  isplitr [HO]
  · isplitl [Hslots]; · iexact Hslots
    isplitl [Hsem] <;> iassumption
  iexact HO

end Cert.KernelIdeal.Ring
-- ==== Proof.K.Toks.lean ====
/- The tokens of the protocol and who they are dealt to. -/
module

public import proofs.«01_k».proof.Proof.K.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## The tokens of the duties -/

/-- The tokens of one ring: six per step, and one per local copy. -/
abbrev TK := (Fin 15 × Fin 6) ⊕ Fin 16
/-- All tokens of a device: the rings', and those of the two handshakes. -/
abbrev TI := (Fin 4 × TK) ⊕ (Fin 2 × Fin 2)

def kTok : TK → RK × ℕ × ℕ
  | .inl (s, 0) => (.send (slA s.val), s.val / 2, 0)
  | .inl (s, 1) => (.send 0, 8 + s.val, 0)
  | .inl (s, 2) => (.rs (slA s.val), s.val / 2, 0)
  | .inl (s, 3) => (.ag (slA s.val), s.val / 2, 0)
  | .inl (s, 4) => (.rsc, 0, s.val)
  | .inl (s, 5) => (.agc, if s.val = 0 then 99 else s.val - 1, 0)
  | .inr j => (.copy, j.val, 0)
def tTok : TI → CK × ℕ × ℕ
  | .inl (r, k) => (.ring r (kTok k).1, (kTok k).2.1, (kTok k).2.2)
  | .inr (x, i) => (if x = 0 then .bar else .exit, 0, i.val)

set_option maxRecDepth 100000 in
/-- Different tokens of a ring are tokens of different duties. -/
theorem kTok_inj : ∀ a b : TK, kTok a = kTok b → a = b := by decide +kernel
/-- Different tokens of a device are tokens of different duties. -/
theorem tTok_inj : Function.Injective tTok := by
  rintro (⟨r, k⟩ | ⟨x, i⟩) (⟨r', k'⟩ | ⟨x', i'⟩) h
  · have h1 := congrArg Prod.fst h
    have h2 := congrArg Prod.snd h
    have h3 : (r, (kTok k).1) = (r', (kTok k').1) := Sum.inl.inj (Sum.inl.inj h1)
    have hr : r = r' := congrArg Prod.fst h3
    have hk : kTok k = kTok k' := Prod.ext (congrArg Prod.snd h3) (Prod.ext (congrArg Prod.fst h2) (congrArg Prod.snd h2))
    rw [hr, kTok_inj k k' hk]
  · have h1 := congrArg Prod.fst h
    fin_cases x' <;> cases h1
  · have h1 := congrArg Prod.fst h
    fin_cases x <;> cases h1
  · have h1 := congrArg Prod.fst h
    have h2 : i = i' := Fin.ext (congrArg (fun y => y.2.2) h)
    have h3 : x = x' := by fin_cases x <;> fin_cases x' <;> first | rfl | cases h1
    rw [h2, h3]

abbrev tokOf (p : Dev nD × TI) : GSem nD τ sig × ℕ × ℕ := (cell p.1 (tTok p.2).1, (tTok p.2).2.1, (tTok p.2).2.2)
/-- Different semaphores, or those of different devices, are different cells. -/
theorem cell_inj {d d' : Dev nD} {x x' : CK} (h : cell d x = cell d' x') : d = d' ∧ x = x' :=
  ⟨congrArg (fun g : GSem nD τ sig => g.1.1) h, locOf_inj (congrArg Prod.snd h)⟩
/-- Different tokens are tokens of different duties, over all devices. -/
theorem tokOf_inj : Function.Injective tokOf := by
  rintro ⟨d, t⟩ ⟨d', t'⟩ h
  obtain ⟨h1, h2⟩ := cell_inj (congrArg Prod.fst h)
  have h3 := congrArg Prod.snd h
  exact Prod.ext h1 (tTok_inj (Prod.ext h2 h3))
def allToks : Finset (GSem nD τ sig × ℕ × ℕ) := Finset.univ.map ⟨tokOf, tokOf_inj⟩
/-- The same of the cells, as a function of pairs. -/
theorem cellP_inj : Function.Injective (fun p : Dev nD × CK => cell p.1 p.2) := by
  rintro ⟨d, x⟩ ⟨d', x'⟩ h
  obtain ⟨h1, h2⟩ := cell_inj h
  exact Prod.ext h1 h2
def allCells : Finset (GSem nD τ sig) := Finset.univ.map ⟨fun p : Dev nD × CK => cell p.1 p.2, cellP_inj⟩

/-- The tokens of the boxes: one per device, ring and step. -/
abbrev boxTok (p : Dev nD × Fin 4 × Fin 15) : (Dev nD × Fin 4) × ℕ × ℕ := ((p.1, p.2.1), p.2.2.val, 0)
/-- Different tokens of the boxes are different. -/
theorem boxTok_inj : Function.Injective boxTok := by
  rintro ⟨d, r, s⟩ ⟨d', r', s'⟩ h
  have h1 := congrArg Prod.fst h
  have h2 : s = s' := Fin.ext (congrArg (fun x => x.2.1) h)
  rw [h2, show d = d' from congrArg Prod.fst h1, show r = r' from congrArg Prod.snd h1]
def boxToks : Finset ((Dev nD × Fin 4) × ℕ × ℕ) := Finset.univ.map ⟨boxTok, boxTok_inj⟩

/-! ## Who pays -/

def toE (r : Fin 4) : Dev nD ≃ Dev nD := ⟨toD r, fromD r, fromD_toD r, toD_fromD r⟩
def leftE : Dev nD ≃ Dev nD := ⟨leftD, rightD, rightD_leftD, leftD_rightD⟩
/-- Whose cell a device's payment goes to. -/
def dest : TI → (Dev nD ≃ Dev nD)
  | .inl (r, .inl (_, 2)) => toE r
  | .inl (r, .inl (_, 3)) => toE r
  | .inl (r, .inl (_, 4)) => (toE r).symm
  | .inl (r, .inl (_, 5)) => (toE r).symm
  | .inl (_, .inl (_, _)) => Equiv.refl _
  | .inl (_, .inr _) => Equiv.refl _
  | .inr (_, 0) => leftE.symm
  | .inr (_, 1) => leftE

/-- The tokens of a device's own cells, and those of the payments it makes. -/
def ownToks (d : Dev nD) : sProp 𝕄 := bigSep Finset.univ fun t : TI => tok d (tTok t).1 (tTok t).2.1 (tTok t).2.2
def payToks (d : Dev nD) : sProp 𝕄 := bigSep Finset.univ fun t : TI => tok (dest t d) (tTok t).1 (tTok t).2.1 (tTok t).2.2
/-- The tokens of all devices' cells are the tokens of all devices' payments. -/
theorem deal_toks : bigSep Finset.univ (fun d : Dev nD => ownToks (F := F) d) = bigSep Finset.univ (fun d : Dev nD => payToks (F := F) d) := by
  unfold ownToks payToks
  rw [bigSep_univ_comm, bigSep_univ_comm (fun (d : Dev nD) (t : TI) => tok (F := F) (dest t d) (tTok t).1 (tTok t).2.1 (tTok t).2.2)]
  exact bigSep_congr fun t _ => bigSep_univ_equiv (dest t) (fun d => tok (F := F) d (tTok t).1 (tTok t).2.1 (tTok t).2.2)
def ownBox (d : Dev nD) : sProp 𝕄 := bigSep Finset.univ fun p : Fin 4 × Fin 15 => dutyTok EB (d, p.1) p.2.val 0
def payBox (d : Dev nD) : sProp 𝕄 := bigSep Finset.univ fun p : Fin 4 × Fin 15 => dutyTok EB (toD p.1 d, p.1) p.2.val 0
/-- The same of the boxes. -/
theorem deal_box : bigSep Finset.univ (fun d : Dev nD => ownBox (F := F) d) = bigSep Finset.univ (fun d : Dev nD => payBox (F := F) d) := by
  unfold ownBox payBox
  rw [bigSep_univ_comm, bigSep_univ_comm (fun (d : Dev nD) (p : Fin 4 × Fin 15) => (dutyTok EB (toD p.1 d, p.1) p.2.val 0 : sProp 𝕄))]
  exact bigSep_congr fun p _ => bigSep_univ_equiv (toE p.1) (fun d => (dutyTok EB (d, p.1) p.2.val 0 : sProp 𝕄))

/-! ## What a device gets, step by step and ring by ring -/

/-- A product of two. -/
theorem bigSep_two (P : Fin 2 → sProp 𝕄) : bigSep Finset.univ P = iprop(P 0 ∗ P 1) := by
  rw [bigSep_univ_eq_bigSepL [0, 1] (by decide) (by decide)]
  simp only [bigSepL_cons_cons, bigSepL_singleton]
  rfl
/-- A product of six. -/
theorem bigSep_six (P : Fin 6 → sProp 𝕄) : bigSep Finset.univ P = iprop(P 0 ∗ P 1 ∗ P 2 ∗ P 3 ∗ P 4 ∗ P 5) := by
  rw [bigSep_univ_eq_bigSepL [0, 1, 2, 3, 4, 5] (by decide) (by decide)]
  simp only [bigSepL_cons_cons, bigSepL_singleton]
  rfl
/-- The tokens of one step of one ring. -/
def stepTok (d : Dev nD) (s : Fin 15) (r : Fin 4) : sProp 𝕄 :=
  iprop(tok d (.ring r (.send (slA s.val))) (s.val / 2) 0 ∗ tok d (.ring r (.send 0)) (8 + s.val) 0
    ∗ tok (toD r d) (.ring r (.rs (slA s.val))) (s.val / 2) 0 ∗ tok (toD r d) (.ring r (.ag (slA s.val))) (s.val / 2) 0
    ∗ tok (fromD r d) (.ring r .rsc) 0 s.val ∗ tok (fromD r d) (.ring r .agc) (if s.val = 0 then 99 else s.val - 1) 0)
/-- The tokens of a device's payments, sorted into the steps', the local copies' and the handshakes'. -/
theorem payToks_eq (d : Dev nD) : payToks (F := F) d = iprop((bigSep Finset.univ (fun s => bigSep Finset.univ (fun r => stepTok (F := F) d s r))
      ∗ bigSep Finset.univ (fun r : Fin 4 => bigSep Finset.univ (fun j : Fin 16 => tok (F := F) d (.ring r .copy) j.val 0)))
    ∗ ((tok (rightD d) .bar 0 0 ∗ tok (leftD d) .bar 0 1) ∗ (tok (rightD d) .exit 0 0 ∗ tok (leftD d) .exit 0 1))) := by
  unfold payToks
  rw [bigSep_univ_sum, bigSep_univ_prod, bigSep_univ_prod, bigSep_two, bigSep_two, bigSep_two]
  rw [bigSep_univ_comm (fun (s : Fin 15) (r : Fin 4) => stepTok (F := F) d s r)]
  have e (r : Fin 4) : bigSep Finset.univ (fun k : TK => tok (F := F) (dest (.inl (r, k)) d) (tTok (.inl (r, k))).1 (tTok (.inl (r, k))).2.1 (tTok (.inl (r, k))).2.2)
      = iprop(bigSep Finset.univ (fun s => stepTok (F := F) d s r) ∗ bigSep Finset.univ (fun j : Fin 16 => tok (F := F) d (.ring r .copy) j.val 0)) := by
    rw [bigSep_univ_sum, bigSep_univ_prod]
    refine congrArg₂ (fun X Y => iprop(X ∗ Y)) (bigSep_congr fun s _ => ?_) rfl
    rw [bigSep_six]
    rfl
  rw [bigSep_congr (s := Finset.univ) (fun r _ => e r), big_sep]
  rfl

/-! ## The launch's credits -/

/-- A device's launch credit under a list of dues per device. -/
def LC (D : Dev nD → List Item) (c : Dev nD) : sProp 𝕄 := Pipeline.launchCred (fun d => oweL (D d)) c
/-- No dues give no credit. -/
theorem LC_nil (c : Dev nD) : LC (F := F) (fun _ => []) c = iprop(emp) := Pipeline.launchCred_zero c
/-- One more due gives the credit for it. -/
theorem LC_cons (x : Dev nD → Item) (D : Dev nD → List Item) (c : Dev nD) :
    LC (F := F) (fun d => x d :: D d) c = iprop(LC D c ∗ Pipeline.launchCred (fun d => tallyAt (cell (x d).1.1 (x d).1.2) (x d).2.1 (x d).2.2) c) :=
  Pipeline.launchCred_add (fun d => oweL (D d)) _ c
/-- Two lists of dues give the credits of both. -/
theorem LC_append (D D' : Dev nD → List Item) (c : Dev nD) : LC (F := F) (fun d => D d ++ D' d) c = iprop(LC D c ∗ LC D' c) := by
  have h : (fun d => oweL (D d ++ D' d)) = fun d => oweL (D d) + oweL (D' d) := by
    funext d
    induction D d with
    | nil => exact (zero_add _).symm
    | cons x l ih =>
      show oweL (l ++ D' d) + _ = (oweL l + _) + oweL (D' d)
      rw [ih, add_right_comm]
  unfold LC
  rw [h]
  exact Pipeline.launchCred_add _ _ c
/-- One due per device, to the cell a bijection names. -/
theorem LC_one (e : Dev nD ≃ Dev nD) (x : CK) (ι k : ℕ) (c : Dev nD) :
    (Pipeline.launchCred (fun d => tallyAt (cell (e d) x) ι k) c : sProp 𝕄) ⊢ crd c x ι k :=
  Pipeline.launchCred_tallyAt (locOf x) e e.symm e.apply_symm_apply e.symm_apply_apply ι k c
/-- One due per ring, each to the cell a bijection names, gives one credit per ring. -/
theorem LC_four (e : Fin 4 → (Dev nD ≃ Dev nD)) (x : Fin 4 → CK) (ι k : ℕ) (c : Dev nD) :
    LC (F := F) (fun d => four fun r => ((e r d, x r), ι, k)) c ⊢ bigSep Finset.univ (fun r => crd (F := F) c (x r) ι k) := by
  unfold four
  rw [LC_cons, LC_cons, LC_cons, LC_cons, LC_nil, bigSep_four]
  iintro ⟨⟨⟨⟨-, H3⟩, H2⟩, H1⟩, H0⟩
  ihave H0 := (LC_one (e 0) (x 0) ι k c) $$ H0
  ihave H1 := (LC_one (e 1) (x 1) ι k c) $$ H1
  ihave H2 := (LC_one (e 2) (x 2) ι k c) $$ H2
  ihave H3 := (LC_one (e 3) (x 3) ι k c) $$ H3
  isplitl [H0]; · iexact H0
  isplitl [H1]; · iexact H1
  isplitl [H2] <;> iassumption

/-- The credits that come of the payments of one step of each phase. -/
def rsGot (c : Dev nD) (s : ℕ) : sProp 𝕄 := bigSep Finset.univ (fun r => crd (F := F) c (.ring r (.rs (slA s))) (11 + 2 * s) NS)
def rscGot (c : Dev nD) (s : ℕ) : sProp 𝕄 := bigSep Finset.univ (fun r => crd (F := F) c (.ring r .rsc) (14 + 2 * s) 1)
def agGot (c : Dev nD) (t : ℕ) : sProp 𝕄 := bigSep Finset.univ (fun r => crd (F := F) c (.ring r (.ag (slA t))) (41 + 2 * t) NS)
def agcGot (c : Dev nD) (t : ℕ) : sProp 𝕄 := bigSep Finset.univ (fun r => crd (F := F) c (.ring r .agc) (42 + 2 * t) 1)

/-- The credits of the sends of a reduce-scatter step. -/
theorem LC_rsSends (c : Dev nD) (s : ℕ) : LC (F := F) (fun d => four (rsSends d s)) c ⊢ rsGot c s := LC_four toE _ _ _ c
/-- The credits of the sends of an all-gather step. -/
theorem LC_agSends (c : Dev nD) (s : ℕ) : LC (F := F) (fun d => four (agSends d s)) c ⊢ agGot c s := LC_four toE _ _ _ c
/-- The credits for the slots given back in a reduce-scatter step. -/
theorem LC_rsCredL (c : Dev nD) (s : ℕ) : LC (F := F) (fun d => rsCredL d s) c ⊢ (if s < 13 then rscGot c s else iprop(emp)) := by
  unfold rsCredL
  by_cases h : s < 13
  · simp only [if_pos h]; exact LC_four (fun r => (toE r).symm) _ _ _ c
  · simp only [if_neg h]; exact Entails.of_eq (LC_nil c)
/-- The credits for the slots given back in an all-gather step. -/
theorem LC_agCredL (c : Dev nD) (s : ℕ) : LC (F := F) (fun d => agCredL d s) c ⊢ (if 1 ≤ s ∧ s ≤ 13 then agcGot c s else iprop(emp)) := by
  unfold agCredL
  by_cases h : 1 ≤ s ∧ s ≤ 13
  · simp only [if_pos h]; exact LC_four (fun r => (toE r).symm) _ _ _ c
  · simp only [if_neg h]; exact Entails.of_eq (LC_nil c)
/-- The credits of the closing handshake. -/
theorem LC_endL (c : Dev nD) : LC (F := F) endL c ⊢ crd c .exit 100 2 := by
  show LC (F := F) (fun d => ((leftE d, .exit), 100, 1) :: (fun d => ((leftE.symm d, CK.exit), 100, 1) :: (fun _ => []) d) d) c ⊢ _
  rw [LC_cons, LC_cons, LC_nil]
  iintro ⟨⟨-, H1⟩, H2⟩
  ihave H1 := (LC_one leftE.symm .exit 100 1 c) $$ H1
  ihave H2 := (LC_one leftE .exit 100 1 c) $$ H2
  iapply ((cred_add _ _).2.trans (Entails.of_eq (congrArg cred (tallyAt_add (cell c .exit) 100 1 1))))
  isplitl [H1] <;> iassumption

/-- The credits of the last `k` all-gather steps and the close. -/
theorem LC_agL (c : Dev nD) : ∀ k, LC (F := F) (fun d => agL d k) c
    ⊢ iprop(bigSep (Finset.range k) (fun j => iprop(agGot c (14 - j) ∗ (if 1 ≤ 14 - j ∧ 14 - j ≤ 13 then agcGot c (14 - j) else iprop(emp)))) ∗ crd c .exit 100 2)
  | 0 => by
    rw [Finset.range_zero, bigSep_empty]
    iintro H
    isplitr; · iempintro
    iapply (LC_endL c); iexact H
  | k + 1 => by
    rw [range_succ']
    show LC (F := F) (fun d => (fun d => four (agSends d (14 - k))) d ++ (fun d => agCredL d (14 - k) ++ agL d k) d) c ⊢ _
    rw [LC_append, LC_append (fun d => agCredL d (14 - k)) (fun d => agL d k)]
    iintro ⟨H1, H2, H3⟩
    ihave H1 := (LC_agSends c (14 - k)) $$ H1
    ihave H2 := (LC_agCredL c (14 - k)) $$ H2
    ihave H3 := (LC_agL c k) $$ H3
    icases H3 with ⟨H3, H4⟩
    isplitr [H4]
    · isplitr [H3]
      · isplitl [H1] <;> iassumption
      iexact H3
    iexact H4
/-- The credits of the last `k` reduce-scatter steps and all that follows. -/
theorem LC_rsL (c : Dev nD) : ∀ k, LC (F := F) (fun d => rsL d k) c
    ⊢ iprop(bigSep (Finset.range k) (fun j => iprop(rsGot c (14 - j) ∗ (if 14 - j < 13 then rscGot c (14 - j) else iprop(emp)))) ∗ LC (fun d => agL d 15) c)
  | 0 => by
    rw [Finset.range_zero, bigSep_empty]
    iintro H
    isplitr; · iempintro
    iexact H
  | k + 1 => by
    rw [range_succ']
    show LC (F := F) (fun d => (fun d => four (rsSends d (14 - k))) d ++ (fun d => rsCredL d (14 - k) ++ rsL d k) d) c ⊢ _
    rw [LC_append, LC_append (fun d => rsCredL d (14 - k)) (fun d => rsL d k)]
    iintro ⟨H1, H2, H3⟩
    ihave H1 := (LC_rsSends c (14 - k)) $$ H1
    ihave H2 := (LC_rsCredL c (14 - k)) $$ H2
    ihave H3 := (LC_rsL c k) $$ H3
    icases H3 with ⟨H3, H4⟩
    isplitr [H4]
    · isplitr [H3]
      · isplitl [H1] <;> iassumption
      iexact H3
    iexact H4

/-- A product over the numbers below fifteen, written over `Fin 15`. -/
theorem range_val (P : ℕ → sProp 𝕄) : bigSep (Finset.range 15) P = bigSep Finset.univ (fun s : Fin 15 => P s.val) := by
  rw [← range_fin]
  refine bigSep_congr fun j hj => ?_
  show P j = if h : j < 15 then P j else iprop(emp)
  rw [dif_pos (Finset.mem_range.mp hj)]
/-- The same product, backwards. -/
theorem range_rev (P : ℕ → sProp 𝕄) : bigSep (Finset.range 15) (fun j => P (14 - j)) = bigSep (Finset.range 15) P := by
  rw [range_val, range_val, bigSep_univ_equiv Fin.revPerm (fun s : Fin 15 => P s.val)]
  refine bigSep_congr fun s _ => congrArg P ?_
  show 14 - s.val = 15 - (s.val + 1)
  omega

/-- A credit is used two steps after the step that pays it in the count of the one who waits. -/
theorem shift_two (P : ℕ → sProp 𝕄) : bigSep (Finset.range 15) (fun s => if 2 ≤ s then P (s - 2) else iprop(emp)) = bigSep (Finset.range 13) P := by
  have h (k : ℕ) : bigSep (Finset.range (k + 2)) (fun s => if 2 ≤ s then P (s - 2) else iprop(emp)) = bigSep (Finset.range k) P := by
    induction k with
    | zero =>
      rw [range_succ', range_succ', if_neg (by decide), if_neg (by decide), Finset.range_zero, bigSep_empty, bigSep_empty]
      exact (equiv_iff.mp emp_sep).trans (equiv_iff.mp emp_sep)
    | succ k ih =>
      rw [range_succ', ih, range_succ', if_pos (by omega)]
      rfl
  exact h 13
/-- Only the first thirteen steps count. -/
theorem first_13 (P : ℕ → sProp 𝕄) : bigSep (Finset.range 15) (fun s => if s < 13 then P s else iprop(emp)) = bigSep (Finset.range 13) P := by
  have h : bigSep (Finset.range 13) (fun s => if s < 13 then P s else iprop(emp)) = bigSep (Finset.range 13) P :=
    bigSep_congr fun s hs => if_pos (Finset.mem_range.mp hs)
  rw [range_succ', range_succ', if_neg (by decide), if_neg (by decide), h]
  exact (equiv_iff.mp emp_sep).trans (equiv_iff.mp emp_sep)
/-- Only steps 1 to 13 count. -/
theorem mid_13 (P : ℕ → sProp 𝕄) :
    bigSep (Finset.range 15) (fun s => if 1 ≤ s ∧ s ≤ 13 then P s else iprop(emp)) = bigSep (Finset.range 13) (fun s => P (s + 1)) := by
  have h (k : ℕ) (hk : k ≤ 13) : bigSep (Finset.range (k + 1)) (fun s => if 1 ≤ s ∧ s ≤ 13 then P s else iprop(emp)) = bigSep (Finset.range k) (fun s => P (s + 1)) := by
    induction k with
    | zero =>
      rw [range_succ', if_neg (by decide), Finset.range_zero, bigSep_empty, bigSep_empty]
      exact equiv_iff.mp emp_sep
    | succ k ih => rw [range_succ', ih (by omega), range_succ', if_pos (by omega)]
  rw [range_succ', if_neg (by decide), h 13 (le_refl _)]
  exact equiv_iff.mp emp_sep

/-- The credits a step uses for the slots that come back. -/
def rscUse (c : Dev nD) (s : ℕ) : sProp 𝕄 := if 2 ≤ s then bigSep Finset.univ (fun r => crd (F := F) c (.ring r .rsc) (10 + 2 * s) 1) else iprop(emp)
def agcUse (c : Dev nD) (s : ℕ) : sProp 𝕄 := if 2 ≤ s then bigSep Finset.univ (fun r => crd (F := F) c (.ring r .agc) (40 + 2 * s) 1) else iprop(emp)

/-- The credits of the reduce-scatter, sorted by the step that uses them. -/
theorem rsc_use (c : Dev nD) : bigSep (Finset.range 15) (fun s => if s < 13 then rscGot (F := F) c s else iprop(emp)) = bigSep (Finset.range 15) (rscUse (F := F) c) := by
  rw [first_13, ← shift_two]
  refine bigSep_congr fun s _ => ?_
  unfold rscUse rscGot
  by_cases h : 2 ≤ s
  · rw [if_pos h, if_pos h, show 14 + 2 * (s - 2) = 10 + 2 * s by omega]
  · rw [if_neg h, if_neg h]
/-- The credits of the all-gather, sorted by the step that uses them. -/
theorem agc_use (c : Dev nD) : bigSep (Finset.range 15) (fun s => if 1 ≤ s ∧ s ≤ 13 then agcGot (F := F) c s else iprop(emp)) = bigSep (Finset.range 15) (agcUse (F := F) c) := by
  rw [mid_13, ← shift_two]
  refine bigSep_congr fun s _ => ?_
  unfold agcUse agcGot
  by_cases h : 2 ≤ s
  · rw [if_pos h, if_pos h, show 42 + 2 * (s - 2 + 1) = 40 + 2 * s by omega]
  · rw [if_neg h, if_neg h]

/-- Everything the launch deals a device in credits. -/
theorem creds (c : Dev nD) : (Pipeline.launchCred O₀ c : sProp 𝕄)
    ⊢ iprop(crd c .bar 1 2 ∗ crd c .exit 100 2 ∗ (bigSep (Finset.range 15) (rsGot (F := F) c) ∗ bigSep (Finset.range 15) (rscUse (F := F) c))
      ∗ (bigSep (Finset.range 15) (agGot (F := F) c) ∗ bigSep (Finset.range 15) (agcUse (F := F) c))) := by
  have hr : LC (F := F) (fun d => rsL d 15) c ⊢ iprop((bigSep (Finset.range 15) (rsGot (F := F) c) ∗ bigSep (Finset.range 15) (rscUse (F := F) c)) ∗ LC (fun d => agL d 15) c) := by
    refine BIBase.Entails.trans (LC_rsL c 15) ?_
    rw [range_rev (fun s => iprop(rsGot (F := F) c s ∗ (if s < 13 then rscGot c s else iprop(emp)))), big_sep, rsc_use]
  have ha : LC (F := F) (fun d => agL d 15) c ⊢ iprop((bigSep (Finset.range 15) (agGot (F := F) c) ∗ bigSep (Finset.range 15) (agcUse (F := F) c)) ∗ crd c .exit 100 2) := by
    refine BIBase.Entails.trans (LC_agL c 15) ?_
    rw [range_rev (fun s => iprop(agGot (F := F) c s ∗ (if 1 ≤ s ∧ s ≤ 13 then agcGot c s else iprop(emp)))), big_sep, agc_use]
  show LC (F := F) (fun d => ((leftE d, .bar), 1, 1) :: (fun d => ((leftE.symm d, CK.bar), 1, 1) :: (fun d => rsL d 15) d) d) c ⊢ _
  rw [LC_cons, LC_cons]
  iintro ⟨⟨H, H1⟩, H2⟩
  ihave H1 := (LC_one leftE.symm .bar 1 1 c) $$ H1
  ihave H2 := (LC_one leftE .bar 1 1 c) $$ H2
  ihave H := hr $$ H
  icases H with ⟨Hr, H⟩
  ihave H := ha $$ H
  icases H with ⟨Ha, He⟩
  isplitl [H1 H2]
  · iapply ((cred_add _ _).2.trans (Entails.of_eq (congrArg cred (tallyAt_add (cell c .bar) 1 1 1))))
    isplitl [H1] <;> iassumption
  isplitl [He]; · iexact He
  isplitl [Hr] <;> iassumption

/-! ## All of it, sorted -/

/-- What a device has for one step of one ring. -/
def stepAll (d : Dev nD) (s : Fin 15) (r : Fin 4) : sProp 𝕄 :=
  iprop(stepTok d s r ∗ dutyTok EB (toD r d, r) s.val 0
    ∗ (crd d (.ring r (.rs (slA s.val))) (11 + 2 * s.val) NS ∗ (if 2 ≤ s.val then crd d (.ring r .rsc) (10 + 2 * s.val) 1 else iprop(emp)))
    ∗ (crd d (.ring r (.ag (slA s.val))) (41 + 2 * s.val) NS ∗ (if 2 ≤ s.val then crd d (.ring r .agc) (40 + 2 * s.val) 1 else iprop(emp)))
    ∗ (if s.val = 14 then cpRes d r 0 else iprop(emp)) ∗ cpRes d r s.succ)

/-- What a device has for one step of one ring is what the three parts of the step in each phase need. -/
theorem step_sort (d : Dev nD) (s : Fin 15) (r : Fin 4) :
    stepAll (F := F) d s r ⊢ iprop((rsResA d s.val r ∗ rsResB d s.val r ∗ rsResC d s.val r) ∗ (agResA d s.val r ∗ agResB d s.val r ∗ agResC d s r)) := by
  unfold stepAll stepTok rsResA rsResB rsResC agResA agResB agResC
  iintro ⟨⟨T1, T2, T3, T4, T5, T6⟩, TB, ⟨C1, C2⟩, ⟨C3, C4⟩, P0, P1⟩
  have h1 : iprop((if 2 ≤ s.val then crd (F := F) d (.ring r .rsc) (10 + 2 * s.val) 1 else iprop(emp)) ∗ dutyTok EB (toD r d, r) s.val 0)
      ⊢ (if 2 ≤ s.val then iprop(crd (F := F) d (.ring r .rsc) (10 + 2 * s.val) 1 ∗ dutyTok EB (toD r d, r) s.val 0) else iprop(emp)) := by
    by_cases h : 2 ≤ s.val
    · rw [if_pos h, if_pos h]
    · rw [if_neg h, if_neg h]; iintro -; iempintro
  have h2 : tok (F := F) (fromD r d) (.ring r .rsc) 0 s.val ⊢ (if s.val < 13 then tok (fromD r d) (.ring r .rsc) 0 s.val else iprop(emp)) := by
    by_cases h : s.val < 13
    · rw [if_pos h]
    · rw [if_neg h]; iintro -; iempintro
  have h3 : tok (F := F) (fromD r d) (.ring r .agc) (if s.val = 0 then 99 else s.val - 1) 0
      ⊢ (if 1 ≤ s.val ∧ s.val ≤ 13 then tok (fromD r d) (.ring r .agc) (s.val - 1) 0 else iprop(emp)) := by
    by_cases h : 1 ≤ s.val ∧ s.val ≤ 13
    · rw [if_pos h, if_neg (by omega)]
    · rw [if_neg h]; iintro -; iempintro
  ihave H1 := h1 $$ [C2 TB]
  · isplitl [C2] <;> iassumption
  ihave H2 := h2 $$ T5
  ihave H3 := h3 $$ T6
  isplitr [C3 C4 T2 T4 H3 P1]
  · isplitl [H1]; · iexact H1
    isplitl [T1 T3]
    · isplitl [T1] <;> iassumption
    isplitl [C1]; · iexact C1
    isplitl [H2] <;> iassumption
  · isplitl [C4]; · iexact C4
    isplitl [T2 T4]
    · isplitl [T2] <;> iassumption
    isplitl [C3]; · iexact C3
    isplitl [H3] <;> iassumption

/-- The same over all steps and rings. -/
theorem steps_sort (d : Dev nD) : bigSep Finset.univ (fun s => bigSep Finset.univ (fun r => stepAll (F := F) d s r))
    ⊢ iprop(bigSep Finset.univ (fun s : Fin 15 => rsRes (F := F) d s.val) ∗ bigSep Finset.univ (agRes (F := F) d)) := by
  have h (s : Fin 15) : bigSep Finset.univ (fun r => stepAll (F := F) d s r) ⊢ iprop(rsRes (F := F) d s.val ∗ agRes (F := F) d s) := by
    have h' : bigSep Finset.univ (fun r => stepAll (F := F) d s r) ⊢ bigSep Finset.univ fun r =>
        iprop((rsResA (F := F) d s.val r ∗ rsResB d s.val r ∗ rsResC d s.val r) ∗ (agResA d s.val r ∗ agResB d s.val r ∗ agResC d s r)) :=
      bigSep_mono fun r _ => step_sort d s r
    rw [big_sep, big_sep, big_sep, big_sep, big_sep] at h'
    exact h'
  exact BIBase.Entails.trans (bigSep_mono fun s _ => h s) (Entails.of_eq (big_sep _ _ _))

end Cert.KernelIdeal.Ring
-- ==== Proof.K.Mem.lean ====
/- The reduce-scatter: what a ring holds between steps, and the rule of a step. -/
module

public import proofs.«01_k».proof.Proof.K.Toks

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## A scratch buffer as its two slots -/

/-- The two slots of a buffer do not meet. -/
theorem slot_disj (t t' : Fin 2) (h : t ≠ t') : Disjoint (slotRect t).set (slotRect t').set := by
  have hv : t.val ≠ t'.val := fun e => h (Fin.ext e)
  refine Rect.unit_disjoint (0 : Fin 3) ?_
  show t.val + 1 ≤ t'.val ∨ t'.val + 1 ≤ t.val
  omega
/-- The two slots of a buffer are all of it. -/
theorem slot_cov : (Finset.univ : Finset (Fin 2)).biUnion (fun t => (slotRect t).set) = Finset.univ := by
  ext i
  simp only [Finset.mem_biUnion, Finset.mem_univ, true_and, iff_true]
  refine ⟨i 0, Rect.mem_set_unit.2 ?_⟩
  intro a
  match a with
  | 0 => exact ⟨le_refl _, Nat.lt_succ_self _⟩
  | 1 => exact ⟨Nat.zero_le _, by have := (i 1).isLt; show (i 1 : ℕ) < 0 + 512; exact (Nat.zero_add 512).symm ▸ this⟩
  | 2 => exact ⟨Nat.zero_le _, by have := (i 2).isLt; show (i 2 : ℕ) < 0 + 1024; exact (Nat.zero_add 1024).symm ▸ this⟩

/-- A scratch buffer at some contents is its two slots at some contents. -/
theorem buf_slots (i : Fin 3) (r : Fin 4) (d : Dev nD) :
    (iprop(∃ f : Buf (Elt F) ((bufM i r).view.loc (d : Thread nD τ)), ((bufM i r).view.loc (d : Thread nD τ)) ↦{fullShare} f) : sProp 𝕄)
      ⊢ iprop(slotX i r 0 d ∗ slotX i r 1 d) := by
  refine BIBase.Entails.trans (Entails.of_eq ((bufM_whole i r).exists_owns_eq fullShare).symm) ?_
  iintro ⟨%X, H⟩
  ihave H := (owns_rects (d : Thread nD τ) (bufM i r) fullShare slotRect (fun _ _ => rfl) slot_disj slot_cov X) $$ H
  ihave H := (Entails.of_eq (bigSep_two (fun t : Fin 2 => owns (d : Thread nD τ) ((bufM i r).slice (slotRect t) (fun _ => rfl)) fullShare (fun j => X ((slotRect t).emb j))))) $$ H
  icases H with ⟨H0, H1⟩
  unfold slotX slotP
  isplitl [H0]
  · iexists _; iexact H0
  · iexists _; iexact H1

/-- And back. -/
theorem slots_buf (i : Fin 3) (r : Fin 4) (d : Dev nD) :
    (iprop(slotX i r 0 d ∗ slotX i r 1 d) : sProp 𝕄)
      ⊢ iprop(∃ f : Buf (Elt F) ((bufM i r).view.loc (d : Thread nD τ)), ((bufM i r).view.loc (d : Thread nD τ)) ↦{fullShare} f) := by
  refine BIBase.Entails.trans ?_ (Entails.of_eq ((bufM_whole i r).exists_owns_eq fullShare))
  unfold slotX slotP
  iintro ⟨⟨%v, H0⟩, ⟨%w, H1⟩⟩
  iexists (Rect.glue slotRect slot_cov (fun t => if t = 0 then v else w))
  iapply (owns_of_rects (d : Thread nD τ) (bufM i r) fullShare slotRect (fun _ _ => rfl) slot_disj slot_cov _)
  iapply (Entails.of_eq (bigSep_two _).symm)
  isplitl [H0]
  · rw [show (fun j => Rect.glue slotRect slot_cov (fun t => if t = 0 then v else w) ((slotRect 0).emb j)) = v from
      funext fun j => (Rect.glue_emb slotRect slot_cov slot_disj (fun t => if t = 0 then v else w) 0 j).trans rfl]
    iexact H0
  · rw [show (fun j => Rect.glue slotRect slot_cov (fun t => if t = 0 then v else w) ((slotRect 1).emb j)) = w from
      funext fun j => (Rect.glue_emb slotRect slot_cov slot_disj (fun t => if t = 0 then v else w) 1 j).trans rfl]
    iexact H1

/-- The rings' buffers, at some contents. -/
def bufX (i : Fin 3) (r : Fin 4) (d : Dev nD) : sProp 𝕄 :=
  iprop(∃ f : Buf (Elt F) ((bufM i r).view.loc (d : Thread nD τ)), ((bufM i r).view.loc (d : Thread nD τ)) ↦{fullShare} f)

/-- The buffers the call scopes, one after another. -/
theorem rest_eq (d : Dev nD) :
    (Pipeline.scopedRest (Ix := ℕ) (Name := ℕ) (U := UU) (Lvl := ℕ) (Val := Elt F) spec0 d : sProp 𝕄)
      = iprop(bufX 0 0 d ∗ bufX 1 0 d ∗ bufX 2 0 d ∗ bufX 0 1 d ∗ bufX 1 1 d ∗ bufX 2 1 d ∗ bufX 0 2 d ∗ bufX 1 2 d ∗ bufX 2 2 d ∗ bufX 0 3 d ∗ bufX 1 3 d ∗ bufX 2 3 d) := scopedRest0_eq d

/-- The scoped buffers, by ring. -/
theorem rest_bufs (d : Dev nD) :
    (Pipeline.scopedRest (Ix := ℕ) (Name := ℕ) (U := UU) (Lvl := ℕ) (Val := Elt F) spec0 d : sProp 𝕄)
      ⊢ bigSep Finset.univ fun r : Fin 4 => iprop(bufX 0 r d ∗ bufX 1 r d ∗ bufX 2 r d) := by
  rw [rest_eq d]
  refine BIBase.Entails.trans ?_ (Entails.of_eq (bigSep_four _).symm)
  iintro ⟨H0, H1, H2, H3, H4, H5, H6, H7, H8, H9, H10, H11⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6 H7 H8]
  · isplitl [H6]; · iexact H6
    isplitl [H7]; · iexact H7
    iexact H8
  · isplitl [H9]; · iexact H9
    isplitl [H10]; · iexact H10
    iexact H11

/-- And back. -/
theorem bufs_rest (d : Dev nD) :
    (bigSep Finset.univ fun r : Fin 4 => iprop(bufX 0 r d ∗ bufX 1 r d ∗ bufX 2 r d))
      ⊢ (Pipeline.scopedRest (Ix := ℕ) (Name := ℕ) (U := UU) (Lvl := ℕ) (Val := Elt F) spec0 d : sProp 𝕄) := by
  rw [rest_eq d]
  refine BIBase.Entails.trans (Entails.of_eq (bigSep_four _)) ?_
  iintro ⟨⟨H0, H1, H2⟩, ⟨H3, H4, H5⟩, ⟨H6, H7, H8⟩, H9, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The three buffers of a ring are its six slots. -/
theorem bufs_slots (r : Fin 4) (d : Dev nD) : (iprop(bufX 0 r d ∗ bufX 1 r d ∗ bufX 2 r d) : sProp 𝕄) ⊢ slotsR d r := by
  unfold bufX slotsR
  iintro ⟨H0, H1, H2⟩
  isplitl [H0]; · iapply (buf_slots 0 r d); iexact H0
  isplitl [H1]; · iapply (buf_slots 1 r d); iexact H1
  iapply (buf_slots 2 r d); iexact H2
/-- And back. -/
theorem slots_bufs (r : Fin 4) (d : Dev nD) : (slotsR d r : sProp 𝕄) ⊢ iprop(bufX 0 r d ∗ bufX 1 r d ∗ bufX 2 r d) := by
  unfold bufX slotsR
  iintro ⟨H0, H1, H2⟩
  isplitl [H0]; · iapply (slots_buf 0 r d); iexact H0
  isplitl [H1]; · iapply (slots_buf 1 r d); iexact H1
  iapply (slots_buf 2 r d); iexact H2

/-- What the region scopes besides the staging buffers is the slots of the four rings. -/
theorem rest_slots (d : Dev nD) :
    (Pipeline.scopedRest (Ix := ℕ) (Name := ℕ) (U := UU) (Lvl := ℕ) (Val := Elt F) spec0 d : sProp 𝕄)
      ⊢ bigSep Finset.univ (slotsR (F := F) d) :=
  BIBase.Entails.trans (rest_bufs d) (bigSep_mono fun r _ => bufs_slots r d)
/-- All slots of all rings are the scoped buffers. -/
theorem slots_rest (d : Dev nD) :
    (bigSep Finset.univ (slotsR (F := F) d) : sProp 𝕄)
      ⊢ Pipeline.scopedRest (Ix := ℕ) (Name := ℕ) (U := UU) (Lvl := ℕ) (Val := Elt F) spec0 d :=
  BIBase.Entails.trans (bigSep_mono fun r _ => slots_bufs r d) (bufs_rest d)

/-! ## The result as its chunks -/

/-- How far up the ring the device of a chunk is, plus one: the chunk's place among the rows. -/
def rowN (r : Fin 4) (d j : ℕ) : ℕ := match r with
  | 0 => (d + 17 - j) % 16 | 1 => (d + 15 + j) % 16 | 2 => (d + 17 - j) % 16 | 3 => (d + 15 + j) % 16
/-- The row at which local copy `j` writes. -/
theorem outOff_row : ∀ (r : Fin 4) (d : Dev nD) (j : Fin 16), outOff r d j 0 = 512 * rowN r d.val j.val := by decide +kernel
/-- The column at which a ring's local copies write. -/
theorem outOff_col : ∀ (r : Fin 4) (d : Dev nD) (j : Fin 16), outOff r d j 1 = colN r := by decide +kernel
/-- Those rows are the ones the chunk's first device names. -/
theorem toD_row : ∀ (r : Fin 4) (d : Dev nD) (j : Fin 16), (toD r (back r j.val d)).val = rowN r d.val j.val := by decide +kernel

/-- The columns of two rings do not meet. -/
theorem colN_sep : ∀ (r r' : Fin 4), r ≠ r' → colN r + 1024 ≤ colN r' ∨ colN r' + 1024 ≤ colN r := by decide
/-- Every column is some ring's. -/
theorem colN_cov (x : ℕ) (h : x < 4096) : ∃ r : Fin 4, colN r ≤ x ∧ x < colN r + 1024 := by
  rcases (by omega : x < 1024 ∨ (1024 ≤ x ∧ x < 2048) ∨ (2048 ≤ x ∧ x < 3072) ∨ 3072 ≤ x) with h | h | h | h
  · exact ⟨0, by show 0 ≤ x ∧ x < 0 + 1024; omega⟩
  · exact ⟨2, by show 1024 ≤ x ∧ x < 1024 + 1024; omega⟩
  · exact ⟨1, by show 2048 ≤ x ∧ x < 2048 + 1024; omega⟩
  · exact ⟨3, by show 3072 ≤ x ∧ x < 3072 + 1024; omega⟩

/-- Two local copies of a ring write different rows. -/
theorem rowN_inj (r : Fin 4) (d j j' : ℕ) (hd : d < 16) (hj : j < 16) (hj' : j' < 16) (h : rowN r d j = rowN r d j') : j = j' := by
  fin_cases r <;> (simp only [rowN] at h; omega)
/-- Every block of rows is written by some local copy. -/
theorem rowN_surj (r : Fin 4) (d q : ℕ) (hd : d < 16) (hq : q < 16) : ∃ j, j < 16 ∧ rowN r d j = q := by
  fin_cases r
  · exact ⟨(d + 17 - q) % 16, Nat.mod_lt _ (by decide), by simp only [rowN]; omega⟩
  · exact ⟨(q + 17 - d) % 16, Nat.mod_lt _ (by decide), by simp only [rowN]; omega⟩
  · exact ⟨(d + 17 - q) % 16, Nat.mod_lt _ (by decide), by simp only [rowN]; omega⟩
  · exact ⟨(q + 17 - d) % 16, Nat.mod_lt _ (by decide), by simp only [rowN]; omega⟩

/-- Different local copies write different elements of the result. -/
theorem out_disj (d : Dev nD) (t t' : Fin 4 × Fin 16) (h : t ≠ t') :
    Disjoint (outRect t.1 d t.2).set (outRect t'.1 d t'.2).set := by
  obtain ⟨r, j⟩ := t
  obtain ⟨r', j'⟩ := t'
  by_cases hr : r = r'
  · subst hr
    have hj : j.val ≠ j'.val := fun e => h (Prod.ext rfl (Fin.ext e))
    have hn : rowN r d.val j.val ≠ rowN r d.val j'.val := fun e => hj (rowN_inj r _ _ _ d.isLt j.isLt j'.isLt e)
    refine Rect.unit_disjoint (0 : Fin 2) ?_
    show outOff r d j 0 + 512 ≤ outOff r d j' 0 ∨ outOff r d j' 0 + 512 ≤ outOff r d j 0
    rw [outOff_row, outOff_row]
    omega
  · refine Rect.unit_disjoint (1 : Fin 2) ?_
    show outOff r d j 1 + 1024 ≤ outOff r' d j' 1 ∨ outOff r' d j' 1 + 1024 ≤ outOff r d j 1
    rw [outOff_col, outOff_col]
    exact colN_sep r r' hr

/-- The local copies together write all of the result. -/
theorem out_cov (d : Dev nD) : (Finset.univ : Finset (Fin 4 × Fin 16)).biUnion (fun t => (outRect t.1 d t.2).set) = Finset.univ := by
  ext i
  simp only [Finset.mem_biUnion, Finset.mem_univ, true_and, iff_true]
  have h0 : (i 0 : ℕ) < 8192 := (i 0).isLt
  have h1 : (i 1 : ℕ) < 4096 := (i 1).isLt
  obtain ⟨r, hr⟩ := colN_cov _ h1
  obtain ⟨j, hj, hjq⟩ := rowN_surj r d.val ((i 0 : ℕ) / 512) d.isLt (by omega)
  refine ⟨(r, ⟨j, hj⟩), Rect.mem_set_unit.2 ?_⟩
  intro a
  match a with
  | 0 =>
    show outOff r d ⟨j, hj⟩ 0 ≤ (i 0 : ℕ) ∧ (i 0 : ℕ) < outOff r d ⟨j, hj⟩ 0 + 512
    rw [outOff_row]
    show 512 * rowN r d.val j ≤ (i 0 : ℕ) ∧ (i 0 : ℕ) < 512 * rowN r d.val j + 512
    rw [hjq]; omega
  | 1 =>
    show outOff r d ⟨j, hj⟩ 1 ≤ (i 1 : ℕ) ∧ (i 1 : ℕ) < outOff r d ⟨j, hj⟩ 1 + 1024
    rw [outOff_col]; exact hr

/-- What every device's result ends at: each chunk the finished sum of the device it came from. -/
def outAll : S8192x4096.Idx → Elt F .bf16 :=
  Rect.glue (fun t : Fin 4 × Fin 16 => outRect t.1 0 t.2) (out_cov 0) (fun t => outV (finV m ρ t.1 (back t.1 t.2.val 0)))

/-- On device 0, the chunk local copy `j` writes is the finished chunk of the device `j` places behind. -/
theorem outAll_zero (r : Fin 4) (j : Fin 16) (y : S512x1024.Idx) :
    outAll m ρ ((outRect r 0 j).emb y) = outV (finV m ρ r (back r j.val 0)) y :=
  Rect.glue_emb (fun t : Fin 4 × Fin 16 => outRect t.1 0 t.2) (out_cov 0) (out_disj 0)
    (fun t => outV (finV m ρ t.1 (back t.1 t.2.val 0))) (r, j) y

/-- The same chunk, seen from any device. -/
theorem outAll_emb (r : Fin 4) (d : Dev nD) (j : Fin 16) (y : S512x1024.Idx) :
    outAll m ρ ((outRect r d j).emb y) = outV (finV m ρ r (back r j.val d)) y := by
  have hq : rowN r d.val j.val < 16 := toD_row r d j ▸ (toD r (back r j.val d)).isLt
  obtain ⟨k, hk, hkq⟩ := rowN_surj r (0 : Dev nD).val (rowN r d.val j.val) (by decide) hq
  have hb : back r j.val d = back r k 0 := by
    have : toD r (back r j.val d) = toD r (back r k 0) :=
      Fin.ext ((toD_row r d j).trans (hkq.symm.trans (toD_row r 0 ⟨k, hk⟩).symm))
    rw [← fromD_toD r (back r j.val d), this, fromD_toD]
  have he : (outRect r d j).emb y = (outRect r 0 ⟨k, hk⟩).emb y := by
    funext a
    apply Fin.ext
    rw [Rect.emb_apply, Rect.emb_apply]
    have ho : outOff r d j a = outOff r 0 ⟨k, hk⟩ a := by
      match a with
      | 0 => rw [outOff_row, outOff_row]; exact congrArg (512 * ·) hkq.symm
      | 1 => rw [outOff_col, outOff_col]
    show outOff r d j a + 1 * (y a : ℕ) = outOff r 0 ⟨k, hk⟩ a + 1 * (y a : ℕ)
    rw [ho]
  rw [he, outAll_zero, hb]

/-- Every place of the result lies in a chunk. -/
theorem out_place (i : S8192x4096.Idx) : ∃ (r : Fin 4) (j : Fin 16) (y : S512x1024.Idx), (outRect r 0 j).emb y = i := by
  obtain ⟨t, -, ht⟩ := Finset.mem_biUnion.mp ((out_cov 0).symm ▸ Finset.mem_univ i)
  rw [← Rect.map_emb_univ, Finset.mem_map] at ht
  obtain ⟨y, -, hy⟩ := ht
  exact ⟨t.1, t.2, y, hy⟩

/-- A chunk of the result with any contents. -/
theorem owned_outX (r : Fin 4) (d : Dev nD) (j : Fin 16) (v : FVec F S512x1024 .bf16) :
    (owns (d : Thread nD τ) (outM r d j) fullShare v : sProp 𝕄) ⊢ outX r d j := by
  unfold outX outP
  iintro H
  iexists _
  iexact H
/-- A filled chunk holds its part of the whole result. -/
theorem done_owned (r : Fin 4) (d : Dev nD) (j : Fin 16) :
    outDone m ρ d r j ⊢ (owns (d : Thread nD τ) (outM r d j) fullShare (fun y => outAll m ρ ((outRect r d j).emb y)) : sProp 𝕄) := by
  have e : outV (finV m ρ r (back r j.val d)) = fun y => outAll m ρ ((outRect r d j).emb y) :=
    funext fun y => (outAll_emb m ρ r d j y).symm
  unfold outDone outP
  exact Entails.of_eq (congrArg (fun v => owns (d : Thread nD τ) (outM r d j) fullShare v) e)

/-- The result buffer is its chunks, with anything in them. -/
theorem out_open (d : Dev nD) (g : Buf (Elt F) ((d : Thread nD τ).loc main_v1)) :
    (((d : Thread nD τ).loc main_v1) ↦{fullShare} g : sProp 𝕄)
      ⊢ bigSep Finset.univ fun r : Fin 4 => bigSep Finset.univ fun j : Fin 16 => outX (F := F) r d j := by
  refine BIBase.Entails.trans (Entails.of_eq (owns_whole (d : Thread nD τ) main_v1 fullShare g).symm) ?_
  refine BIBase.Entails.trans (owns_rects (d : Thread nD τ) oM fullShare (fun t : Fin 4 × Fin 16 => outRect t.1 d t.2)
    (fun _ _ => rfl) (out_disj d) (out_cov d) g) ?_
  refine BIBase.Entails.trans (bigSep_mono (Ψ := fun t : Fin 4 × Fin 16 => outX (F := F) t.1 d t.2) fun t _ => ?_) ?_
  · exact owned_outX t.1 d t.2 _
  · exact Entails.of_eq (bigSep_univ_prod (fun t : Fin 4 × Fin 16 => outX (F := F) t.1 d t.2))

/-- The filled chunks are the result buffer with the whole result. -/
theorem out_close (d : Dev nD) :
    (bigSep Finset.univ fun r : Fin 4 => bigSep Finset.univ (outDone m ρ d r))
      ⊢ (((d : Thread nD τ).loc main_v1) ↦{fullShare} outAll m ρ : sProp 𝕄) := by
  refine BIBase.Entails.trans ?_ (Entails.of_eq (owns_whole (d : Thread nD τ) main_v1 fullShare (outAll m ρ)))
  refine BIBase.Entails.trans ?_ (owns_of_rects (d : Thread nD τ) oM fullShare (fun t : Fin 4 × Fin 16 => outRect t.1 d t.2)
    (fun _ _ => rfl) (out_disj d) (out_cov d) (outAll m ρ))
  refine BIBase.Entails.trans (Entails.of_eq (bigSep_univ_prod (fun t : Fin 4 × Fin 16 => outDone m ρ d t.1 t.2)).symm) ?_
  exact bigSep_mono fun t _ => done_owned m ρ t.1 d t.2

end Cert.KernelIdeal.Ring
-- ==== Proof.K.Deal.lean ====
/- The reduce-scatter: what a ring holds between steps, and the rule of a step. -/
module

public import proofs.«01_k».proof.Proof.K.Mem

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## Everything a device starts from, assembled -/

/-- A condition on a product of four is a condition on each factor. -/
theorem ifs_out (p : Prop) [Decidable p] (P : Fin 4 → sProp 𝕄) :
    (if p then bigSep Finset.univ P else iprop(emp)) = bigSep Finset.univ (fun r => if p then P r else iprop(emp)) := by
  by_cases h : p
  · simp only [if_pos h]
  · simp only [if_neg h]; exact (bigSep_emp_const _).symm

/-- One resource, filed under the last of fifteen steps. -/
theorem file_last (P : sProp 𝕄) : P ⊢ bigSep Finset.univ (fun s : Fin 15 => if s.val = 14 then P else iprop(emp)) := by
  rw [big_erase (Finset.mem_univ (Fin.last 14))]
  have h : bigSep (Finset.univ.erase (Fin.last 14)) (fun s : Fin 15 => if s.val = 14 then P else iprop(emp)) = iprop(emp) := by
    refine (bigSep_congr fun s hs => ?_).trans (bigSep_emp_const (Finset.univ.erase (Fin.last 14)))
    exact if_neg fun e => Finset.ne_of_mem_erase hs (Fin.ext e)
  rw [h, if_pos (show (Fin.last 14).val = 14 from rfl)]
  iintro H
  isplitl [H]; · iexact H
  iempintro

/-- A product over sixteen, the first taken out. -/
theorem fin16 (Y : Fin 16 → sProp 𝕄) : bigSep Finset.univ Y = iprop(Y 0 ∗ bigSep Finset.univ (fun s : Fin 15 => Y s.succ)) := by
  have e : (Finset.univ : Finset (Fin 16)) = insert 0 (Finset.univ.map (Fin.succEmb 15)) := Fin.univ_succ 15 ▸ Finset.cons_eq_insert _ _ _
  have hn : (0 : Fin 16) ∉ (Finset.univ.map (Fin.succEmb 15) : Finset (Fin 16)) := by
    rintro h
    obtain ⟨i, -, hi⟩ := Finset.mem_map.mp h
    exact absurd (congrArg Fin.val hi) (Nat.succ_ne_zero i.val)
  rw [e, big_insert hn, bigSep_map]
  rfl

/-- The local copies' resources, by step. -/
def cpAll (d : Dev nD) : sProp 𝕄 := bigSep Finset.univ (fun s : Fin 15 => bigSep Finset.univ (fun r : Fin 4 =>
  iprop((if s.val = 14 then cpRes (F := F) d r 0 else iprop(emp)) ∗ cpRes d r s.succ)))
/-- The tokens and chunks of the local copies, dealt to the steps that start them. -/
theorem cp_sort (d : Dev nD) :
    iprop((bigSep Finset.univ fun r : Fin 4 => bigSep Finset.univ fun j : Fin 16 => tok (F := F) d (.ring r .copy) j.val 0)
      ∗ bigSep Finset.univ fun r : Fin 4 => bigSep Finset.univ fun j : Fin 16 => outX (F := F) r d j) ⊢ cpAll (F := F) d := by
  have h1 (r : Fin 4) : iprop((bigSep Finset.univ fun j : Fin 16 => tok (F := F) d (.ring r .copy) j.val 0) ∗ bigSep Finset.univ fun j : Fin 16 => outX (F := F) r d j)
      ⊢ bigSep Finset.univ (fun s : Fin 15 => iprop((if s.val = 14 then cpRes (F := F) d r 0 else iprop(emp)) ∗ cpRes d r s.succ)) := by
    refine BIBase.Entails.trans (Entails.of_eq (big_sep _ _ _).symm) ?_
    refine BIBase.Entails.trans (Entails.of_eq (fin16 (fun j => cpRes (F := F) d r j))) ?_
    rw [big_sep]
    iintro ⟨H0, H1⟩
    isplitl [H0]
    · iapply (file_last (cpRes (F := F) d r 0)); iexact H0
    iexact H1
  unfold cpAll
  rw [bigSep_univ_comm (fun (s : Fin 15) (r : Fin 4) => iprop((if s.val = 14 then cpRes (F := F) d r 0 else iprop(emp)) ∗ cpRes d r s.succ))]
  refine BIBase.Entails.trans (Entails.of_eq (big_sep _ _ _).symm) ?_
  exact bigSep_mono fun r _ => h1 r

/-- The credits of the steps, by step and ring. -/
def crAll (d : Dev nD) (s : Fin 15) (r : Fin 4) : sProp 𝕄 :=
  iprop((crd d (.ring r (.rs (slA s.val))) (11 + 2 * s.val) NS ∗ (if 2 ≤ s.val then crd d (.ring r .rsc) (10 + 2 * s.val) 1 else iprop(emp)))
    ∗ (crd d (.ring r (.ag (slA s.val))) (41 + 2 * s.val) NS ∗ (if 2 ≤ s.val then crd d (.ring r .agc) (40 + 2 * s.val) 1 else iprop(emp))))
/-- The credits of the two phases, dealt to the rings and steps that use them. -/
theorem cr_sort (d : Dev nD) :
    iprop((bigSep (Finset.range 15) (rsGot (F := F) d) ∗ bigSep (Finset.range 15) (rscUse (F := F) d))
      ∗ (bigSep (Finset.range 15) (agGot (F := F) d) ∗ bigSep (Finset.range 15) (agcUse (F := F) d)))
    ⊢ bigSep Finset.univ (fun s : Fin 15 => bigSep Finset.univ (crAll (F := F) d s)) := by
  rw [range_val, range_val, range_val, range_val]
  have h1 (s : Fin 15) : iprop((rsGot (F := F) d s.val ∗ rscUse d s.val) ∗ (agGot d s.val ∗ agcUse d s.val)) ⊢ bigSep Finset.univ (crAll (F := F) d s) := by
    unfold rsGot rscUse agGot agcUse crAll
    rw [ifs_out, ifs_out, big_sep, big_sep, big_sep]
  refine BIBase.Entails.trans ?_ (bigSep_mono fun s _ => h1 s)
  rw [big_sep, big_sep, big_sep]

/-- The tokens of the boxes, dealt to the steps and rings that use them. -/
theorem box_sort (d : Dev nD) : payBox (F := F) d = bigSep Finset.univ (fun s : Fin 15 => bigSep Finset.univ (fun r : Fin 4 => (dutyTok EB (toD r d, r) s.val 0 : sProp 𝕄))) := by
  unfold payBox
  rw [bigSep_univ_prod, bigSep_univ_comm]

/-- A product of four-fold products is four products. -/
theorem big_sep4 {I : Type} [DecidableEq I] (s : Finset I) (A B C D : I → sProp 𝕄) :
    bigSep s (fun i => iprop(A i ∗ B i ∗ C i ∗ D i)) = iprop(bigSep s A ∗ bigSep s B ∗ bigSep s C ∗ bigSep s D) := by
  rw [big_sep, big_sep, big_sep]

/-- Everything a device is dealt for the steps, sorted by step and ring. -/
theorem all_sort (d : Dev nD) :
    iprop(bigSep Finset.univ (fun s => bigSep Finset.univ (fun r => stepTok (F := F) d s r)) ∗ payBox (F := F) d
      ∗ bigSep Finset.univ (fun s : Fin 15 => bigSep Finset.univ (crAll (F := F) d s)) ∗ cpAll (F := F) d)
    ⊢ bigSep Finset.univ (fun s => bigSep Finset.univ (fun r => stepAll (F := F) d s r)) := by
  rw [box_sort]
  unfold cpAll
  have h1 (s : Fin 15) (r : Fin 4) : iprop(stepTok (F := F) d s r ∗ dutyTok EB (toD r d, r) s.val 0 ∗ crAll d s r
      ∗ ((if s.val = 14 then cpRes (F := F) d r 0 else iprop(emp)) ∗ cpRes d r s.succ)) ⊢ stepAll (F := F) d s r := by
    unfold crAll stepAll
    iintro ⟨H1, H2, ⟨H3, H4⟩, H5⟩
    isplitl [H1]; · iexact H1
    isplitl [H2]; · iexact H2
    isplitl [H3]; · iexact H3
    isplitl [H4]; · iexact H4
    iexact H5
  have h2 (s : Fin 15) : iprop(bigSep Finset.univ (fun r => stepTok (F := F) d s r) ∗ bigSep Finset.univ (fun r : Fin 4 => (dutyTok EB (toD r d, r) s.val 0 : sProp 𝕄))
      ∗ bigSep Finset.univ (crAll (F := F) d s)
      ∗ bigSep Finset.univ (fun r : Fin 4 => iprop((if s.val = 14 then cpRes (F := F) d r 0 else iprop(emp)) ∗ cpRes d r s.succ))) ⊢ bigSep Finset.univ (fun r => stepAll (F := F) d s r) := by
    refine BIBase.Entails.trans ?_ (bigSep_mono fun r _ => h1 s r)
    rw [big_sep4]
  refine BIBase.Entails.trans ?_ (bigSep_mono fun s _ => h2 s)
  rw [big_sep4]

/-- What a device starts from, the slots and the environment apart. -/
def startL (d : Dev nD) : sProp 𝕄 :=
  iprop((bigSep Finset.univ fun r : Fin 4 => iprop(bigSep Finset.univ (fun x : RK => pos (F := F) d (.ring r x) 0) ∗ atPos EB (d, r) 0 ∅ 0))
    ∗ shakeRes d .bar 1 ∗ shakeRes d .exit 100 ∗ bigSep Finset.univ (fun s : Fin 15 => rsRes d s.val) ∗ bigSep Finset.univ (agRes d))
/-- A ring's slots and positions are what the ring starts with. -/
theorem startR_intro (d : Dev nD) (r : Fin 4) :
    iprop(slotsR (F := F) d r ∗ (bigSep Finset.univ (fun x : RK => pos (F := F) d (.ring r x) 0) ∗ atPos EB (d, r) 0 ∅ 0)) ⊢ startR (F := F) d r := by
  unfold startR
  exact Entails.of_eq rfl
/-- The rings' slots and the rest are what the device starts with. -/
theorem startD_intro (d : Dev nD) : iprop(startL (F := F) d ∗ bigSep Finset.univ (slotsR (F := F) d)) ⊢ startD d := by
  unfold startL startD
  iintro ⟨⟨H1, H2⟩, H3⟩
  isplitr [H2]
  · have h : iprop((bigSep Finset.univ fun r : Fin 4 => iprop(bigSep Finset.univ (fun x : RK => pos (F := F) d (.ring r x) 0) ∗ atPos EB (d, r) 0 ∅ 0))
        ∗ bigSep Finset.univ (slotsR (F := F) d)) ⊢ bigSep Finset.univ (startR (F := F) d) := by
      refine BIBase.Entails.trans BI.sep_comm ?_
      refine BIBase.Entails.trans (Entails.of_eq (big_sep _ _ _).symm) ?_
      exact bigSep_mono fun r _ => startR_intro d r
    iapply h
    isplitl [H1] <;> iassumption
  iexact H2

/-- What the launch has dealt a device. -/
def dealt (d : Dev nD) : sProp 𝕄 :=
  iprop(bigSep Finset.univ (fun x : CK => pos (F := F) d x 0) ∗ payToks d ∗ bigSep Finset.univ (fun r : Fin 4 => (atPos EB (d, r) 0 ∅ 0 : sProp 𝕄)) ∗ payBox d)

/-- The positions in all cells of a device, sorted by ring. -/
theorem pos_sort (d : Dev nD) : bigSep Finset.univ (fun x : CK => pos (F := F) d x 0)
    = iprop((bigSep Finset.univ (fun r : Fin 4 => bigSep Finset.univ (fun x : RK => pos (F := F) d (.ring r x) 0)) ∗ pos d .exit 0) ∗ pos d .bar 0) := by
  have hu (P : Unit → sProp 𝕄) : bigSep Finset.univ P = P () := by rw [Finset.univ_unique, bigSep_singleton]
  rw [bigSep_univ_sum, bigSep_univ_sum, bigSep_univ_prod, hu, hu]
  rfl

/-- What the launch deals a device is what it starts with, but for the slots. -/
theorem startL_intro (d : Dev nD) (g : Buf (Elt F) ((d : Thread nD τ).loc main_v1)) :
    iprop(dealt (F := F) d ∗ Pipeline.launchCred O₀ d ∗ (((d : Thread nD τ).loc main_v1) ↦{fullShare} g)) ⊢ startL (F := F) d := by
  unfold dealt
  rw [pos_sort, payToks_eq]
  iintro ⟨⟨⟨⟨HP, HPe⟩, HPb⟩, ⟨⟨HT, HTc⟩, ⟨⟨Tb0, Tb1⟩, ⟨Te0, Te1⟩⟩⟩, HB, HX⟩, HC, HO⟩
  ihave HC := (creds (F := F) d) $$ HC
  icases HC with ⟨Cb, Ce, HC⟩
  ihave HC := (cr_sort (F := F) d) $$ HC
  ihave HO := (out_open (F := F) d g) $$ HO
  ihave HO := (cp_sort (F := F) d) $$ [HTc HO]
  · isplitl [HTc] <;> iassumption
  ihave HS := (all_sort (F := F) d) $$ [HT HX HC HO]
  · isplitl [HT]; · iexact HT
    isplitl [HX]; · iexact HX
    isplitl [HC] <;> iassumption
  ihave HS := (steps_sort (F := F) d) $$ HS
  unfold startL
  isplitl [HP HB]
  · iapply (Entails.of_eq (big_sep Finset.univ (fun r : Fin 4 => bigSep Finset.univ (fun x : RK => pos (F := F) d (.ring r x) 0)) (fun r => atPos EB (d, r) 0 ∅ 0)).symm)
    isplitl [HP] <;> iassumption
  unfold shakeRes
  isplitl [HPb Cb Tb0 Tb1]
  · isplitl [HPb]; · iexact HPb
    isplitl [Cb]; · iexact Cb
    isplitl [Tb1]; · iexact Tb1
    iexact Tb0
  isplitl [HPe Ce Te0 Te1]
  · isplitl [HPe]; · iexact HPe
    isplitl [Ce]; · iexact Ce
    isplitl [Te1]; · iexact Te1
    iexact Te0
  iexact HS

end Cert.KernelIdeal.Ring
-- ==== Proof.K.Grant.lean ====
/- The ghost state of every device at launch: minted, its invariants allocated, and dealt out. -/
module

public import proofs.«01_k».proof.Proof.K.Deal

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## The launch element, dealt -/

/-- The semaphores of the kernel: every cell of a device but its barrier. -/
def osem : OK → SemLoc sig := fun x => locOf (.inl x)

/-- The semaphores the call scopes are the ones listed. -/
theorem ownSemFacts : Pipeline.OwnSemFacts cfg0.spec osem := by decide +kernel

/-- The element the launch starts from. -/
def u₀ : UU :=
  (initOf (Pipeline.cells cfgs cellOf_inj) (Pipeline.launchToks cfgs cellOf_inj), (initOf allCells allToks, initOf Finset.univ boxToks))

/-- What it deals a device. -/
def G (c : Dev nD) : sProp 𝕄 :=
  iprop(bigSep Finset.univ (fun x : CK => roundState ER (Rd m ρ) (cell c x) 0)
    ∗ bigSep Finset.univ (fun x : CK => pos c x 0)
    ∗ bigSep Finset.univ (fun x : CK => rch c x 0)
    ∗ ownToks c
    ∗ bigSep Finset.univ (fun r : Fin 4 => (roundAuth EB (c, r) 0 ∅ 0 : sProp 𝕄))
    ∗ bigSep Finset.univ (fun r : Fin 4 => (atPos EB (c, r) 0 ∅ 0 : sProp 𝕄))
    ∗ ownBox c)

/-- A product over all cells, by device. -/
theorem cells_dev (Φ : GSem nD τ sig → sProp 𝕄) :
    bigSep allCells Φ = bigSep Finset.univ fun c : Dev nD => bigSep Finset.univ fun x : CK => Φ (cell c x) := by
  unfold allCells; rw [bigSep_map, bigSep_univ_prod]; rfl
/-- A product over all tokens, by device. -/
theorem toks_dev : bigSep allToks (fun x => (dutyTok ER x.1 x.2.1 x.2.2 : sProp 𝕄)) = bigSep Finset.univ fun c : Dev nD => ownToks (F := F) c := by
  unfold allToks; rw [bigSep_map, bigSep_univ_prod]; rfl
/-- A product over all boxes, by device. -/
theorem box_dev (Φ : Dev nD × Fin 4 → sProp 𝕄) :
    bigSep Finset.univ Φ = bigSep Finset.univ fun c : Dev nD => bigSep Finset.univ fun r : Fin 4 => Φ (c, r) := bigSep_univ_prod Φ
/-- A product over all tokens of the boxes, by device. -/
theorem boxToks_dev : bigSep boxToks (fun x => (dutyTok EB x.1 x.2.1 x.2.2 : sProp 𝕄)) = bigSep Finset.univ fun c : Dev nD => ownBox (F := F) c := by
  unfold boxToks; rw [bigSep_map, bigSep_univ_prod]; rfl

/-- The first state of a box is the authority over its round 0. -/
theorem box_auth (p : Dev nD × Fin 4) : (Rounds.initState EB p : sProp 𝕄) ⊢ roundAuth EB p 0 ∅ 0 := by
  iintro ⟨H, -⟩
  iexact H

/-- What all devices are given, sorted by kind. -/
theorem G_all : bigSep Finset.univ (G m ρ) = iprop((bigSep Finset.univ fun c => bigSep Finset.univ (fun x : CK => roundState ER (Rd m ρ) (cell c x) 0))
    ∗ (bigSep Finset.univ fun c => bigSep Finset.univ (fun x : CK => pos (F := F) c x 0))
    ∗ (bigSep Finset.univ fun c => bigSep Finset.univ (fun x : CK => rch (F := F) c x 0))
    ∗ (bigSep Finset.univ fun c => ownToks (F := F) c)
    ∗ (bigSep Finset.univ fun c => bigSep Finset.univ (fun r : Fin 4 => (roundAuth EB (c, r) 0 ∅ 0 : sProp 𝕄)))
    ∗ (bigSep Finset.univ fun c => bigSep Finset.univ (fun r : Fin 4 => (atPos EB (c, r) 0 ∅ 0 : sProp 𝕄)))
    ∗ bigSep Finset.univ fun c => ownBox (F := F) c) := by
  rw [show G m ρ = fun c => G m ρ c from rfl]
  unfold G
  rw [big_sep, big_sep, big_sep, big_sep, big_sep, big_sep]

/-- The rounds of the cells, from their share of the element. -/
theorem fund_cells : BI.own (ER (initOf allCells allToks)) ⊢ (|==> iprop(
    (bigSep Finset.univ fun c => bigSep Finset.univ (fun x : CK => roundState ER (Rd m ρ) (cell c x) 0))
    ∗ (bigSep Finset.univ fun c => bigSep Finset.univ (fun x : CK => pos (F := F) c x 0))
    ∗ (bigSep Finset.univ fun c => bigSep Finset.univ (fun x : CK => rch (F := F) c x 0))
    ∗ (bigSep Finset.univ fun c => ownToks (F := F) c)) : sProp 𝕄) := by
  iintro HX
  imod (Rounds.fund ER (Rd m ρ) allCells allToks) $$ HX with ⟨Hst, Hr, Hat, Htok⟩
  imodintro
  ihave Hst := (Entails.of_eq (cells_dev fun g => roundState ER (Rd m ρ) g 0)) $$ Hst
  ihave Hat := (Entails.of_eq (cells_dev (F := F) fun g => atPos ER g 0 ∅ 0)) $$ Hat
  ihave Hr := (Entails.of_eq (cells_dev (F := F) fun g => reached ER g 0)) $$ Hr
  ihave Htok := (Entails.of_eq (toks_dev (F := F))) $$ Htok
  isplitl [Hst]; · iexact Hst
  isplitl [Hat]; · iexact Hat
  isplitl [Hr]; · iexact Hr
  iexact Htok

/-- The rounds of the boxes. -/
theorem fund_boxes : BI.own (EB (initOf Finset.univ boxToks)) ⊢ (|==> iprop(
    (bigSep Finset.univ fun c => bigSep Finset.univ (fun r : Fin 4 => (roundAuth EB (c, r) 0 ∅ 0 : sProp 𝕄)))
    ∗ (bigSep Finset.univ fun c => bigSep Finset.univ (fun r : Fin 4 => (atPos EB (c, r) 0 ∅ 0 : sProp 𝕄)))
    ∗ (bigSep Finset.univ fun c => ownBox (F := F) c)) : sProp 𝕄) := by
  iintro HX
  imod (Rounds.fund_init EB Finset.univ boxToks) $$ HX with ⟨Hst, Hr, Hat, Htok⟩
  imodintro
  ihave Hst := (show (bigSep Finset.univ (fun p => Rounds.initState EB p) : sProp 𝕄) ⊢ bigSep Finset.univ (fun p => roundAuth EB p 0 ∅ 0) from bigSep_mono fun p _ => box_auth p) $$ Hst
  ihave Hst := (Entails.of_eq (box_dev (F := F) fun g => roundAuth EB g 0 ∅ 0)) $$ Hst
  ihave Hat := (Entails.of_eq (box_dev (F := F) fun g => atPos EB g 0 ∅ 0)) $$ Hat
  ihave Htok := (Entails.of_eq (boxToks_dev (F := F))) $$ Htok
  isplitl [Hst]; · iexact Hst
  isplitl [Hat]; · iexact Hat
  iexact Htok

/-- The first state of the two ledgers pays what all devices are given. -/
theorem fund_all : BI.own (embR (initOf allCells allToks, initOf Finset.univ boxToks)) ⊢ (|==> bigSep Finset.univ (G m ρ) : sProp 𝕄) := by
  rw [G_all]
  iintro H
  ihave H := (own_pair_emb (embR : Emb (UC × UX) 𝕄) (initOf allCells allToks) (initOf Finset.univ boxToks)) $$ H
  icases H with ⟨H1, H2⟩
  imod (fund_cells m ρ) $$ H1 with ⟨A1, A2, A3, A4⟩
  imod (fund_boxes (F := F)) $$ H2 with ⟨B1, B2, B3⟩
  imodintro
  isplitl [A1]; · iexact A1
  isplitl [A2]; · iexact A2
  isplitl [A3]; · iexact A3
  isplitl [A4]; · iexact A4
  isplitl [B1]; · iexact B1
  isplitl [B2]; · iexact B2
  iexact B3

/-! ## The invariants -/

/-- The scoped semaphores of a device, as cells at zero. -/
theorem ownSems_eq (c : Dev nD) : (Pipeline.ownSems0 (Ix := ℕ) (Name := ℕ) (U := UU) (Lvl := ℕ) (Val := Elt F) (τ := τ) osem c : sProp 𝕄)
    = bigSep Finset.univ fun x : OK => semVal (cell c (.inl x)) 0 := rfl
/-- The one semaphore that is not scoped is the barrier, at zero. -/
theorem unscopedSems_eq (c : Dev nD) : (unscopedSems0 c : sProp 𝕄) = semVal (cell c .bar) 0 := by
  unfold unscopedSems0; rw [bigSep_eq_bigSepL_of_eq [locOf .bar] (by decide +kernel) (by decide)]; rfl
/-- The counters of a device, as the launch names them. -/
theorem sems_eq (c : Dev nD) : (bigSep Finset.univ fun x : CK => semVal (cell c x) 0 : sProp 𝕄)
    = iprop(Pipeline.ownSems0 (Ix := ℕ) (Name := ℕ) (U := UU) (Lvl := ℕ) (Val := Elt F) (τ := τ) osem c ∗ unscopedSems0 c) := by
  have hu (P : Unit → sProp 𝕄) : bigSep Finset.univ P = P () := by rw [Finset.univ_unique, bigSep_singleton]
  rw [bigSep_univ_sum, hu, ownSems_eq, unscopedSems_eq]
  rfl

/-- A box with nothing taken and nothing left in it is a box in good order. -/
theorem box_intro (c : Dev nD) (r : Fin 4) : (roundAuth EB (c, r) 0 ∅ 0 : sProp 𝕄) ⊢ boxP (F := F) c r := by
  unfold boxP
  iintro H
  iexists 0
  isplitl [H]; · iexact H
  rw [Finset.range_zero, bigSep_empty]
  iempintro

/-- What a device holds once its invariants are allocated. -/
def alloced (c : Dev nD) : sProp 𝕄 :=
  iprop(bigSep Finset.univ (fun x : CK => iprop(∃ κ : ℕ, cellInv ER (Rd m ρ) κ (cell c x)))
    ∗ bigSep Finset.univ (fun r : Fin 4 => iprop(∃ κ : ℕ, inv κ (boxP (F := F) c r)))
    ∗ bigSep Finset.univ (fun x : CK => rch c x 0)
    ∗ bigSep Finset.univ (fun x : CK => pos c x 0)
    ∗ ownToks c
    ∗ bigSep Finset.univ (fun r : Fin 4 => (atPos EB (c, r) 0 ∅ 0 : sProp 𝕄))
    ∗ ownBox c)

/-- The counters at zero and the first states of the cells make their invariants. -/
theorem cells_alloc (c : Dev nD) : iprop(bigSep Finset.univ (fun x : CK => semVal (cell c x) 0) ∗ bigSep Finset.univ (fun x : CK => roundState ER (Rd m ρ) (cell c x) 0))
    ⊢ (|={Set.univ}=> bigSep Finset.univ (fun x : CK => iprop(∃ κ : ℕ, cellInv ER (Rd m ρ) κ (cell c x))) : sProp 𝕄) := by
  refine BIBase.Entails.trans (Entails.of_eq (big_sep _ _ _).symm) ?_
  exact (bigSep_mono fun x _ => (Rounds.body_intro ER (Rd m ρ) (cell c x)).trans inv_alloc).trans (bigSep_fupd _ _)
/-- The boxes in good order make their invariants. -/
theorem boxes_alloc (c : Dev nD) : (bigSep Finset.univ (fun r : Fin 4 => roundAuth EB (c, r) 0 ∅ 0) : sProp 𝕄)
    ⊢ (|={Set.univ}=> bigSep Finset.univ (fun r : Fin 4 => iprop(∃ κ : ℕ, inv κ (boxP (F := F) c r))) : sProp 𝕄) :=
  (bigSep_mono fun r _ => (box_intro c r).trans inv_alloc).trans (bigSep_fupd _ _)

/-- One device's share of all this, made into invariants. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> alloced m ρ c := by
  unfold G
  iintro ⟨Hos, Hus, Hst, Hat, Hr, Htok, HB, HBat, HBtok⟩
  ihave Hv := (Entails.of_eq (sems_eq (F := F) c).symm) $$ [Hos Hus]
  · isplitl [Hos] <;> iassumption
  imod (cells_alloc m ρ c) $$ [Hv Hst] with Hinv
  · isplitl [Hv] <;> iassumption
  imod (boxes_alloc (F := F) c) $$ HB with Hbox
  imodintro
  unfold alloced
  isplitl [Hinv]; · iexact Hinv
  isplitl [Hbox]; · iexact Hbox
  isplitl [Hr]; · iexact Hr
  isplitl [Hat]; · iexact Hat
  isplitl [Htok]; · iexact Htok
  isplitl [HBat]; · iexact HBat
  iexact HBtok

/-! ## Every device's share, with the invariants under one family of names -/

/-- What the global step leaves a device. -/
def G' (c : Dev nD) : sProp 𝕄 := iprop(∃ n, (Ctx m ρ n ∗ Zero) ∗ dealt c)

/-- What every factor may use is handed to every factor. -/
theorem big_with {I : Type} [DecidableEq I] (S : Finset I) (R : sProp 𝕄) [BI.Persistent R] (Φ Ψ : I → sProp 𝕄)
    (h : ∀ i, iprop(R ∗ Φ i) ⊢ Ψ i) : iprop(R ∗ bigSep S Φ) ⊢ bigSep S Ψ := by
  refine (sep_mono_left (BI.bigSep_of_persistent S R)).trans ?_
  refine BIBase.Entails.trans (Entails.of_eq (big_sep _ _ _).symm) ?_
  exact bigSep_mono fun i _ => h i

/-- The invariants everyone knows and what a device is dealt are what it gets. -/
theorem G'_intro (c : Dev nD) : iprop((Ctx m ρ n ∗ Zero (F := F)) ∗ dealt c) ⊢ G' m ρ c := by
  unfold G'
  iintro H
  iexists n
  iexact H

/-- All positions and tokens, dealt to the devices that use them. -/
theorem dealt_all : iprop((bigSep Finset.univ fun c => bigSep Finset.univ (fun x : CK => pos (F := F) c x 0))
    ∗ (bigSep Finset.univ fun c => payToks (F := F) c)
    ∗ (bigSep Finset.univ fun c => bigSep Finset.univ (fun r : Fin 4 => (atPos EB (c, r) 0 ∅ 0 : sProp 𝕄)))
    ∗ (bigSep Finset.univ fun c => payBox (F := F) c)) ⊢ bigSep Finset.univ fun c => dealt (F := F) c := by
  unfold dealt
  rw [big_sep, big_sep, big_sep]

/-- What the devices have made, regrouped: the names are chosen once for all, and the tokens go to those who pay. -/
theorem regroup : bigSep Finset.univ (alloced m ρ) ⊢ bigSep Finset.univ (G' m ρ) := by
  rw [show alloced m ρ = fun c => alloced m ρ c from rfl]
  unfold alloced
  rw [big_sep, big_sep, big_sep, big_sep, big_sep, big_sep]
  iintro ⟨HI, HB, HR, Hpos, Htok, HBat, HBtok⟩
  ihave HI := (Entails.of_eq (bigSep_univ_prod (fun p : Dev nD × CK => (iprop(∃ κ : ℕ, cellInv ER (Rd m ρ) κ (cell p.1 p.2)) : sProp 𝕄))).symm) $$ HI
  ihave HB := (Entails.of_eq (bigSep_univ_prod (fun p : Dev nD × Fin 4 => (iprop(∃ κ : ℕ, inv κ (boxP (F := F) p.1 p.2)) : sProp 𝕄))).symm) $$ HB
  ihave HR := (Entails.of_eq (bigSep_univ_prod (fun p : Dev nD × CK => (rch (F := F) p.1 p.2 0 : sProp 𝕄))).symm) $$ HR
  ihave HI := (BI.bigSep_exists_pi Finset.univ (fun (p : Dev nD × CK) (κ : ℕ) => (cellInv ER (Rd m ρ) κ (cell p.1 p.2) : sProp 𝕄))) $$ HI
  icases HI with ⟨%K, HI⟩
  ihave HB := (BI.bigSep_exists_pi Finset.univ (fun (p : Dev nD × Fin 4) (κ : ℕ) => (inv κ (boxP (F := F) p.1 p.2) : sProp 𝕄))) $$ HB
  icases HB with ⟨%B, HB⟩
  ihave Htok := (Entails.of_eq (deal_toks (F := F))) $$ Htok
  ihave HBtok := (Entails.of_eq (deal_box (F := F))) $$ HBtok
  iapply (big_with Finset.univ (iprop(Ctx m ρ ⟨K, B⟩ ∗ Zero)) (fun c => dealt c) (G' m ρ) (G'_intro m ρ ⟨K, B⟩))
  isplitl [HI HB HR]
  · isplitl [HI HB]
    · unfold Ctx
      isplitl [HI]; · iexact HI
      iexact HB
    unfold Zero
    iexact HR
  iapply (dealt_all (F := F))
  isplitl [Hpos]; · iexact Hpos
  isplitl [Htok]; · iexact Htok
  isplitl [HBat]; · iexact HBat
  iexact HBtok

/-- The global step of the launch: the counters of every device, with its ghost state, become its invariants and its share. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.Ring
-- ==== Proof.K.Launch.lean ====
/- The launch: the body run at the one point of the grid, and the whole execution of every device. -/
module

public import proofs.«01_k».proof.Proof.K.Grant

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## The body at the one point of the grid -/

/-- What a device holds before the body, beside its windows and what it owes. -/
def Φ₀ (c : Dev nD) : sProp 𝕄 := iprop(∃ n, Env m ρ n ∗ startD c)

/-- The region's data: the windows' contents, what the device holds and owes before and after the body. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
  Φ t := match t with
    | ⟨0, _⟩ => Φ₀ m ρ c
    | ⟨_ + 1, _⟩ => endD m ρ c
  q _ := fullShare
  owed t := match t with
    | ⟨0, _⟩ => O₀ c
    | ⟨_ + 1, _⟩ => 0

/-- Both windows are held outright. -/
theorem share_eq (c : Dev nD) (w : Fin cfg0.W) : (dats m ρ 0 c).share w = fullShare := by unfold Dat.share; split <;> rfl

/-- A whole buffer of a device, at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The first window is fetched. -/
theorem fetch_0 (t : Fin cfg0.N) : (cfg0.win (0 : Fin 2)).fetch t = true := by rw [fin_N0 t]; rfl
/-- The second window is fetched. -/
theorem fetch_1 (t : Fin cfg0.N) : (cfg0.win (1 : Fin 2)).fetch t = true := by rw [fin_N0 t]; rfl
/-- The first window holds the device's columns of `x` when the body starts. -/
theorem before_0 (c : Dev nD) (d) : (dats m ρ 0 c).before (0 : Fin 2) t0_0 d = xstg m ρ c := by
  unfold Dat.before; rw [if_pos (fetch_0 t0_0)]; rfl
/-- The second window holds the device's rows of `w` when the body starts. -/
theorem before_1 (c : Dev nD) (d) : (dats m ρ 0 c).before (1 : Fin 2) t0_0 d = wstg m ρ c := by
  unfold Dat.before; rw [if_pos (fetch_1 t0_0)]; rfl

set_option maxRecDepth 4000 in
def bodyPre' (c : Dev nD) : sProp 𝕄 :=
  iprop(Φ₀ m ρ c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
set_option maxRecDepth 4000 in
def bodyPost' (c : Dev nD) : sProp 𝕄 :=
  iprop(endD m ρ c ∗ (dats m ρ 0 c).owesAt 0 t0_0.succ ∗ stg c cc0_stg0_0 (xstg m ρ c) ∗ stg c cc0_stg1_0 (wstg m ρ c))

/-- The windows before the body, at the contents fetched. -/
theorem windows_open (c : Dev nD) :
    iprop((∃ d, stg c cc0_stg0_0 ((dats m ρ 0 c).before (0 : Fin 2) t0_0 d)) ∗ (∃ d, stg c cc0_stg1_0 ((dats m ρ 0 c).before (1 : Fin 2) t0_0 d)))
      ⊢ XW m ρ c := by
  iintro ⟨⟨%d, %f, %hf, H0⟩, ⟨%e, %g, %hg, H1⟩⟩
  rw [before_0] at hf
  rw [before_1] at hg
  subst hf hg
  unfold XW
  isplitl [H0]; · iexact H0
  iexact H1
/-- The two windows, held, are the two staging buffers with their contents. -/
theorem windows_close (c : Dev nD) : XW m ρ c ⊢ iprop(stg c cc0_stg0_0 (xstg m ρ c) ∗ stg c cc0_stg1_0 (wstg m ρ c)) := by
  unfold XW
  iintro ⟨H0, H1⟩
  isplitl [H0]
  · iexists _; isplitr; · (ipureintro; rfl)
    iexact H0
  iexists _; isplitr; · (ipureintro; rfl)
  iexact H1
/-- What the call owes when the body starts is the whole list. -/
theorem owes_open (c : Dev nD) : (dats m ρ 0 c).owesAt 0 t0_0.castSucc ⊢ Ow (F := F) c (allL c) := by
  unfold Dat.owesAt Pipeline.owesWithin Ow
  rw [show (dats m ρ 0 c).owed t0_0.castSucc = oweL (allL c) from rfl]
  iintro ⟨%W, -, H⟩
  iexists W
  iexact H
/-- Owing nothing is what the call asks for when the body ends. -/
theorem owes_close (c : Dev nD) : Ow (F := F) c [] ⊢ (dats m ρ 0 c).owesAt 0 t0_0.succ := by
  unfold Dat.owesAt Pipeline.owesWithin Ow
  rw [show (dats m ρ 0 c).owed t0_0.succ = oweL [] from rfl]
  iintro ⟨%W, H⟩
  iexists W
  isplitr; · ipureintro; exact fun _ _ => Or.inl trivial
  iexact H

/-- What the body ends with is what the call asks for. -/
theorem body_after (c : Dev nD) : iprop(XW m ρ c ∗ endD m ρ c ∗ Ow (F := F) c []) ⊢ bodyPost' m ρ c := by
  unfold bodyPost'
  iintro ⟨HW, HE, HO⟩
  isplitl [HE]; · iexact HE
  isplitl [HO]
  · iapply (owes_close m ρ c); iexact HO
  iapply (windows_close m ρ c); iexact HW

/-- The body's rule, over the region's own data. -/
theorem body_run (c : Dev nD) : bodyPre' m ρ c ⊢ WP c (bodyK t0_0) (fun _ => bodyPost' m ρ c) := by
  rw [body_eq]
  unfold bodyPre' Φ₀
  iintro ⟨⟨%n, HE, HS⟩, HO, HW⟩
  ihave HO := (owes_open m ρ c) $$ HO
  ihave HW := (windows_open m ρ c) $$ HW
  iapply (BIBase.Entails.trans (prog_spec m ρ n c) (wp_mono _ _ _ fun _ => body_after m ρ c))
  isplitl [HE]; · iexact HE
  isplitl [HW]; · iexact HW
  isplitl [HS]; · iexact HS
  iexact HO

attribute [local irreducible] cc0_body in
set_option maxRecDepth 100000 in
/-- The region's body on a device is the printed body. -/
theorem defs_body : (defs₀ (F := F)) Proc.tc 0 (t0_0, cfg0.slots t0_0) = bodyK t0_0 := rfl

attribute [local irreducible] bodyK in
set_option maxRecDepth 20000 in
/-- The library's obligation of the body on a device. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  rw [defs_body]
  show bodyPre' m ρ c ⊢ wp frame (wpE (defs₀ (F := F)) 𝒱₀ (c : Thread nD τ) none) Set.univ (bodyK t0_0) (fun _ => bodyPost' m ρ c)
  exact body_run m ρ c

end Cert.KernelIdeal.Ring
-- ==== Proof.K.Run.lean ====
/- The whole execution of every device: how it starts, how it ends, and what it leaves. -/
module

public import proofs.«01_k».proof.Proof.K.Launch
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (n : Nms)

/-! ## The start and the end of a device -/

/-- What a device brings into the region, beside its scratch buffers. -/
def X (c : Dev nD) : sProp 𝕄 := iprop(∃ n, Env m ρ n ∗ startL c)
/-- What it takes out. -/
def Y (c : Dev nD) : sProp 𝕄 := iprop(unscopedSems0 c ∗ (((c : Thread nD τ).loc main_v1) ↦{fullShare} outAll m ρ))

/-- The one array that is no window is the result's. -/
theorem rest_out (c : Dev nD) :
    (Pipeline.unscopedRestP Pipeline.Prefetch.none spec0 c (fun b => m ((c : Thread nD τ).loc b)) : sProp 𝕄)
      ⊢ (((c : Thread nD τ).loc main_v1) ↦{fullShare} m ((c : Thread nD τ).loc main_v1)) := by
  rw [Pipeline.unscopedRestP_none, unscopedRest0_eq]

/-- What the launch gives a device is what its call starts from. -/
theorem start_intro (c : Dev nD) :
    iprop(Pipeline.unscopedRestP Pipeline.Prefetch.none cfg0.spec c (fun b => m ((c : Thread nD τ).loc b)) ∗ levAts Lv lv
        ∗ Pipeline.launchCred O₀ c ∗ prngReg c (ρ c) ∗ G' m ρ c)
      ⊢ |={Set.univ}=> iprop(X m ρ c ∗ emp) := by
  unfold G' X
  iintro ⟨Hu, Hlev, Hcr, -, ⟨%n, ⟨HC, HZ⟩, HD⟩⟩
  imodintro
  isplitl
  · iexists n
    isplitl [HC HZ Hlev]
    · unfold Env
      isplitl [HC]; · iexact HC
      isplitl [HZ]; · iexact HZ
      unfold Levs
      iexact Hlev
    iapply (startL_intro (F := F) c (m ((c : Thread nD τ).loc main_v1)))
    isplitl [HD]; · iexact HD
    isplitl [Hcr]; · iexact Hcr
    iapply (rest_out m c)
    iexact Hu
  · iempintro

/-- What the call starts from, with its scoped buffers, is the first state of its body. -/
theorem phi_in (c : Dev nD) :
    iprop(X m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ X
  iintro ⟨⟨%n, HE, HL⟩, -, HS⟩
  iexists n
  isplitl [HE]; · iexact HE
  iapply (startD_intro (F := F) c)
  isplitl [HL]; · iexact HL
  iapply (rest_slots (F := F) c)
  iexact HS

/-- The last state of the body gives back the scoped semaphores and buffers, and keeps the result. -/
theorem phi_out (c : Dev nD) :
    (dats m ρ 0 c).Φ (Fin.last cfg0.N) ⊢ iprop(Y m ρ c ∗ Pipeline.ownSems0 osem c ∗ Pipeline.scopedRest cfg0.spec c) := by
  rw [show (dats m ρ 0 c).Φ (Fin.last cfg0.N) = endD m ρ c from rfl]
  unfold endD Y
  iintro ⟨HS, HZ, HO⟩
  ihave HZ := (Entails.of_eq (sems_eq (F := F) c)) $$ HZ
  icases HZ with ⟨HZ, HU⟩
  isplitl [HU HO]
  · isplitl [HU]; · iexact HU
    iapply (out_close m ρ c); iexact HO
  isplitl [HZ]; · iexact HZ
  iapply (slots_rest (F := F) c); iexact HS

/-- The levels allow the waits for the windows' own transfers. -/
theorem waits (c : Dev nD) : (levAts Lv lv : sProp 𝕄) ⊢ Pipeline.cellsWaits cfgs (dats m ρ) 0 0 c :=
  Pipeline.cellsWaits_intro cfgs (dats m ρ) 0 0 c fun w s t => by
    rcases t with ⟨_ | _, ht⟩
    · rw [show (dats m ρ 0 c).owed ⟨0, ht⟩ = oweL (allL c) from rfl]
      exact mayWait c _ 0 (above_all c) Nat.zero_lt_one (Nat.zero_le _)
    · rw [show (dats m ρ 0 c).owed ⟨_ + 1, ht⟩ = oweL [] from rfl]
      exact mayWait c _ 0 (Above.nil 1) Nat.zero_lt_one (Nat.zero_le _)

/-! ## The run -/

/-- A device that holds the result's array with the whole result in it has the whole result in memory. -/
theorem result_read (c : Dev nD) (s' : Phys nD τ sig (Elt F)) :
    iprop((((c : Thread nD τ).loc main_v1) ↦{fullShare} outAll m ρ) ∗ SI s')
      ⊢ (iprop(⌜s'.mem.mem ((c : Thread nD τ).loc main_v1) = outAll m ρ⌝ ∗ SI s') : sProp 𝕄) := by
  have h := pointsTo_read_all (Ix := ℕ) (Name := ℕ) (U := UU) (Lvl := ℕ) ({0} : Finset (Fin 1)) (fun _ => (c : Thread nD τ).loc main_v1)
    (fun _ => (outAll m ρ : Buf (Elt F) ((c : Thread nD τ).loc main_v1))) s'
  rw [bigSep_singleton] at h
  refine BIBase.Entails.trans h ?_
  iintro ⟨%H, HS⟩
  isplitr; · ipureintro; exact H 0 (Finset.mem_singleton_self _)
  iexact HS

/-- At the end the counters that are not scoped are at zero, and the memory holds the whole result. -/
theorem read_end (c : Dev nD) (s' : Phys nD τ sig (Elt F)) :
    iprop(Y m ρ c ∗ emp ∗ SI s')
      ⊢ |={Set.univ}=> (iprop(⌜(∀ sm : SemLoc sig, sm.isScoped .tc = false → s'.mem.sem ((c.tc : Thread nD τ), sm) = 0)
          ∧ s'.mem.mem ((c : Thread nD τ).loc main_v1) = outAll m ρ⌝ ∗ SI s') : sProp 𝕄) := by
  unfold Y
  iintro ⟨⟨Hu, HO⟩, -, HSI⟩
  ihave H := (result_read m ρ c s') $$ [HO HSI]
  · isplitl [HO] <;> iassumption
  icases H with ⟨%h, HSI⟩
  imod (Pipeline.unscopedSems0_read (X := unscopedSems0 c) (c := c) fupd_intro s') $$ [Hu HSI] with ⟨%h', HSI⟩
  · isplitl [Hu] <;> iassumption
  imodintro
  isplitr; · ipureintro; exact ⟨h', h⟩
  iexact HSI

/-- What a run leaves: both arguments as they were, and the result at its value, on every device. -/
def QC : PUnit × MemSt nD τ sig (Elt F) → Prop := fun r => ∀ c : Dev nD,
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_v1) = outAll m ρ

/-- The first argument is unchanged. -/
theorem arr_0 (c : Dev nD) : (dats m ρ 0 c).arrAt (0 : Fin 2) cfg0.N = m ((c : Thread nD τ).loc main_arg0) :=
  (dats (F := F) m ρ 0 c).arrAt_in (0 : Fin 2) rfl _
/-- The second argument is unchanged. -/
theorem arr_1 (c : Dev nD) : (dats m ρ 0 c).arrAt (1 : Fin 2) cfg0.N = m ((c : Thread nD τ).loc main_arg1) :=
  (dats (F := F) m ρ 0 c).arrAt_in (1 : Fin 2) rfl _

set_option maxRecDepth 100000 in
/-- For any float values, from any memory with zero counters, every weakly fair execution of the sixteen devices ends;
    each device then has both arguments as they were and its result at the value of `outAll`, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := Lv) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := X m ρ) (Y := Y m ρ) (Z := fun _ => iprop(emp))
    (hX := start_intro m ρ) (hin := phi_in m ρ) (hout := phi_out m ρ)
    (QY := fun c s => (∀ sm : SemLoc sig, sm.isScoped .tc = false → s.sem ((c.tc : Thread nD τ), sm) = 0)
      ∧ s.mem ((c : Thread nD τ).loc main_v1) = outAll m ρ)
    (hY := read_end m ρ)
    (hQ := fun _ h hs => ⟨fun c => ⟨((h c).1 (0 : Fin 2)).trans (arr_0 m ρ c), ((h c).1 (1 : Fin 2)).trans (arr_1 m ρ c), (h c).2.2.2⟩,
      sem_eq_zero hs fun c => (h c).2.2.1⟩)

end Cert.KernelIdeal.Ring
-- ==== Proof.R.Same.lean ====
/- The kernel printed for the bits is the kernel printed for the ideal numbers, read at the bits. -/
module

public import proofs.«01_k».proof.Proof.K.Run
public import proofs.«01_k».proof.Proof.Gen.Kernel
public import Idealize.ShloMosaic.PureOps.BitExact

@[expose] public section

set_option maxRecDepth 100000
set_option maxHeartbeats 4000000

noncomputable section

namespace Cert.Kernel.Same

open Idealize.ShloMosaic Idealize.SL.Sem
open Cert.Kernel.Gen Cert.KernelIdeal.Gen

/-- The two programs have one body table; -/
theorem body_eq : Cert.Kernel.defs₀ (F := Bits) = Cert.KernelIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

/-- and with it one table of everything they call. -/
theorem defs_eq : Cert.Kernel.defs (F := Bits) = Cert.KernelIdeal.defs (F := Bits) :=
  congrArg (Pipeline.defs (Cert.KernelIdeal.pcfgs (F := Bits))) body_eq

/-- So on bits the kernel ends with its arguments as they were and every counter at zero. -/
theorem run_main (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0 := by
  have h := Cert.KernelIdeal.Ring.run_main (F := Bits) m g
  rw [← defs_eq] at h
  exact (θ_run Cert.Kernel.defs (onTc (τ := Cert.Kernel.τ) (Cert.Kernel.main (F := Bits))) ⟨m, fun _ => 0, g⟩).mono
    (fun _ h => ⟨fun c => ⟨(h.1 c).1, (h.1 c).2.1⟩, h.2⟩) h

end Cert.Kernel.Same

end
-- ==== Proof.M.Sum.lean ====
/- What the devices end with, over the ideal numbers: each entry is the whole sum times its logistic. -/
module

public import proofs.«01_k».proof.Proof.K.Run
public import Idealize.ShloMosaic.Lib.IdealHost
public import Idealize.ShloMosaic.Lib.MatmulPlain
public import Idealize.ShloMosaic.Lib.ValueIdx
public import Idealize.ShloMosaic.Lib.Pipeline.Value

@[expose] public section

noncomputable section

namespace Cert.KernelIdeal.Ring

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-! ## Where the chunks lie -/

/-- The first product reads the rows of `x` that the device's own number names. -/
theorem x0_row : ∀ d : Dev nD, k0_off1 d 0 = 512 * d.val := by decide +kernel
/-- The first product reads all its columns. -/
theorem x0_col : ∀ d : Dev nD, k0_off1 d 1 = 0 := by decide +kernel
/-- Step `s` reads the rows of `x` named by the device `s + 1` places behind. -/
theorem x_row : ∀ (r : Fin 4) (d : Dev nD) (s : Fin 15), k0_off2 d (stepW r (s.val + 1)) 0 = 512 * (back r (s.val + 1) d).val := by
  decide +kernel
/-- Step `s` reads all its columns. -/
theorem x_col : ∀ (r : Fin 4) (d : Dev nD) (s : Fin 15), k0_off2 d (stepW r (s.val + 1)) 1 = 0 := by decide +kernel
/-- Fifteen places behind is one place ahead. -/
theorem back_last : ∀ (r : Fin 4) (d : Dev nD), back r 15 d = toD r d := by decide +kernel
/-- The sixteen devices behind one are all different. -/
theorem back_inj : ∀ (r : Fin 4) (d : Dev nD) (i j : Fin 16), back r i.val d = back r j.val d → i = j := by decide +kernel

/-- Going back up to fifteen times from a device reaches every device once. -/
theorem sum_back (r : Fin 4) (d : Dev nD) (f : Dev nD → EReal) : ∑ i ∈ Finset.range 16, f (back r i d) = ∑ c : Dev nD, f c := by
  rw [Finset.sum_range]
  exact Equiv.sum_comp (Equiv.ofBijective (fun i : Fin 16 => back r i.val d)
    ((Fintype.bijective_iff_injective_and_card _).2 ⟨fun i j h => back_inj r d i j h, rfl⟩)) f

/-! ## One device's product -/

/-- A device's two arguments. -/
abbrev xArg (c : Dev nD) : S8192x512.Idx → EReal := m ((c : Thread nD τ).loc main_arg0)
abbrev wArg (c : Dev nD) : S512x4096.Idx → EReal := m ((c : Thread nD τ).loc main_arg1)

/-- A device's share of one entry of the result. -/
def part (c : Dev nD) (a : Fin 8192) (b : Fin 4096) : EReal := ∑ k : Fin 512, xArg m c (ix2 a k) * wArg m c (ix2 k b)

/-- The first window holds the first argument. -/
theorem xstg_apply (c : Dev nD) (i : S8192x512.Idx) : xstg m ρ c i = xArg m c i := by
  show m ((c : Thread nD τ).loc main_arg0) _ = _
  refine congrArg (m ((c : Thread nD τ).loc main_arg0)) ?_
  funext a; apply Fin.ext
  fin_cases a
  · show 0 * 8192 + 1 * (i 0).val = (i 0).val; omega
  · show 0 * 512 + 1 * (i 1).val = (i 1).val; omega

/-- The second window holds the second argument. -/
theorem wstg_apply (c : Dev nD) (i : S512x4096.Idx) : wstg m ρ c i = wArg m c i := by
  show m ((c : Thread nD τ).loc main_arg1) _ = _
  refine congrArg (m ((c : Thread nD τ).loc main_arg1)) ?_
  funext a; apply Fin.ext
  fin_cases a
  · show 0 * 512 + 1 * (i 0).val = (i 0).val; omega
  · show 0 * 4096 + 1 * (i 1).val = (i 1).val; omega

/-- A place of a chunk in the whole result. -/
def rowOf (q : Dev nD) (a : Fin 512) : Fin 8192 := ⟨512 * q.val + a.val, by have hq : q.val < 16 := q.isLt; have ha := a.isLt; omega⟩
def colOf (r : Fin 4) (b : Fin 1024) : Fin 4096 :=
  ⟨colN r + b.val, by have := b.isLt; have h : ∀ r : Fin 4, colN r ≤ 3072 := by decide
                      have := h r; omega⟩

/-- An entry of the product of two blocks is the sum over the inner index. -/
theorem prodF_apply (A : Vec Ideal S512x512 .bf16) (B : Vec Ideal S512x1024 .bf16) (a : Fin 512) (b : Fin 1024) :
    prodF A B (ix2 a b) = ∑ k : Fin 512, A (ix2 a k) * B (ix2 k b) := by
  unfold prodF
  rw [show shapeCast S512x512 A shapeCasts_S512x512_S512x512 = A from funext fun i => congrArg A (Shape.reshapeEquiv_self _ i),
    show shapeCast S512x1024 B shapeCasts_S512x1024_S512x1024 = B from funext fun i => congrArg B (Shape.reshapeEquiv_self _ i)]
  refine (Ideal.matmul_plain_apply none A B _ a b).trans ?_
  rw [constant_apply, Ideal.ofBits_zero_f32, zero_add]

/-- The product of some rows of a device's `x` and a ring's columns of its `w`. -/
theorem prodAt_apply (r : Fin 4) (c q : Dev nD) (o : Fin 2 → ℕ) (h : ∀ a, o a + S512x512.size a ≤ S8192x512.size a)
    (h0 : o 0 = 512 * q.val) (h1 : o 1 = 0) (a : Fin 512) (b : Fin 1024) :
    prodAt m ρ r c (Rect.unit (s := S8192x512) o S512x512.size h) rfl (ix2 a b) = part m c (rowOf q a) (colOf r b) := by
  unfold prodAt part
  rw [prodF_apply]
  refine Finset.sum_congr rfl fun k _ => ?_
  congr 1
  · refine (xstg_apply m ρ c _).trans (congrArg (xArg m c) ?_)
    funext x; apply Fin.ext
    fin_cases x
    · show o 0 + 1 * a.val = 512 * q.val + a.val; omega
    · show o 1 + 1 * k.val = k.val; omega
  · refine (wstg_apply m ρ c _).trans (congrArg (wArg m c) ?_)
    funext x; apply Fin.ext
    fin_cases x
    · show 0 + 1 * k.val = k.val; omega
    · show colN r + 1 * b.val = colN r + b.val; omega

/-- An entry of the first product is the device's part of an entry of the whole product. -/
theorem prod0_apply (r : Fin 4) (c : Dev nD) (a : Fin 512) (b : Fin 1024) :
    prod0 m ρ r c (ix2 a b) = part m c (rowOf c a) (colOf r b) :=
  prodAt_apply m ρ r c c _ _ (x0_row c) (x0_col c) a b

/-- An entry of step `n`'s product is the device's part of an entry of the whole product. -/
theorem prodN_apply (r : Fin 4) (c : Dev nD) (n : ℕ) (hn : n < 15) (a : Fin 512) (b : Fin 1024) :
    prodN m ρ r c n (ix2 a b) = part m c (rowOf (back r (n + 1) c) a) (colOf r b) := by
  unfold prodN
  rw [dif_pos hn]
  exact prodAt_apply m ρ r c _ _ _ (x_row r c ⟨n, hn⟩) (x_col r c ⟨n, hn⟩) a b

/-! ## The sum along a ring -/

/-- Over the extended reals a chunk put in a slot and read out again is itself. -/
theorem outV_slotF (A : FVec Ideal S512x1024 .f32) (i : S512x1024.Idx) : outV (slotF A) i = A i := by
  unfold outV slotF
  exact congrFun (shapeCast_shapeCast (s := S512x1024) (t := S1x512x1024) A shapeCasts_S512x1024_S1x512x1024 shapeCasts_S1x512x1024_S512x1024) i

/-- Adding a product to what arrived adds entry by entry. -/
theorem accF_apply (p : FVec Ideal S512x1024 .f32) (v : FVec Ideal S1x512x1024 .bf16) (i : S512x1024.Idx) :
    accF p v i = outV v i + p i := rfl

/-- Before the last step a device holds the sum of the products of the devices behind it. -/
theorem sendV_sum (r : Fin 4) (a : Fin 512) (b : Fin 1024) : ∀ (n : ℕ) (_ : n < 15) (d : Dev nD),
    outV (sendV m ρ r n d) (ix2 a b)
      = ∑ i ∈ Finset.range (n + 1), part m (back r i d) (rowOf (back r n d) a) (colOf r b)
  | 0, _, d => by
    rw [Finset.sum_range_one]
    exact (outV_slotF _ _).trans (prod0_apply m ρ r d a b)
  | n + 1, hn, d => by
    have ih := sendV_sum r a b n (by omega) (fromD r d)
    show outV (slotF (if n = 14 then _ else _)) _ = _
    rw [if_neg (by omega), outV_slotF, accF_apply, ih, prodN_apply m ρ r d n (by omega), Finset.sum_range_succ' _ (n + 1)]
    rfl

/-- A finished chunk is the whole sum times its logistic. -/
theorem finV_apply (r : Fin 4) (d : Dev nD) (a : Fin 512) (b : Fin 1024) :
    outV (finV m ρ r d) (ix2 a b)
      = (∑ c : Dev nD, part m c (rowOf (toD r d) a) (colOf r b)) * Ideal.logistic (∑ c : Dev nD, part m c (rowOf (toD r d) a) (colOf r b)) := by
  have hs : accF (prodN m ρ r d 14) (sendV m ρ r 14 (fromD r d)) (ix2 a b)
      = ∑ c : Dev nD, part m c (rowOf (toD r d) a) (colOf r b) := by
    rw [accF_apply, sendV_sum m ρ r a b 14 (by omega) (fromD r d), prodN_apply m ρ r d 14 (by omega), ← back_last r d,
      ← sum_back r d, Finset.sum_range_succ' _ 15]
    rfl
  show outV (slotF (siluF (accF (prodN m ρ r d 14) (sendV m ρ r 14 (fromD r d))))) (ix2 a b) = _
  rw [outV_slotF]
  unfold siluF
  rw [mulf_apply, hs]
  exact congrArg (fun z => _ * Ideal.logistic z) hs

/-- Every entry of the result: the sum over the devices, times its logistic. -/
theorem outAll_apply (a : Fin 8192) (b : Fin 4096) :
    outAll m ρ (ix2 a b) = (∑ c : Dev nD, part m c a b) * Ideal.logistic (∑ c : Dev nD, part m c a b) := by
  obtain ⟨r, j, y, hy⟩ := out_place (ix2 a b)
  rw [← hy, outAll_zero]
  refine (congrArg _ (eq_ix2 (n0 := 512) (n1 := 1024) y)).trans ((finV_apply m ρ r _ (y 0) (y 1)).trans ?_)
  have ha : rowOf (toD r (back r j.val 0)) (y 0) = a := by
    have h := congrArg (fun i : S8192x4096.Idx => (i 0).val) hy
    change outOff r 0 j 0 + 1 * (y 0).val = a.val at h
    apply Fin.ext
    show 512 * (toD r (back r j.val 0)).val + (y 0).val = a.val
    rw [toD_row]; rw [outOff_row] at h; omega
  have hb : colOf r (y 1) = b := by
    have h := congrArg (fun i : S8192x4096.Idx => (i 1).val) hy
    change outOff r 0 j 1 + 1 * (y 1).val = b.val at h
    apply Fin.ext
    show colN r + (y 1).val = b.val
    rw [outOff_col] at h; omega
  rw [ha, hb]

end Cert.KernelIdeal.Ring

end
-- ==== Proof.M.Blocks.lean ====
/- The sum over the devices is the product of the whole arrays, and the bound on it that the precondition gives. -/
module

public import proofs.«01_k».proof.Proof.M.Sum
public import proofs.«01_k».proof.Proof.Gen.Pre_within_KernelIdeal
public import Idealize.ShloMosaic.Lib.Layout
public import Idealize.ShloMosaic.Lib.ReduceAll
public import Idealize.ShloMosaic.Lib.StackMember

@[expose] public section

noncomputable section

namespace Cert.KernelIdeal.Ring

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The devices' blocks of the two arrays tile them. -/
theorem tiles_x : Layout.Tiles ⟨2, ![8192, 512]⟩ ⟨2, ![8192, 8192]⟩ 1 16 := by decide
/-- The rows of `w` are cut evenly over the sixteen devices. -/
theorem tiles_w : Layout.Tiles ⟨2, ![512, 4096]⟩ ⟨2, ![8192, 4096]⟩ 0 16 := by decide

/-- An entry of the product of the whole arrays. -/
def whole (X : FVec Ideal ⟨2, ![8192, 8192]⟩ .bf16) (W : FVec Ideal ⟨2, ![8192, 4096]⟩ .bf16) (a : Fin 8192) (b : Fin 4096) : EReal :=
  ∑ k : Fin 8192, X (ix2 a k) * W (ix2 k b)

/-- Where each device holds its block of the two arrays, its shares of an entry add up to the entry. -/
theorem sum_part (X : FVec Ideal ⟨2, ![8192, 8192]⟩ .bf16) (W : FVec Ideal ⟨2, ![8192, 4096]⟩ .bf16)
    (hx : ∀ c : Dev nD, m ((c : Thread nD τ).loc main_arg0) = Layout.block ⟨2, ![8192, 512]⟩ ⟨2, ![8192, 8192]⟩ 1 16 c X tiles_x)
    (hw : ∀ c : Dev nD, m ((c : Thread nD τ).loc main_arg1) = Layout.block ⟨2, ![512, 4096]⟩ ⟨2, ![8192, 4096]⟩ 0 16 c W tiles_w)
    (a : Fin 8192) (b : Fin 4096) : ∑ c : Dev nD, part m c a b = whole X W a b := by
  have e : ∀ (c : Fin 16) (k : Fin 512), xArg m c (ix2 a k) * wArg m c (ix2 k b)
      = (fun K : Fin (16 * 512) => X (ix2 a K) * W (ix2 K b)) (finProdFinEquiv (c, k)) := by
    intro c k
    have h1 : xArg m c (ix2 a k) = X (ix2 a (finProdFinEquiv (c, k) : Fin (16 * 512))) := by
      refine (congrFun (hx c) (ix2 a k)).trans ((Layout.block_apply _ _ _ _).trans (congrArg X ?_))
      funext x; apply Fin.ext
      fin_cases x
      · rfl
      · show c.val * 512 + k.val = k.val + 512 * c.val; omega
    have h2 : wArg m c (ix2 k b) = W (ix2 (finProdFinEquiv (c, k) : Fin (16 * 512)) b) := by
      refine (congrFun (hw c) (ix2 k b)).trans ((Layout.block_apply _ _ _ _).trans (congrArg W ?_))
      funext x; apply Fin.ext
      fin_cases x
      · show c.val * 512 + k.val = k.val + 512 * c.val; omega
      · rfl
    show _ = X _ * W _
    rw [h1, h2]
  show ∑ c : Fin 16, ∑ k : Fin 512, xArg m c (ix2 a k) * wArg m c (ix2 k b) = ∑ K : Fin (16 * 512), X (ix2 a K) * W (ix2 K b)
  rw [← Equiv.sum_comp finProdFinEquiv, Fintype.sum_prod_type]
  exact Finset.sum_congr rfl fun c _ => Finset.sum_congr rfl fun k _ => e c k

/-! ## The bound -/

/-- The precondition's bound is 3.75. -/
theorem ofBits_bound : Ideal.ofBits .f32 0x40700000#32 = ((3.75 : ℝ) : EReal) := by
  simp [Ideal.ofBits, Ideal.ieee, -EReal.coe_mul]; norm_num
/-- The clip's upper bound is 60. -/
theorem ofBits_sixty : Ideal.ofBits .f32 0x42700000#32 = ((60 : ℝ) : EReal) := by
  simp [Ideal.ofBits, Ideal.ieee, -EReal.coe_mul]; norm_num
/-- The clip's lower bound is -60. -/
theorem ofBits_neg_sixty : Ideal.ofBits .f32 0xC2700000#32 = ((-60 : ℝ) : EReal) := by
  simp [Ideal.ofBits, Ideal.ieee, -EReal.coe_mul, -EReal.coe_neg]; norm_num

/-- The precondition at a device bounds its share of every entry. -/
theorem part_bound (c : Dev nD)
    (h : Cert.Pre_within_KernelIdeal.fn (F := Ideal) (m ((c : Thread nD τ).loc main_arg0)) (m ((c : Thread nD τ).loc main_arg1)) = fun _ => 1#1)
    (a : Fin 8192) (b : Fin 4096) : part m c a b ≤ ((3.75 : ℝ) : EReal) ∧ ((-3.75 : ℝ) : EReal) ≤ part m c a b := by
  haveI : Subsingleton Cert.Pre_within_KernelIdeal.S_.Idx := ⟨fun i j => funext fun k => k.elim0⟩
  have h1 := Host.reduce_andi_all _ _ _ _ ix0 (congrFun h ix0) (ix2 a b)
  have h2 : max (part m c a b) (-(part m c a b)) ≤ Ideal.ofBits .f32 0x40700000#32 := by
    rw [cmpf_apply] at h1
    have hd : Host.dotGeneral (F := Ideal) Cert.Pre_within_KernelIdeal.dot_S8192x512_S512x4096_S8192x4096_1_0_0_1_n_n none
        (extf .f32 (m ((c : Thread nD τ).loc main_arg0) : FVec Ideal S8192x512 .bf16) Cert.Pre_within_KernelIdeal.Facts.bitsLt_bf16_f32)
        (extf .f32 (m ((c : Thread nD τ).loc main_arg1) : FVec Ideal S512x4096 .bf16) Cert.Pre_within_KernelIdeal.Facts.bitsLt_bf16_f32) (ix2 a b) = part m c a b :=
      StackMember.dotGeneral_plain_apply none _ _ a b
    have h3 : BitVec.ofBool (decide (max (part m c a b) (-(part m c a b)) ≤ Ideal.ofBits .f32 0x40700000#32)) = 1#1 := by
      rw [← hd]; exact h1
    by_contra hn
    rw [decide_eq_false hn] at h3
    exact absurd h3 (by decide)
  rw [ofBits_bound] at h2
  refine ⟨(le_max_left _ _).trans h2, ?_⟩
  have h4 := EReal.neg_le_neg_iff.2 ((le_max_right _ _).trans h2)
  rw [neg_neg] at h4
  exact h4

/-- So the whole sum lies between minus sixty and sixty. -/
theorem sum_bound (h : ∀ c : Dev nD, Cert.Pre_within_KernelIdeal.fn (F := Ideal) (m ((c : Thread nD τ).loc main_arg0)) (m ((c : Thread nD τ).loc main_arg1)) = fun _ => 1#1)
    (a : Fin 8192) (b : Fin 4096) :
    ∑ c : Dev nD, part m c a b ≤ ((60 : ℝ) : EReal) ∧ ((-60 : ℝ) : EReal) ≤ ∑ c : Dev nD, part m c a b := by
  have hc : ∀ x : ℝ, ∑ _c : Dev nD, ((x : ℝ) : EReal) = ((16 * x : ℝ) : EReal) := by
    intro x
    rw [Finset.sum_const, ← EReal.coe_nsmul]
    show (((16 : ℕ) • x : ℝ) : EReal) = _
    rw [nsmul_eq_mul]; norm_num
  constructor
  · refine (Finset.sum_le_sum fun c _ => (part_bound m c (h c) a b).1).trans ?_
    rw [hc]; exact EReal.coe_le_coe_iff.2 (by norm_num)
  · refine LE.le.trans ?_ (Finset.sum_le_sum fun c _ => (part_bound m c (h c) a b).2)
    rw [hc]; exact EReal.coe_le_coe_iff.2 (by norm_num)

end Cert.KernelIdeal.Ring

end
-- ==== Proof.R.Clip.lean ====
/- The run of the whole-array reference that clips. -/
module

public import proofs.«01_k».proof.Proof.Gen.ReferenceIdeal
public import Idealize.ShloMosaic.Lib.StableHlo.Run
public import Idealize.ShloMosaic.Lib.Quiescent

@[expose] public section

noncomputable section

namespace Cert.ReferenceIdeal.Clip

open Idealize.ShloMosaic Idealize.ShloMosaic.TcCoe Idealize.ShloMosaic.StableHlo Idealize.SL.Sem
open Cert.ReferenceIdeal Cert.ReferenceIdeal.Gen

variable {F : FTy → Type} [FloatOps F]

/-- One number at every place. -/
def allW (b : BitVec 32) : FVec F S8192x4096 .f32 := broadcastInDim S8192x4096 ![] bcast_S_S8192x4096 (constant S_ .f32 b)
/-- The product of the two arrays in single precision. -/
def prodW (x : FVec F S8192x8192 .bf16) (w : FVec F S8192x4096 .bf16) : FVec F S8192x4096 .f32 :=
  Host.dotGeneral dot_S8192x8192_S8192x4096_S8192x4096_1_0_0_1_n_n none (extf .f32 x bitsLt_bf16_f32) (extf .f32 w bitsLt_bf16_f32)
/-- A value held between minus sixty and sixty. -/
def clipW (y : FVec F S8192x4096 .f32) : FVec F S8192x4096 .f32 :=
  minimumf (allW 0x42700000#32) (maximumf (allW 0xC2700000#32) y)
/-- The product over one plus the exponential of its clipped negative, rounded. -/
def outW (x : FVec F S8192x8192 .bf16) (w : FVec F S8192x4096 .bf16) : FVec F S8192x4096 .bf16 :=
  truncf .bf16 (Host.divf (prodW x w) (addf (allW 0x3F800000#32) (Host.exp (Host.negf (clipW (prodW x w)))))) bitsLt_bf16_f32

/-- The operations in order. -/
abbrev ops : List (HloOp τ sig (Elt F)) :=
  [ unary main_arg0 main_v0 (extf .f32 · bitsLt_bf16_f32),
    unary main_arg1 main_v1 (extf .f32 · bitsLt_bf16_f32),
    binary main_v0 main_v1 main_v2 (fun l r => Host.dotGeneral dot_S8192x8192_S8192x4096_S8192x4096_1_0_0_1_n_n none l r),
    nullary main_cst (constant S_ .f32 0xC2700000#32),
    nullary main_cst_0 (constant S_ .f32 0x42700000#32),
    unary main_cst main_call0_v0 id,
    unary main_call0_v0 main_call0_v1 (broadcastInDim S8192x4096 ![] bcast_S_S8192x4096),
    binary main_call0_v1 main_v2 main_call0_v2 maximumf,
    unary main_cst_0 main_call0_v3 id,
    unary main_call0_v3 main_call0_v4 (broadcastInDim S8192x4096 ![] bcast_S_S8192x4096),
    binary main_call0_v4 main_call0_v2 main_v3 minimumf,
    unary main_v3 main_v4 Host.negf,
    unary main_v4 main_v5 Host.exp,
    nullary main_cst_1 (constant S_ .f32 0x3F800000#32),
    unary main_cst_1 main_v6 (broadcastInDim S8192x4096 ![] bcast_S_S8192x4096),
    binary main_v6 main_v5 main_v7 addf,
    binary main_v2 main_v7 main_v8 Host.divf,
    unary main_v8 main_v9 (truncf .bf16 · bitsLt_bf16_f32) ]

/-- The program is that straight line. -/
theorem main_eq (c : Dev nD) : main (F := F) c = seq ops := rfl

/-- What the result's buffer ends at. -/
theorem out_eq (V : Valuation τ sig (Elt F)) : after ops V (main_v9 : DevRef τ sig)
    = outW (V (main_arg0 : DevRef τ sig)) (V (main_arg1 : DevRef τ sig)) := by
  after_results
  rfl

/-- The first argument is not written. -/
theorem arg0_eq (V : Valuation τ sig (Elt F)) : after ops V (main_arg0 : DevRef τ sig) = V (main_arg0 : DevRef τ sig) := by
  after_results

/-- Nor is the second. -/
theorem arg1_eq (V : Valuation τ sig (Elt F)) : after ops V (main_arg1 : DevRef τ sig) = V (main_arg1 : DevRef τ sig) := by
  after_results

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., nullary_bufs_sub .., unary_bufs_sub .., binary_bufs_sub .., binary_bufs_sub .., unary_bufs_sub ..⟩

/-- Every run ends, with the result a function of the arguments, the arguments as they were and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v9)
          = outW (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v9).trans (out_eq _), (h c main_arg0).trans (arg0_eq _),
      (h c main_arg1).trans (arg1_eq _)⟩, sem_eq_zero_of_no_sems (by decide) r.2⟩)
    (run_seq scopedRefs_eq scopedSems_eq defs main (fun _ => ops) main_eq (fun _ => ops_sub) m ρ)

end Cert.ReferenceIdeal.Clip

end
-- ==== Proof.R.Whole.lean ====
/- The run of the whole-array reference that does not clip. -/
module

public import proofs.«01_k».proof.Proof.Gen.UnclippedIdeal
public import Idealize.ShloMosaic.Lib.StableHlo.Run
public import Idealize.ShloMosaic.Lib.Quiescent

@[expose] public section

noncomputable section

namespace Cert.UnclippedIdeal.Whole

open Idealize.ShloMosaic Idealize.ShloMosaic.TcCoe Idealize.ShloMosaic.StableHlo Idealize.SL.Sem
open Cert.UnclippedIdeal Cert.UnclippedIdeal.Gen

variable {F : FTy → Type} [FloatOps F]

/-- One at every place. -/
def ones : FVec F S8192x4096 .f32 := broadcastInDim S8192x4096 ![] bcast_S_S8192x4096 (constant S_ .f32 0x3F800000#32)
/-- The product of the two arrays in single precision. -/
def prodW (x : FVec F S8192x8192 .bf16) (w : FVec F S8192x4096 .bf16) : FVec F S8192x4096 .f32 :=
  Host.dotGeneral dot_S8192x8192_S8192x4096_S8192x4096_1_0_0_1_n_n none (extf .f32 x bitsLt_bf16_f32) (extf .f32 w bitsLt_bf16_f32)
/-- The product times its logistic, rounded. -/
def outW (x : FVec F S8192x8192 .bf16) (w : FVec F S8192x4096 .bf16) : FVec F S8192x4096 .bf16 :=
  truncf .bf16 (mulf (prodW x w) (Host.divf ones (addf ones (Host.exp (Host.negf (prodW x w)))))) bitsLt_bf16_f32

/-- The operations in order. -/
abbrev ops : List (HloOp τ sig (Elt F)) :=
  [ unary main_arg0 main_v0 (extf .f32 · bitsLt_bf16_f32),
    unary main_arg1 main_v1 (extf .f32 · bitsLt_bf16_f32),
    binary main_v0 main_v1 main_v2 (fun l r => Host.dotGeneral dot_S8192x8192_S8192x4096_S8192x4096_1_0_0_1_n_n none l r),
    unary main_v2 main_v3 Host.negf,
    unary main_v3 main_v4 Host.exp,
    nullary main_cst (constant S_ .f32 0x3F800000#32),
    unary main_cst main_v5 (broadcastInDim S8192x4096 ![] bcast_S_S8192x4096),
    binary main_v5 main_v4 main_v6 addf,
    nullary main_cst_0 (constant S_ .f32 0x3F800000#32),
    unary main_cst_0 main_v7 (broadcastInDim S8192x4096 ![] bcast_S_S8192x4096),
    binary main_v7 main_v6 main_v8 Host.divf,
    binary main_v2 main_v8 main_v9 mulf,
    unary main_v9 main_v10 (truncf .bf16 · bitsLt_bf16_f32) ]

/-- The program is that straight line. -/
theorem main_eq (c : Dev nD) : main (F := F) c = seq ops := rfl

/-- What the result's buffer ends at. -/
theorem out_eq (V : Valuation τ sig (Elt F)) : after ops V (main_v10 : DevRef τ sig)
    = outW (V (main_arg0 : DevRef τ sig)) (V (main_arg1 : DevRef τ sig)) := by
  after_results
  rfl

/-- The first argument is not written. -/
theorem arg0_eq (V : Valuation τ sig (Elt F)) : after ops V (main_arg0 : DevRef τ sig) = V (main_arg0 : DevRef τ sig) := by
  after_results

/-- Nor is the second. -/
theorem arg1_eq (V : Valuation τ sig (Elt F)) : after ops V (main_arg1 : DevRef τ sig) = V (main_arg1 : DevRef τ sig) := by
  after_results

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    unary_bufs_sub ..⟩

/-- Every run ends, with the result a function of the arguments, the arguments as they were and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v10)
          = outW (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v10).trans (out_eq _), (h c main_arg0).trans (arg0_eq _),
      (h c main_arg1).trans (arg1_eq _)⟩, sem_eq_zero_of_no_sems (by decide) r.2⟩)
    (run_seq scopedRefs_eq scopedSems_eq defs main (fun _ => ops) main_eq (fun _ => ops_sub) m ρ)

end Cert.UnclippedIdeal.Whole

end
-- ==== Proof.M.Agree.lean ====
/- The two references' results over the ideal numbers, and that the devices end with them. -/
module

public import proofs.«01_k».proof.Proof.M.Blocks
public import proofs.«01_k».proof.Proof.R.Clip
public import proofs.«01_k».proof.Proof.R.Whole

@[expose] public section

noncomputable section

namespace Cert.KernelIdeal.Ring

open Idealize.ShloMosaic Idealize.ShloMosaic.TcCoe Idealize.ShloMosaic.ValueIdx
open Idealize.SL.Sem
open Cert.KernelIdeal Cert.KernelIdeal.Gen

variable (X : FVec Ideal ⟨2, ![8192, 8192]⟩ .bf16) (W : FVec Ideal ⟨2, ![8192, 4096]⟩ .bf16)

/-- The exponential is nowhere negative. -/
theorem exp_nonneg (x : EReal) : 0 ≤ Ideal.exp x := by
  induction x with
  | bot => exact le_refl _
  | coe x => exact EReal.coe_nonneg.2 (Real.exp_pos x).le
  | top => exact le_top

/-- One plus an exponential is not zero. -/
theorem one_add_exp_ne (x : EReal) : 1 + Ideal.exp x ≠ 0 := by
  have h1 : (1 : EReal) ≤ 1 + Ideal.exp x := le_add_of_nonneg_right (exp_nonneg x)
  intro e; rw [e] at h1; exact absurd h1 (by simp)

/-- The product in the unclipped reference is the whole product. -/
theorem whole_prodW (a : Fin 8192) (b : Fin 4096) : Cert.UnclippedIdeal.Whole.prodW X W (ix2 a b) = whole X W a b :=
  StackMember.dotGeneral_plain_apply none _ _ a b
/-- The product in the reference is the whole product. -/
theorem clip_prodW (a : Fin 8192) (b : Fin 4096) : Cert.ReferenceIdeal.Clip.prodW X W (ix2 a b) = whole X W a b :=
  StackMember.dotGeneral_plain_apply none _ _ a b

/-- A host exponential of a negative, at an index. -/
theorem exp_neg_apply {s : Shape} (y : FVec Ideal s .f32) (i : s.Idx) : Host.exp (Host.negf y) i = Ideal.exp (-(y i)) := rfl

/-- One number at every place, at a place. -/
theorem ones_apply (a : Fin 8192) (b : Fin 4096) : Cert.UnclippedIdeal.Whole.ones (F := Ideal) (ix2 a b) = 1 := by
  unfold Cert.UnclippedIdeal.Whole.ones
  rw [broadcastInDim_scalar_apply, constant_apply, Ideal.ofBits_one_f32]
/-- A constant array holds the constant everywhere. -/
theorem allW_apply (w : BitVec 32) (a : Fin 8192) (b : Fin 4096) :
    Cert.ReferenceIdeal.Clip.allW (F := Ideal) w (ix2 a b) = Ideal.ofBits .f32 w := by
  unfold Cert.ReferenceIdeal.Clip.allW
  rw [broadcastInDim_scalar_apply, constant_apply]

/-- The reference that does not clip, at an entry. -/
theorem outW_whole (a : Fin 8192) (b : Fin 4096) :
    Cert.UnclippedIdeal.Whole.outW X W (ix2 a b) = whole X W a b * Ideal.logistic (whole X W a b) := by
  unfold Cert.UnclippedIdeal.Whole.outW
  rw [truncf_apply, mulf_apply, hostDivf_apply, addf_apply, exp_neg_apply, ones_apply, whole_prodW]
  unfold Ideal.logistic
  rfl

/-- The reference that clips, at an entry the clip leaves alone. -/
theorem outW_clip (a : Fin 8192) (b : Fin 4096) (hu : whole X W a b ≤ ((60 : ℝ) : EReal)) (hl : ((-60 : ℝ) : EReal) ≤ whole X W a b) :
    Cert.ReferenceIdeal.Clip.outW X W (ix2 a b) = whole X W a b * Ideal.logistic (whole X W a b) := by
  unfold Cert.ReferenceIdeal.Clip.outW Cert.ReferenceIdeal.Clip.clipW
  rw [truncf_apply, hostDivf_apply, addf_apply, exp_neg_apply, minimumf_apply, maximumf_apply, allW_apply, allW_apply, allW_apply,
    clip_prodW, Ideal.ofBits_one_f32, ofBits_sixty, ofBits_neg_sixty, max_eq_right hl, min_eq_right hu,
    ← Ideal.mul_one_div (one_add_exp_ne _)]
  unfold Ideal.logistic
  rfl

/-- Two results that agree at every row and column are one. -/
theorem ext_rows {α : Type} (f g : S8192x4096.Idx → α) (h : ∀ (a : Fin 8192) (b : Fin 4096), f (ix2 a b) = g (ix2 a b)) : f = g := by
  funext i
  obtain ⟨a, b, rfl⟩ : ∃ (a : Fin 8192) (b : Fin 4096), i = ix2 a b := ⟨_, _, eq_ix2 i⟩
  exact h a b

variable (m : (ℓ : Loc nD τ sig) → Buf (Elt Ideal) ℓ) (ρ : Dev nD → PrngReg)
  (hm : ∀ c : Dev nD, m ((c : Thread nD τ).loc main_arg0) = Layout.block ⟨2, ![8192, 512]⟩ ⟨2, ![8192, 8192]⟩ 1 16 c X tiles_x
    ∧ m ((c : Thread nD τ).loc main_arg1) = Layout.block ⟨2, ![512, 4096]⟩ ⟨2, ![8192, 4096]⟩ 0 16 c W tiles_w)

include hm in
/-- The devices end with what the reference that does not clip gives, whatever the arguments. -/
theorem outAll_whole : outAll m ρ = Cert.UnclippedIdeal.Whole.outW X W := by
  refine ext_rows _ _ fun a b => ?_
  rw [outAll_apply, sum_part m X W (fun c => (hm c).1) (fun c => (hm c).2) a b]
  exact (outW_whole X W a b).symm

include hm in
/-- Under the bound they end with what the reference that clips gives. -/
theorem outAll_clip (hp : ∀ c : Dev nD, Cert.Pre_within_KernelIdeal.fn (F := Ideal) (m ((c : Thread nD τ).loc main_arg0)) (m ((c : Thread nD τ).loc main_arg1)) = fun _ => 1#1) :
    outAll m ρ = Cert.ReferenceIdeal.Clip.outW X W := by
  refine ext_rows _ _ fun a b => ?_
  have hs := sum_part m X W (fun c => (hm c).1) (fun c => (hm c).2) a b
  have hb := sum_bound m hp a b
  rw [outAll_apply, hs]
  rw [hs] at hb
  exact (outW_clip X W a b hb.1 hb.2).symm

end Cert.KernelIdeal.Ring

end
-- ==== Proof.lean ====
module

public import proofs.«01_k».proof.Defs
public import proofs.«01_k».proof.Proof.R.Same
public import proofs.«01_k».proof.Proof.M.Agree
public import proofs.«01_k».proof.Proof.Gen.Pre_within_ReferenceIdeal

@[expose] public section

noncomputable section

namespace Cert.Proof

open Idealize.ShloMosaic Idealize.SL.Sem

/-- The kernel as it runs, on bits: it ends, its arguments unchanged, its counters at zero. -/
theorem frame_kernel : Cert.quiescent_Kernel := fun m g _ => Cert.Kernel.Same.run_main m g

/-- The same over the ideal numbers. -/
theorem frame_ideal : Cert.quiescent_KernelIdeal := fun m g _ =>
  (θ_run Cert.KernelIdeal.defs _ _).mono (fun _ h => ⟨fun c => ⟨(h.1 c).1, (h.1 c).2.1⟩, h.2⟩) (Cert.KernelIdeal.Ring.run_main (F := Ideal) m g)

/-- The reference that clips. -/
theorem frame_clip : Cert.quiescent_ReferenceIdeal := fun m g _ =>
  (θ_run Cert.ReferenceIdeal.defs _ _).mono (fun _ h => ⟨fun c => (h.1 c).2, h.2⟩) (Cert.ReferenceIdeal.Clip.run_main (F := Ideal) m g)

/-- The reference that does not. -/
theorem frame_whole : Cert.quiescent_UnclippedIdeal := fun m g _ =>
  (θ_run Cert.UnclippedIdeal.defs _ _).mono (fun _ h => ⟨fun c => (h.1 c).2, h.2⟩) (Cert.UnclippedIdeal.Whole.run_main (F := Ideal) m g)

/-- The kernel computes the reference that does not clip, whatever its arguments. -/
theorem agree_whole : Cert.algebraic_KernelIdeal_UnclippedIdeal := by
  intro m g m' g' _ hm
  refine ⟨Cert.UnclippedIdeal.Whole.outW (F := Ideal) (m' (((0 : Dev Cert.UnclippedIdeal.nD).tc : Thread Cert.UnclippedIdeal.nD Cert.UnclippedIdeal.τ).loc Cert.UnclippedIdeal.main_arg0))
    (m' (((0 : Dev Cert.UnclippedIdeal.nD).tc : Thread Cert.UnclippedIdeal.nD Cert.UnclippedIdeal.τ).loc Cert.UnclippedIdeal.main_arg1)), ?_, ?_⟩
  · exact (θ_run Cert.KernelIdeal.defs _ _).mono
      (fun _ h c => ⟨(h.1 c).2.2.trans (Cert.KernelIdeal.Ring.outAll_whole _ _ m g hm), (h.1 c).1, (h.1 c).2.1⟩)
      (Cert.KernelIdeal.Ring.run_main (F := Ideal) m g)
  · exact (θ_run Cert.UnclippedIdeal.defs _ _).mono (fun _ h => h.1 0) (Cert.UnclippedIdeal.Whole.run_main (F := Ideal) m' g')

/-- It computes the reference that clips, where no device's product passes the bound. -/
theorem agree_clip : Cert.algebraic_KernelIdeal_ReferenceIdeal_pre_within_KernelIdeal := by
  intro m g m' g' hp hm
  refine ⟨Cert.ReferenceIdeal.Clip.outW (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).2.2.trans (Cert.KernelIdeal.Ring.outAll_clip _ _ m g hm hp), (h.1 c).1, (h.1 c).2.1⟩)
      (Cert.KernelIdeal.Ring.run_main (F := Ideal) m g)
  · exact (θ_run Cert.ReferenceIdeal.defs _ _).mono (fun _ h => h.1 0) (Cert.ReferenceIdeal.Clip.run_main (F := Ideal) m' g')

/-- All the claims. -/
theorem claim : Cert.Claim :=
  ⟨Cert.Kernel.Gen.facts, Cert.KernelIdeal.Gen.facts, Cert.ReferenceIdeal.Gen.facts, Cert.UnclippedIdeal.Gen.facts,
    Cert.Pre_within_KernelIdeal.Gen.facts, Cert.Pre_within_ReferenceIdeal.Gen.facts,
    frame_kernel, frame_ideal, fun m g _ => frame_ideal m g trivial, frame_clip, fun m g _ => frame_clip m g trivial, frame_whole,
    trivial, agree_whole, agree_clip⟩

end Cert.Proof

end
